-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def Pre_Kernel12 [hPre_tables : Cert.Pre_tables.Facts] (m : (ℓ : Loc Cert.Kernel12.nD Cert.Kernel12.τ Cert.Kernel12.sig) → Buf (Elt Bits) ℓ) : Prop :=
  ∀ c : Dev Cert.Kernel12.nD,
    (Cert.Pre_tables.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_tables : Cert.Pre_tables.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_tables.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_tables [hPre_tables : Cert.Pre_tables.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_tables.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] [hPre_tables : Cert.Pre_tables.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_tables : Cert.Pre_tables.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_tables [hReference12Ideal : Cert.Reference12Ideal.Facts] [hPre_tables : Cert.Pre_tables.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_tables m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v6_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v45) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v25)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v25) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v28)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v28) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v57) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v35)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v35) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v46) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] [hPre_tables : Cert.Pre_tables.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v134) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_tables : Cert.Pre_tables.Facts) (hPre_finite10 : Cert.Pre_finite10.Facts) (hPre_finite11 : Cert.Pre_finite11.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12) (hPre_tables := hPre_tables)
    ∧ quiescent_Kernel12Ideal (hKernel12Ideal := hKernel12Ideal) (hPre_tables := hPre_tables)
    ∧ quiescent_Reference12Ideal (hReference12Ideal := hReference12Ideal)
    ∧ quiescent_Reference12Ideal_pre_tables (hReference12Ideal := hReference12Ideal) (hPre_tables := hPre_tables)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal) (hPre_tables := hPre_tables)
-- ==== Pre_finite10.lean ====
abbrev S16384x1024 : Shape := ⟨2, ![16384, 1024]⟩
abbrev S1024x288 : Shape := ⟨2, ![1024, 288]⟩
abbrev S256 : Shape := ⟨1, ![256]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x288 : S_.BroadcastsInDim S1024x288 (![] : Fin 0 → Fin S1024x288.rank)
  reducesTo_S1024x288_S_d0_1 : S1024x288.ReducesTo [0, 1] S_

variable [Facts]

def fn {F : FTy → Type} [FloatOps F] (main_arg0 : FVec F S16384x1024 .bf16) (main_arg1 : FVec F S1024x288 .f32) (main_arg2 : FVec F S256 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S1024x288 .f32 := Host.absf main_arg1
  let main_cst_0 : FVec F S_ .f32 := constant S_ .f32 0x7F800000#32
  let main_v6 : FVec F S1024x288 .f32 := broadcastInDim S1024x288 ![] bcast_S_S1024x288 main_cst_0
  let main_v7 : IVec S1024x288 1 := cmpf .olt main_v5 main_v6
  let main_c_1 : IVec S_ 1 := constantI S_ 1 1#1
  let main_v8 : IVec S_ 1 := (fun x v => Host.reduce IntOp.andi x v reducesTo_S1024x288_S_d0_1 h_S_) main_v7 main_c_1
  let main_v9 : IVec S_ 1 := andi main_v4 main_v8
  main_v9
-- ==== Pre_finite11.lean ====
abbrev S16384x384 : Shape := ⟨2, ![16384, 384]⟩
abbrev S384x1536 : Shape := ⟨2, ![384, 1536]⟩
abbrev S_ : Shape := ⟨0, ![]⟩

class Facts : Prop where
  bitsLt_bf16_f32 : FTy.bits .bf16 < FTy.bits .f32
  bcast_S_S16384x384 : S_.BroadcastsInDim S16384x384 (![] : Fin 0 → Fin S16384x384.rank)
  reducesTo_S16384x384_S_d0_1 : S16384x384.ReducesTo [0, 1] S_
  h_S_ : 0 < S_.numel
  bcast_S_S384x1536 : S_.BroadcastsInDim S384x1536 (![] : Fin 0 → Fin S384x1536.rank)
  reducesTo_S384x1536_S_d0_1 : S384x1536.ReducesTo [0, 1] S_

variable [Facts]

def fn {F : FTy → Type} [FloatOps F] (main_arg0 : FVec F S16384x384 .bf16) (main_arg1 : FVec F S384x1536 .f32) : IVec S_ 1 :=
  let main_v0 : FVec F S16384x384 .f32 := (extf .f32 · bitsLt_bf16_f32) main_arg0
  let main_v1 : FVec F S16384x384 .f32 := Host.absf main_v0
  let main_cst : FVec F S_ .f32 := constant S_ .f32 0x7F800000#32
  let main_v2 : FVec F S16384x384 .f32 := broadcastInDim S16384x384 ![] bcast_S_S16384x384 main_cst
  let main_v3 : IVec S16384x384 1 := cmpf .olt main_v1 main_v2
  let main_c : IVec S_ 1 := constantI S_ 1 1#1
  let main_v4 : IVec S_ 1 := (fun x v => Host.reduce IntOp.andi x v reducesTo_S16384x384_S_d0_1 h_S_) main_v3 main_c
  let main_v5 : FVec F S384x1536 .f32 := Host.absf main_arg1
  let main_cst_0 : FVec F S_ .f32 := constant S_ .f32 0x7F800000#32
  let main_v6 : FVec F S384x1536 .f32 := broadcastInDim S384x1536 ![] bcast_S_S384x1536 main_cst_0
  let main_v7 : IVec S384x1536 1 := cmpf .olt main_v5 main_v6
  let main_c_1 : IVec S_ 1 := constantI S_ 1 1#1
  let main_v8 : IVec S_ 1 := (fun x v => Host.reduce IntOp.andi x v reducesTo_S384x1536_S_d0_1 h_S_) main_v7 main_c_1
  let main_v9 : IVec S_ 1 := andi main_v4 main_v8
  main_v9
-- ==== Pre_tables.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S40 32) (main_arg1 : IVec S1 32) (main_arg2 : FVec F S40960x1024 .f32) (main_arg3 : FVec F S2x8x1024x3584 .f32) (main_arg4 : FVec F S2x8x1024x3584 .f32) (main_arg5 : FVec F S2x8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1x1x1024x256 : Shape := ⟨4, ![1, 1, 1024, 256]⟩
abbrev S1024x256 : Shape := ⟨2, ![1024, 256]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S40960x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S40x1 : Shape := ⟨2, ![40, 1]⟩
abbrev S40x1024 : Shape := ⟨2, ![40, 1024]⟩
abbrev S40960 : Shape := ⟨1, ![40960]⟩
abbrev S40960x1 : Shape := ⟨2, ![40960, 1]⟩
abbrev S8 : Shape := ⟨1, ![8]⟩
abbrev S1x8 : Shape := ⟨2, ![1, 8]⟩
abbrev S40960x8 : Shape := ⟨2, ![40960, 8]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S40960x3584 : Shape := ⟨2, ![40960, 3584]⟩

abbrev nBuf : Space → Nat
  | .hbm => 209
  | .vmem => 0
  | .smem => 0
  | _ => 0

abbrev hbmTy0_0 (i : Nat) : BufTy := match i % 128 with
  | 0 => ⟨S40, .i32⟩
  | 1 => ⟨S1, .i32⟩
  | 2 => ⟨S40960x1024, .f32⟩
  | 3 => ⟨S2x8x1024x3584, .f32⟩
  | 4 => ⟨S2x8x1024x3584, .f32⟩
  | 5 => ⟨S2x8x3584x1024, .f32⟩
  | 6 => ⟨S40, .i32⟩
  | 7 => ⟨S40, .i32⟩
  | 8 => ⟨S40, .i1⟩
  | 9 => ⟨S_, .i32⟩
  | 10 => ⟨S_, .i32⟩
  | 11 => ⟨S40, .i32⟩
  | 12 => ⟨S40, .i32⟩
  | 13 => ⟨S40x1, .i32⟩
  | 14 => ⟨S40x1024, .i32⟩
  | 15 => ⟨S40960, .i32⟩
  | 16 => ⟨S40960x1, .i32⟩
  | 17 => ⟨S8, .i32⟩
  | 18 => ⟨S1x8, .i32⟩
  | 19 => ⟨S40960x8, .i32⟩
  | 20 => ⟨S40960x8, .i32⟩
  | 21 => ⟨S40960x8, .i1⟩
  | 22 => ⟨S40960x8, .f32⟩
  | 23 => ⟨S_, .f32⟩
  | 24 => ⟨S40960x1024, .f32⟩
  | 25 => ⟨S40960x1, .f32⟩
  | 26 => ⟨S1x1x1024x3584, .f32⟩
  | 27 => ⟨S1024x3584, .f32⟩
  | 28 => ⟨S1x1x1024x3584, .f32⟩
  | 29 => ⟨S1024x3584, .f32⟩
  | 30 => ⟨S1x1x3584x1024, .f32⟩
  | 31 => ⟨S3584x1024, .f32⟩
  | 32 => ⟨S40960x3584, .f32⟩
  | 33 => ⟨S40960x3584, .f32⟩
  | 34 => ⟨S40960x3584, .f32⟩
  | 35 => ⟨S_, .f32⟩
  | 36 => ⟨S40960x3584, .f32⟩
  | 37 => ⟨S40960x3584, .f32⟩
  | 38 => ⟨S_, .f32⟩
  | 39 => ⟨S40960x3584, .f32⟩
  | 40 => ⟨S40960x3584, .f32⟩
  | 41 => ⟨S40960x3584, .f32⟩
  | 42 => ⟨S40960x3584, .f32⟩
  | 43 => ⟨S40960x3584, .f32⟩
  | 44 => ⟨S40960x1024, .f32⟩
  | 45 => ⟨S40960x1024, .f32⟩
  | 46 => ⟨S40960x1024, .f32⟩
  | 47 => ⟨S40960x1024, .f32⟩
  | 48 => ⟨S40960x1, .f32⟩
  | 49 => ⟨S1x1x1024x3584, .f32⟩
  | 50 => ⟨S1024x3584, .f32⟩
  | 51 => ⟨S1x1x1024x3584, .f32⟩
  | 52 => ⟨S1024x3584, .f32⟩
  | 53 => ⟨S1x1x3584x1024, .f32⟩
  | 54 => ⟨S3584x1024, .f32⟩
  | 55 => ⟨S40960x3584, .f32⟩
  | 56 => ⟨S40960x3584, .f32⟩
  | 57 => ⟨S40960x3584, .f32⟩
  | 58 => ⟨S_, .f32⟩
  | 59 => ⟨S40960x3584, .f32⟩
  | 60 => ⟨S40960x3584, .f32⟩
  | 61 => ⟨S_, .f32⟩
  | 62 => ⟨S40960x3584, .f32⟩
  | 63 => ⟨S40960x3584, .f32⟩
  | 64 => ⟨S40960x3584, .f32⟩
  | 65 => ⟨S40960x3584, .f32⟩
  | 66 => ⟨S40960x3584, .f32⟩
  | 67 => ⟨S40960x1024, .f32⟩
  | 68 => ⟨S40960x1024, .f32⟩
  | 69 => ⟨S40960x1024, .f32⟩
  | 70 => ⟨S40960x1024, .f32⟩
  | 71 => ⟨S40960x1, .f32⟩
  | 72 => ⟨S1x1x1024x3584, .f32⟩
  | 73 => ⟨S1024x3584, .f32⟩
  | 74 => ⟨S1x1x1024x3584, .f32⟩
  | 75 => ⟨S1024x3584, .f32⟩
  | 76 => ⟨S1x1x3584x1024, .f32⟩
  | 77 => ⟨S3584x1024, .f32⟩
  | 78 => ⟨S40960x3584, .f32⟩
  | 79 => ⟨S40960x3584, .f32⟩
  | 80 => ⟨S40960x3584, .f32⟩
  | 81 => ⟨S_, .f32⟩
  | 82 => ⟨S40960x3584, .f32⟩
  | 83 => ⟨S40960x3584, .f32⟩
  | 84 => ⟨S_, .f32⟩
  | 85 => ⟨S40960x3584, .f32⟩
  | 86 => ⟨S40960x3584, .f32⟩
  | 87 => ⟨S40960x3584, .f32⟩
  | 88 => ⟨S40960x3584, .f32⟩
  | 89 => ⟨S40960x3584, .f32⟩
  | 90 => ⟨S40960x1024, .f32⟩
  | 91 => ⟨S40960x1024, .f32⟩
  | 92 => ⟨S40960x1024, .f32⟩
  | 93 => ⟨S40960x1024, .f32⟩
  | 94 => ⟨S40960x1, .f32⟩
  | 95 => ⟨S1x1x1024x3584, .f32⟩
  | 96 => ⟨S1024x3584, .f32⟩
  | 97 => ⟨S1x1x1024x3584, .f32⟩
  | 98 => ⟨S1024x3584, .f32⟩
  | 99 => ⟨S1x1x3584x1024, .f32⟩
  | 100 => ⟨S3584x1024, .f32⟩
  | 101 => ⟨S40960x3584, .f32⟩
  | 102 => ⟨S40960x3584, .f32⟩
  | 103 => ⟨S40960x3584, .f32⟩
  | 104 => ⟨S_, .f32⟩
  | 105 => ⟨S40960x3584, .f32⟩
  | 106 => ⟨S40960x3584, .f32⟩
  | 107 => ⟨S_, .f32⟩
  | 108 => ⟨S40960x3584, .f32⟩
  | 109 => ⟨S40960x3584, .f32⟩
  | 110 => ⟨S40960x3584, .f32⟩
  | 111 => ⟨S40960x3584, .f32⟩
  | 112 => ⟨S40960x3584, .f32⟩
  | 113 => ⟨S40960x1024, .f32⟩
  | 114 => ⟨S40960x1024, .f32⟩
  | 115 => ⟨S40960x1024, .f32⟩
  | 116 => ⟨S40960x1024, .f32⟩
  | 117 => ⟨S40960x1, .f32⟩
  | 118 => ⟨S1x1x1024x3584, .f32⟩
  | 119 => ⟨S1024x3584, .f32⟩
  | 120 => ⟨S1x1x1024x3584, .f32⟩
  | 121 => ⟨S1024x3584, .f32⟩
  | 122 => ⟨S1x1x3584x1024, .f32⟩
  | 123 => ⟨S3584x1024, .f32⟩
  | 124 => ⟨S40960x3584, .f32⟩
  | 125 => ⟨S40960x3584, .f32⟩
  | 126 => ⟨S40960x3584, .f32⟩
  | 127 => ⟨S_, .f32⟩
  | _ => ⟨S40, .i32⟩

abbrev hbmTy0_1 (i : Nat) : BufTy := match i % 128 with
  | 0 => ⟨S40960x3584, .f32⟩
  | 1 => ⟨S40960x3584, .f32⟩
  | 2 => ⟨S_, .f32⟩
  | 3 => ⟨S40960x3584, .f32⟩
  | 4 => ⟨S40960x3584, .f32⟩
  | 5 => ⟨S40960x3584, .f32⟩
  | 6 => ⟨S40960x3584, .f32⟩
  | 7 => ⟨S40960x3584, .f32⟩
  | 8 => ⟨S40960x1024, .f32⟩
  | 9 => ⟨S40960x1024, .f32⟩
  | 10 => ⟨S40960x1024, .f32⟩
  | 11 => ⟨S40960x1024, .f32⟩
  | 12 => ⟨S40960x1, .f32⟩
  | 13 => ⟨S1x1x1024x3584, .f32⟩
  | 14 => ⟨S1024x3584, .f32⟩
  | 15 => ⟨S1x1x1024x3584, .f32⟩
  | 16 => ⟨S1024x3584, .f32⟩
  | 17 => ⟨S1x1x3584x1024, .f32⟩
  | 18 => ⟨S3584x1024, .f32⟩
  | 19 => ⟨S40960x3584, .f32⟩
  | 20 => ⟨S40960x3584, .f32⟩
  | 21 => ⟨S40960x3584, .f32⟩
  | 22 => ⟨S_, .f32⟩
  | 23 => ⟨S40960x3584, .f32⟩
  | 24 => ⟨S40960x3584, .f32⟩
  | 25 => ⟨S_, .f32⟩
  | 26 => ⟨S40960x3584, .f32⟩
  | 27 => ⟨S40960x3584, .f32⟩
  | 28 => ⟨S40960x3584, .f32⟩
  | 29 => ⟨S40960x3584, .f32⟩
  | 30 => ⟨S40960x3584, .f32⟩
  | 31 => ⟨S40960x1024, .f32⟩
  | 32 => ⟨S40960x1024, .f32⟩
  | 33 => ⟨S40960x1024, .f32⟩
  | 34 => ⟨S40960x1024, .f32⟩
  | 35 => ⟨S40960x1, .f32⟩
  | 36 => ⟨S1x1x1024x3584, .f32⟩
  | 37 => ⟨S1024x3584, .f32⟩
  | 38 => ⟨S1x1x1024x3584, .f32⟩
  | 39 => ⟨S1024x3584, .f32⟩
  | 40 => ⟨S1x1x3584x1024, .f32⟩
  | 41 => ⟨S3584x1024, .f32⟩
  | 42 => ⟨S40960x3584, .f32⟩
  | 43 => ⟨S40960x3584, .f32⟩
  | 44 => ⟨S40960x3584, .f32⟩
  | 45 => ⟨S_, .f32⟩
  | 46 => ⟨S40960x3584, .f32⟩
  | 47 => ⟨S40960x3584, .f32⟩
  | 48 => ⟨S_, .f32⟩
  | 49 => ⟨S40960x3584, .f32⟩
  | 50 => ⟨S40960x3584, .f32⟩
  | 51 => ⟨S40960x3584, .f32⟩
  | 52 => ⟨S40960x3584, .f32⟩
  | 53 => ⟨S40960x3584, .f32⟩
  | 54 => ⟨S40960x1024, .f32⟩
  | 55 => ⟨S40960x1024, .f32⟩
  | 56 => ⟨S40960x1024, .f32⟩
  | 57 => ⟨S40960x1024, .f32⟩
  | 58 => ⟨S40960x1, .f32⟩
  | 59 => ⟨S1x1x1024x3584, .f32⟩
  | 60 => ⟨S1024x3584, .f32⟩
  | 61 => ⟨S1x1x1024x3584, .f32⟩
  | 62 => ⟨S1024x3584, .f32⟩
  | 63 => ⟨S1x1x3584x1024, .f32⟩
  | 64 => ⟨S3584x1024, .f32⟩
  | 65 => ⟨S40960x3584, .f32⟩
  | 66 => ⟨S40960x3584, .f32⟩
  | 67 => ⟨S40960x3584, .f32⟩
  | 68 => ⟨S_, .f32⟩
  | 69 => ⟨S40960x3584, .f32⟩
  | 70 => ⟨S40960x3584, .f32⟩
  | 71 => ⟨S_, .f32⟩
  | 72 => ⟨S40960x3584, .f32⟩
  | 73 => ⟨S40960x3584, .f32⟩
  | 74 => ⟨S40960x3584, .f32⟩
  | 75 => ⟨S40960x3584, .f32⟩
  | 76 => ⟨S40960x3584, .f32⟩
  | 77 => ⟨S40960x1024, .f32⟩
  | 78 => ⟨S40960x1024, .f32⟩
  | 79 => ⟨S40960x1024, .f32⟩
  | 80 => ⟨S40960x1024, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_call7_v0 : Ref sig .tc := ⟨.hbm, 171, rfl⟩
abbrev main_call7_v1 : Ref sig .tc := ⟨.hbm, 172, rfl⟩
abbrev main_call7_cst : Ref sig .tc := ⟨.hbm, 173, rfl⟩
abbrev main_call7_v2 : Ref sig .tc := ⟨.hbm, 174, rfl⟩
abbrev main_call7_v3 : Ref sig .tc := ⟨.hbm, 175, rfl⟩
abbrev main_call7_cst_0 : Ref sig .tc := ⟨.hbm, 176, rfl⟩
abbrev main_call7_v4 : Ref sig .tc := ⟨.hbm, 177, rfl⟩
abbrev main_call7_v5 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_call8_v0 : Ref sig .tc := ⟨.hbm, 194, rfl⟩
abbrev main_call8_v1 : Ref sig .tc := ⟨.hbm, 195, rfl⟩
abbrev main_call8_cst : Ref sig .tc := ⟨.hbm, 196, rfl⟩
abbrev main_call8_v2 : Ref sig .tc := ⟨.hbm, 197, rfl⟩
abbrev main_call8_v3 : Ref sig .tc := ⟨.hbm, 198, rfl⟩
abbrev main_call8_cst_0 : Ref sig .tc := ⟨.hbm, 199, rfl⟩
abbrev main_call8_v4 : Ref sig .tc := ⟨.hbm, 200, rfl⟩
abbrev main_call8_v5 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S16384x1024, .f32⟩
  | .hbm, ⟨19, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .bf16⟩
  | .local _ .vmem, ⟨18, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S_, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel3.lean ====
abbrev S16384x1024 : Shape := ⟨2, ![16384, 1024]⟩
abbrev S1024x1024 : Shape := ⟨2, ![1024, 1024]⟩
abbrev S16384x3072 : Shape := ⟨2, ![16384, 3072]⟩
abbrev S512x1024 : Shape := ⟨2, ![512, 1024]⟩
abbrev S512x3072 : Shape := ⟨2, ![512, 3072]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x3072, .bf16⟩
  | .local _ .vmem, ⟨6, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S1024x1024 : Shape := ⟨2, ![1024, 1024]⟩
abbrev S16384x3072 : Shape := ⟨2, ![16384, 3072]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x3072, .f32⟩
  | .hbm, ⟨8, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S1024x3072, .bf16⟩
  | .hbm, ⟨3, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S16384x1024, .f32⟩
  | .hbm, ⟨3, _⟩ => ⟨S16384x3072, .f32⟩
  | .hbm, ⟨4, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16384x1024 : Shape := ⟨2, ![16384, 1024]⟩
abbrev S1024x2048 : Shape := ⟨2, ![1024, 2048]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S1024x2048, .bf16⟩
  | .hbm, ⟨5, _⟩ => ⟨S1x1024, .f32⟩
  | .hbm, ⟨6, _⟩ => ⟨S1x1024, .f32⟩
  | .hbm, ⟨7, _⟩ => ⟨S16384x1024, .bf16⟩
  | .hbm, ⟨8, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .bf16⟩
  | .hbm, ⟨53, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S1024 : Shape := ⟨1, ![1024]⟩
abbrev S1024x128 : Shape := ⟨2, ![1024, 128]⟩
abbrev S1x1024 : Shape := ⟨2, ![1, 1024]⟩
abbrev S16384x128 : Shape := ⟨2, ![16384, 128]⟩
abbrev S1x128 : Shape := ⟨2, ![1, 128]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128 : Shape := ⟨1, ![128]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024x128, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x128, .f32⟩
  | .hbm, ⟨11, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x128, .bf16⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S16384x1024 : Shape := ⟨2, ![16384, 1024]⟩
abbrev S1024x1024 : Shape := ⟨2, ![1024, 1024]⟩
abbrev S1024 : Shape := ⟨1, ![1024]⟩
abbrev S1024x128 : Shape := ⟨2, ![1024, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024x128, .bf16⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel7.lean ====
abbrev S16384x1024 : Shape := ⟨2, ![16384, 1024]⟩
abbrev S1024x384 : Shape := ⟨2, ![1024, 384]⟩
abbrev S384 : Shape := ⟨1, ![384]⟩
abbrev S1x384 : Shape := ⟨2, ![1, 384]⟩
abbrev S16384x384 : Shape := ⟨2, ![16384, 384]⟩
abbrev S512x1024 : Shape := ⟨2, ![512, 1024]⟩
abbrev S512x384 : Shape := ⟨2, ![512, 384]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x384, .f32⟩
  | .hbm, ⟨2, _⟩ => ⟨S384, .f32⟩
  | .hbm, ⟨3, _⟩ => ⟨S1024x384, .bf16⟩
  | .hbm, ⟨4, _⟩ => ⟨S1x384, .f32⟩
  | .hbm, ⟨5, _⟩ => ⟨S16384x384, .bf16⟩
  | .local _ .vmem, ⟨0, _⟩ => ⟨S512x1024, .bf16⟩
  | .local _ .vmem, ⟨1, _⟩ => ⟨S512x1024, .bf16⟩
  | .local _ .vmem, ⟨2, _⟩ => ⟨S1024x384, .bf16⟩
  | .local _ .vmem, ⟨3, _⟩ => ⟨S1x384, .f32⟩
  | .local _ .vmem, ⟨4, _⟩ => ⟨S512x384, .bf16⟩
  | .local _ .vmem, ⟨5, _⟩ => ⟨S512x384, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x1024 : Shape := ⟨2, ![16384, 1024]⟩
abbrev S1024x384 : Shape := ⟨2, ![1024, 384]⟩
abbrev S384 : Shape := ⟨1, ![384]⟩
abbrev S16384x384 : Shape := ⟨2, ![16384, 384]⟩
abbrev S_ : Shape := ⟨0, ![]⟩
abbrev S16384 : Shape := ⟨1, ![16384]⟩
abbrev S16384x1 : Shape := ⟨2, ![16384, 1]⟩
abbrev S1x384 : Shape := ⟨2, ![1, 384]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x384, .f32⟩
  | .hbm, ⟨2, _⟩ => ⟨S384, .f32⟩
  | .hbm, ⟨3, _⟩ => ⟨S16384x1024, .f32⟩
  | .hbm, ⟨4, _⟩ => ⟨S16384x384, .f32⟩
  | .hbm, ⟨5, _⟩ => ⟨S16384x384, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x384, .f32⟩
  | .hbm, ⟨17, _⟩ => ⟨S16384x384, .f32⟩
  | .hbm, ⟨18, _⟩ => ⟨S1x384, .f32⟩
  | .hbm, ⟨19, _⟩ => ⟨S16384x384, .f32⟩
  | .hbm, ⟨20, _⟩ => ⟨S16384x384, .f32⟩
  | .hbm, ⟨21, _⟩ => ⟨S16384x384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S16384x1024 : Shape := ⟨2, ![16384, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x128 : Shape := ⟨2, ![1024, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S16384x128 : Shape := ⟨2, ![16384, 128]⟩
abbrev S1x128 : Shape := ⟨2, ![1, 128]⟩
abbrev S512x1024 : Shape := ⟨2, ![512, 1024]⟩
abbrev S512x128 : Shape := ⟨2, ![512, 128]⟩
abbrev S512x512 : Shape := ⟨2, ![512, 512]⟩
abbrev S128x128 : Shape := ⟨2, ![128, 128]⟩
abbrev S1x128x128 : Shape := ⟨3, ![1, 128, 128]⟩
abbrev S512 : Shape := ⟨1, ![512]⟩
abbrev S512x1 : Shape := ⟨2, ![512, 1]⟩
abbrev S128 : Shape := ⟨1, ![128]⟩

abbrev nBuf : Space → Nat
  | .hbm => 18
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x128x128, .f32⟩
  | .hbm, ⟨3, _⟩ => ⟨S8x128, .f32⟩
  | .hbm, ⟨4, _⟩ => ⟨S1024x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S1024x128, .bf16⟩
  | .hbm, ⟨9, _⟩ => ⟨S128x8, .f32⟩
  | .hbm, ⟨10, _⟩ => ⟨S128x8x128, .f32⟩
  | .hbm, ⟨11, _⟩ => ⟨S128x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S16384x1024, .f32⟩
  | .hbm, ⟨16, _⟩ => ⟨S16384x128, .f32⟩
  | .hbm, ⟨17, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S8x128x128, .f32⟩
  | .local _ .vmem, ⟨5, _⟩ => ⟨S128x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S1x128, .f32⟩
  | .local _ .vmem, ⟨17, _⟩ => ⟨S512x1024, .bf16⟩
  | .local _ .vmem, ⟨18, _⟩ => ⟨S1x128, .f32⟩
  | .local _ .vmem, ⟨19, _⟩ => ⟨S512x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S16384x1024 : Shape := ⟨2, ![16384, 1024]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S1024x128 : Shape := ⟨2, ![1024, 128]⟩
abbrev S128x128x8x128 : Shape := ⟨4, ![128, 128, 8, 128]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x128x128 : Shape := ⟨4, ![8, 128, 128, 128]⟩
abbrev S128x8 : Shape := ⟨2, ![128, 8]⟩
abbrev S1x128x8x1 : Shape := ⟨4, ![1, 128, 8, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x128x128, .f32⟩
  | .hbm, ⟨3, _⟩ => ⟨S8x128, .f32⟩
  | .hbm, ⟨4, _⟩ => ⟨S1024x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S1024x128, .bf16⟩
  | .hbm, ⟨9, _⟩ => ⟨S16384x1024, .f32⟩
  | .hbm, ⟨10, _⟩ => ⟨S128x128x8x128, .f32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S1x128, .i32⟩
  | .hbm, ⟨31, _⟩ => ⟨S128x1, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S1x128x128, .i1⟩
  | .hbm, ⟨36, _⟩ => ⟨S_, .f32⟩
  | .hbm, ⟨37, _⟩ => ⟨S_, .f32⟩
  | .hbm, ⟨38, _⟩ => ⟨S8x128x128, .i1⟩
  | .hbm, ⟨39, _⟩ => ⟨S8x128x128, .f32⟩
  | .hbm, ⟨40, _⟩ => ⟨S8x128x128, .f32⟩
  | .hbm, ⟨41, _⟩ => ⟨S8x128x128x128, .f32⟩
  | .hbm, ⟨42, _⟩ => ⟨S128x128x8x128, .f32⟩
  | .hbm, ⟨43, _⟩ => ⟨S128x8, .f32⟩
  | .hbm, ⟨44, _⟩ => ⟨S1x128x8x1, .f32⟩
  | .hbm, ⟨45, _⟩ => ⟨S128x128x8x128, .f32⟩
  | .hbm, ⟨46, _⟩ => ⟨S128x128x8x128, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_1 : Ref sig .tc := ⟨.hbm, 55, rfl⟩
abbrev main_v24 : Ref sig .tc := ⟨.hbm, 56, rfl⟩
abbrev main_v25 : Ref sig .tc := ⟨.hbm, 57, rfl⟩
abbrev main_cst_2 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_3 : Ref sig .tc := ⟨.hbm, 64, rfl⟩
abbrev main_v31 : Ref sig .tc := ⟨.hbm, 65, rfl⟩
abbrev main_v32 : Ref sig .tc := ⟨.hbm, 66, rfl⟩
abbrev main_cst_4 : Ref sig .tc := ⟨.hbm, 67, rfl⟩
abbrev main_v33 : Ref sig .tc := ⟨.hbm, 68, rfl⟩
abbrev main_v34 : Ref sig .tc := ⟨.hbm, 69, rfl⟩
abbrev main_cst_5 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩

abbrev nD : Nat := 1
abbrev τ : Topo := Topo.v7x

variable {F : FTy → Type} [FloatOps F]
-- ==== Kernel9.lean ====
abbrev S16384x384 : Shape := ⟨2, ![16384, 384]⟩
abbrev S256x2048 : Shape := ⟨2, ![256, 2048]⟩
abbrev S256x16x128 : Shape := ⟨3, ![256, 16, 128]⟩
abbrev S256x16x64 : Shape := ⟨3, ![256, 16, 64]⟩
abbrev S_ : Shape := ⟨0, ![]⟩
abbrev S32x32 : Shape := ⟨2, ![32, 32]⟩
abbrev S32x1x32 : Shape := ⟨3, ![32, 1, 32]⟩
abbrev S32x16x32 : Shape := ⟨3, ![32, 16, 32]⟩
abbrev S32x16x64 : Shape := ⟨3, ![32, 16, 64]⟩
abbrev S32x16x128 : Shape := ⟨3, ![32, 16, 128]⟩
abbrev S32x2048 : Shape := ⟨2, ![32, 2048]⟩
abbrev S256x1024 : Shape := ⟨2, ![256, 1024]⟩
abbrev S256x3072 : Shape := ⟨2, ![256, 3072]⟩
abbrev S32x1024 : Shape := ⟨2, ![32, 1024]⟩
abbrev S32x3072 : Shape := ⟨2, ![32, 3072]⟩
abbrev S96x3072 : Shape := ⟨2, ![96, 3072]⟩
abbrev S384x3072 : Shape := ⟨2, ![384, 3072]⟩
abbrev S16384x3072 : Shape := ⟨2, ![16384, 3072]⟩
abbrev S512x384 : Shape := ⟨2, ![512, 384]⟩
abbrev S512x3072 : Shape := ⟨2, ![512, 3072]⟩

abbrev nBuf : Space → Nat
  | .hbm => 34
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S256x2048, .f32⟩
  | .hbm, ⟨2, _⟩ => ⟨S256x16x128, .f32⟩
  | .hbm, ⟨3, _⟩ => ⟨S256x16x64, .f32⟩
  | .hbm, ⟨4, _⟩ => ⟨S_, .f32⟩
  | .hbm, ⟨5, _⟩ => ⟨S256x16x64, .f32⟩
  | .hbm, ⟨6, _⟩ => ⟨S256x16x128, .f32⟩
  | .hbm, ⟨7, _⟩ => ⟨S256x2048, .f32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S32x1x32, .f32⟩
  | .hbm, ⟨16, _⟩ => ⟨S32x16x32, .f32⟩
  | .hbm, ⟨17, _⟩ => ⟨S_, .f32⟩
  | .hbm, ⟨18, _⟩ => ⟨S32x16x64, .f32⟩
  | .hbm, ⟨19, _⟩ => ⟨S_, .f32⟩
  | .hbm, ⟨20, _⟩ => ⟨S32x16x32, .f32⟩
  | .hbm, ⟨21, _⟩ => ⟨S32x16x128, .f32⟩
  | .hbm, ⟨22, _⟩ => ⟨S32x2048, .f32⟩
  | .hbm, ⟨23, _⟩ => ⟨S256x16x64, .f32⟩
  | .hbm, ⟨24, _⟩ => ⟨S256x1024, .f32⟩
  | .hbm, ⟨25, _⟩ => ⟨S256x3072, .f32⟩
  | .hbm, ⟨26, _⟩ => ⟨S_, .f32⟩
  | .hbm, ⟨27, _⟩ => ⟨S32x1024, .f32⟩
  | .hbm, ⟨28, _⟩ => ⟨S32x3072, .f32⟩
  | .hbm, ⟨29, _⟩ => ⟨S_, .f32⟩
  | .hbm, ⟨30, _⟩ => ⟨S96x3072, .f32⟩
  | .hbm, ⟨31, _⟩ => ⟨S384x3072, .f32⟩
  | .hbm, ⟨32, _⟩ => ⟨S384x3072, .bf16⟩
  | .hbm, ⟨33, _⟩ => ⟨S16384x3072, .bf16⟩
  | .local _ .vmem, ⟨0, _⟩ => ⟨S512x384, .bf16⟩
  | .local _ .vmem, ⟨1, _⟩ => ⟨S512x384, .bf16⟩
  | .local _ .vmem, ⟨2, _⟩ => ⟨S384x3072, .bf16⟩
  | .local _ .vmem, ⟨3, _⟩ => ⟨S512x3072, .bf16⟩
  | .local _ .vmem, ⟨4, _⟩ => ⟨S512x3072, .bf16⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S16384x384 : Shape := ⟨2, ![16384, 384]⟩
abbrev S256x2048 : Shape := ⟨2, ![256, 2048]⟩
abbrev S16384x256 : Shape := ⟨2, ![16384, 256]⟩
abbrev S16384x32 : Shape := ⟨2, ![16384, 32]⟩
abbrev S16384x2048 : Shape := ⟨2, ![16384, 2048]⟩
abbrev S16384x16x128 : Shape := ⟨3, ![16384, 16, 128]⟩
abbrev S16384x16x64 : Shape := ⟨3, ![16384, 16, 64]⟩
abbrev S16384x1x32 : Shape := ⟨3, ![16384, 1, 32]⟩
abbrev S16384x16x32 : Shape := ⟨3, ![16384, 16, 32]⟩
abbrev S_ : Shape := ⟨0, ![]⟩
abbrev S16384x1024 : Shape := ⟨2, ![16384, 1024]⟩
abbrev S16384x3072 : Shape := ⟨2, ![16384, 3072]⟩

abbrev nBuf : Space → Nat
  | .hbm => 19
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S256x2048, .f32⟩
  | .hbm, ⟨2, _⟩ => ⟨S16384x256, .bf16⟩
  | .hbm, ⟨3, _⟩ => ⟨S16384x256, .f32⟩
  | .hbm, ⟨4, _⟩ => ⟨S16384x32, .bf16⟩
  | .hbm, ⟨5, _⟩ => ⟨S16384x32, .f32⟩
  | .hbm, ⟨6, _⟩ => ⟨S16384x2048, .f32⟩
  | .hbm, ⟨7, _⟩ => ⟨S16384x16x128, .f32⟩
  | .hbm, ⟨8, _⟩ => ⟨S16384x16x64, .f32⟩
  | .hbm, ⟨9, _⟩ => ⟨S16384x16x64, .f32⟩
  | .hbm, ⟨10, _⟩ => ⟨S16384x1x32, .f32⟩
  | .hbm, ⟨11, _⟩ => ⟨S16384x16x32, .f32⟩
  | .hbm, ⟨12, _⟩ => ⟨S_, .f32⟩
  | .hbm, ⟨13, _⟩ => ⟨S16384x16x32, .f32⟩
  | .hbm, ⟨14, _⟩ => ⟨S16384x16x128, .f32⟩
  | .hbm, ⟨15, _⟩ => ⟨S16384x2048, .f32⟩
  | .hbm, ⟨16, _⟩ => ⟨S16384x1024, .f32⟩
  | .hbm, ⟨17, _⟩ => ⟨S16384x3072, .f32⟩
  | .hbm, ⟨18, _⟩ => ⟨S16384x3072, .bf16⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel10.lean ====
abbrev S16384x1024 : Shape := ⟨2, ![16384, 1024]⟩
abbrev S1024x288 : Shape := ⟨2, ![1024, 288]⟩
abbrev S256 : Shape := ⟨1, ![256]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1024x16 : Shape := ⟨2, ![1024, 16]⟩
abbrev S1024x256 : Shape := ⟨2, ![1024, 256]⟩
abbrev S1024x96 : Shape := ⟨2, ![1024, 96]⟩
abbrev S1024x512 : Shape := ⟨2, ![1024, 512]⟩
abbrev S1x256 : Shape := ⟨2, ![1, 256]⟩
abbrev S16384x384 : Shape := ⟨2, ![16384, 384]⟩
abbrev S512x1024 : Shape := ⟨2, ![512, 1024]⟩
abbrev S512x128 : Shape := ⟨2, ![512, 128]⟩
abbrev S512x384 : Shape := ⟨2, ![512, 384]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 38
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x288, .f32⟩
  | .hbm, ⟨2, _⟩ => ⟨S256, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2048, .i32⟩
  | .hbm, ⟨12, _⟩ => ⟨S2048, .f32⟩
  | .hbm, ⟨13, _⟩ => ⟨S2048x1, .f32⟩
  | .hbm, ⟨14, _⟩ => ⟨S1x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S_, .f32⟩
  | .hbm, ⟨21, _⟩ => ⟨S2048x96, .f32⟩
  | .hbm, ⟨22, _⟩ => ⟨S2048x128, .f32⟩
  | .hbm, ⟨23, _⟩ => ⟨S_, .f32⟩
  | .hbm, ⟨24, _⟩ => ⟨S2048x96, .f32⟩
  | .hbm, ⟨25, _⟩ => ⟨S2048x128, .f32⟩
  | .hbm, ⟨26, _⟩ => ⟨S1024x16, .f32⟩
  | .hbm, ⟨27, _⟩ => ⟨S1024x16, .f32⟩
  | .hbm, ⟨28, _⟩ => ⟨S1024x256, .f32⟩
  | .hbm, ⟨29, _⟩ => ⟨S_, .f32⟩
  | .hbm, ⟨30, _⟩ => ⟨S1024x96, .f32⟩
  | .hbm, ⟨31, _⟩ => ⟨S1024x16, .f32⟩
  | .hbm, ⟨32, _⟩ => ⟨S_, .f32⟩
  | .hbm, ⟨33, _⟩ => ⟨S1024x96, .f32⟩
  | .hbm, ⟨34, _⟩ => ⟨S1024x512, .f32⟩
  | .hbm, ⟨35, _⟩ => ⟨S1024x512, .bf16⟩
  | .hbm, ⟨36, _⟩ => ⟨S1x256, .f32⟩
  | .hbm, ⟨37, _⟩ => ⟨S16384x384, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x384, .bf16⟩
  | .local _ .vmem, ⟨9, _⟩ => ⟨S512x384, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S16384x1024 : Shape := ⟨2, ![16384, 1024]⟩
abbrev S1024x288 : Shape := ⟨2, ![1024, 288]⟩
abbrev S256 : Shape := ⟨1, ![256]⟩
abbrev S8x2048x1024 : Shape := ⟨3, ![8, 2048, 1024]⟩
abbrev S8x2048x288 : Shape := ⟨3, ![8, 2048, 288]⟩
abbrev S8x2048x256 : Shape := ⟨3, ![8, 2048, 256]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩
abbrev S8x2048x32 : Shape := ⟨3, ![8, 2048, 32]⟩
abbrev S8x2048x1x32 : Shape := ⟨4, ![8, 2048, 1, 32]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x1x16 : Shape := ⟨4, ![8, 2048, 1, 16]⟩
abbrev S1x2048x1x16 : Shape := ⟨4, ![1, 2048, 1, 16]⟩
abbrev S8x2048x96 : Shape := ⟨3, ![8, 2048, 96]⟩
abbrev S8x2048x384 : Shape := ⟨3, ![8, 2048, 384]⟩
abbrev S16384x384 : Shape := ⟨2, ![16384, 384]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x288, .f32⟩
  | .hbm, ⟨2, _⟩ => ⟨S256, .f32⟩
  | .hbm, ⟨3, _⟩ => ⟨S16384x1024, .f32⟩
  | .hbm, ⟨4, _⟩ => ⟨S8x2048x1024, .f32⟩
  | .hbm, ⟨5, _⟩ => ⟨S8x2048x288, .f32⟩
  | .hbm, ⟨6, _⟩ => ⟨S8x2048x256, .f32⟩
  | .hbm, ⟨7, _⟩ => ⟨S8x2048x256, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x256, .f32⟩
  | .hbm, ⟨19, _⟩ => ⟨S8x2048x256, .f32⟩
  | .hbm, ⟨20, _⟩ => ⟨S1x1x256, .f32⟩
  | .hbm, ⟨21, _⟩ => ⟨S8x2048x256, .f32⟩
  | .hbm, ⟨22, _⟩ => ⟨S8x2048x256, .f32⟩
  | .hbm, ⟨23, _⟩ => ⟨S8x2048x32, .f32⟩
  | .hbm, ⟨24, _⟩ => ⟨S8x2048x1x32, .f32⟩
  | .hbm, ⟨25, _⟩ => ⟨S2048, .i32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S2048, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x1x16, .f32⟩
  | .hbm, ⟨42, _⟩ => ⟨S2048x16, .f32⟩
  | .hbm, ⟨43, _⟩ => ⟨S2048x1x16, .f32⟩
  | .hbm, ⟨44, _⟩ => ⟨S8x2048x1x16, .f32⟩
  | .hbm, ⟨45, _⟩ => ⟨S8x2048x1x16, .f32⟩
  | .hbm, ⟨46, _⟩ => ⟨S1x2048x1x16, .f32⟩
  | .hbm, ⟨47, _⟩ => ⟨S8x2048x1x16, .f32⟩
  | .hbm, ⟨48, _⟩ => ⟨S8x2048x1x16, .f32⟩
  | .hbm, ⟨49, _⟩ => ⟨S1x2048x1x16, .f32⟩
  | .hbm, ⟨50, _⟩ => ⟨S8x2048x1x16, .f32⟩
  | .hbm, ⟨51, _⟩ => ⟨S8x2048x1x16, .f32⟩
  | .hbm, ⟨52, _⟩ => ⟨S8x2048x1x16, .f32⟩
  | .hbm, ⟨53, _⟩ => ⟨S1x2048x1x16, .f32⟩
  | .hbm, ⟨54, _⟩ => ⟨S8x2048x1x16, .f32⟩
  | .hbm, ⟨55, _⟩ => ⟨S8x2048x1x16, .f32⟩
  | .hbm, ⟨56, _⟩ => ⟨S1x2048x1x16, .f32⟩
  | .hbm, ⟨57, _⟩ => ⟨S8x2048x1x16, .f32⟩
  | .hbm, ⟨58, _⟩ => ⟨S8x2048x1x16, .f32⟩
  | .hbm, ⟨59, _⟩ => ⟨S8x2048x1x16, .f32⟩
  | .hbm, ⟨60, _⟩ => ⟨S8x2048x1x32, .f32⟩
  | .hbm, ⟨61, _⟩ => ⟨S8x2048x32, .f32⟩
  | .hbm, ⟨62, _⟩ => ⟨S_, .f32⟩
  | .hbm, ⟨63, _⟩ => ⟨S8x2048x96, .f32⟩
  | .hbm, ⟨64, _⟩ => ⟨S8x2048x384, .f32⟩
  | .hbm, ⟨65, _⟩ => ⟨S16384x384, .f32⟩
  | .hbm, ⟨66, _⟩ => ⟨S16384x384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩

abbrev nD : Nat := 1
abbrev τ : Topo := Topo.v7x

variable {F : FTy → Type} [FloatOps F]
-- ==== Kernel11.lean ====
abbrev S16384x384 : Shape := ⟨2, ![16384, 384]⟩
abbrev S384x1536 : Shape := ⟨2, ![384, 1536]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S384x16x96 : Shape := ⟨3, ![384, 16, 96]⟩
abbrev S384x16x64 : Shape := ⟨3, ![384, 16, 64]⟩
abbrev S384x16x16 : Shape := ⟨3, ![384, 16, 16]⟩
abbrev S384x16x32 : Shape := ⟨3, ![384, 16, 32]⟩
abbrev S384x16x128 : Shape := ⟨3, ![384, 16, 128]⟩
abbrev S384x2048 : Shape := ⟨2, ![384, 2048]⟩
abbrev S16384x2048 : Shape := ⟨2, ![16384, 2048]⟩
abbrev S512x384 : Shape := ⟨2, ![512, 384]⟩
abbrev S512x128 : Shape := ⟨2, ![512, 128]⟩
abbrev S512x2048 : Shape := ⟨2, ![512, 2048]⟩

abbrev nBuf : Space → Nat
  | .hbm => 47
  | .vmem => 10
  | .smem => 0
  | _ => 0

abbrev bufTy : (tb : Table) → Fin (tcTables nBuf tb) → BufTy
  | .hbm, ⟨0, _⟩ => ⟨S16384x384, .bf16⟩
  | .hbm, ⟨1, _⟩ => ⟨S384x1536, .f32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S2048, .i32⟩
  | .hbm, ⟨11, _⟩ => ⟨S2048, .f32⟩
  | .hbm, ⟨12, _⟩ => ⟨S2048x1, .f32⟩
  | .hbm, ⟨13, _⟩ => ⟨S1x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S_, .f32⟩
  | .hbm, ⟨20, _⟩ => ⟨S2048x64, .f32⟩
  | .hbm, ⟨21, _⟩ => ⟨S_, .f32⟩
  | .hbm, ⟨22, _⟩ => ⟨S2048x32, .f32⟩
  | .hbm, ⟨23, _⟩ => ⟨S2048x128, .f32⟩
  | .hbm, ⟨24, _⟩ => ⟨S_, .f32⟩
  | .hbm, ⟨25, _⟩ => ⟨S2048x64, .f32⟩
  | .hbm, ⟨26, _⟩ => ⟨S_, .f32⟩
  | .hbm, ⟨27, _⟩ => ⟨S2048x32, .f32⟩
  | .hbm, ⟨28, _⟩ => ⟨S2048x128, .f32⟩
  | .hbm, ⟨29, _⟩ => ⟨S384x16x96, .f32⟩
  | .hbm, ⟨30, _⟩ => ⟨S384x16x64, .f32⟩
  | .hbm, ⟨31, _⟩ => ⟨S384x16x16, .f32⟩
  | .hbm, ⟨32, _⟩ => ⟨S384x16x16, .f32⟩
  | .hbm, ⟨33, _⟩ => ⟨S_, .f32⟩
  | .hbm, ⟨34, _⟩ => ⟨S384x16x32, .f32⟩
  | .hbm, ⟨35, _⟩ => ⟨S384x16x128, .f32⟩
  | .hbm, ⟨36, _⟩ => ⟨S384x2048, .f32⟩
  | .hbm, ⟨37, _⟩ => ⟨S_, .f32⟩
  | .hbm, ⟨38, _⟩ => ⟨S384x16x64, .f32⟩
  | .hbm, ⟨39, _⟩ => ⟨S384x16x16, .f32⟩
  | .hbm, ⟨40, _⟩ => ⟨S_, .f32⟩
  | .hbm, ⟨41, _⟩ => ⟨S384x16x32, .f32⟩
  | .hbm, ⟨42, _⟩ => ⟨S384x16x128, .f32⟩
  | .hbm, ⟨43, _⟩ => ⟨S384x2048, .f32⟩
  | .hbm, ⟨44, _⟩ => ⟨S384x2048, .bf16⟩
  | .hbm, ⟨45, _⟩ => ⟨S384x2048, .bf16⟩
  | .hbm, ⟨46, _⟩ => ⟨S16384x2048, .bf16⟩
  | .local _ .vmem, ⟨0, _⟩ => ⟨S512x384, .bf16⟩
  | .local _ .vmem, ⟨1, _⟩ => ⟨S512x384, .bf16⟩
  | .local _ .vmem, ⟨2, _⟩ => ⟨S384x2048, .bf16⟩
  | .local _ .vmem, ⟨3, _⟩ => ⟨S384x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S16384x384 : Shape := ⟨2, ![16384, 384]⟩
abbrev S384x1536 : Shape := ⟨2, ![384, 1536]⟩
abbrev S8x2048x384 : Shape := ⟨3, ![8, 2048, 384]⟩
abbrev S8x2048x1536 : Shape := ⟨3, ![8, 2048, 1536]⟩
abbrev S8x2048x16x96 : Shape := ⟨4, ![8, 2048, 16, 96]⟩
abbrev S8x2048x16x64 : Shape := ⟨4, ![8, 2048, 16, 64]⟩
abbrev S8x2048x16x32 : Shape := ⟨4, ![8, 2048, 16, 32]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x16x16 : Shape := ⟨4, ![8, 2048, 16, 16]⟩
abbrev S1x2048x1x16 : Shape := ⟨4, ![1, 2048, 1, 16]⟩
abbrev S8x2048x16x128 : Shape := ⟨4, ![8, 2048, 16, 128]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1536, .f32⟩
  | .hbm, ⟨2, _⟩ => ⟨S16384x384, .f32⟩
  | .hbm, ⟨3, _⟩ => ⟨S8x2048x384, .f32⟩
  | .hbm, ⟨4, _⟩ => ⟨S8x2048x1536, .f32⟩
  | .hbm, ⟨5, _⟩ => ⟨S8x2048x16x96, .f32⟩
  | .hbm, ⟨6, _⟩ => ⟨S8x2048x16x64, .f32⟩
  | .hbm, ⟨7, _⟩ => ⟨S8x2048x16x32, .f32⟩
  | .hbm, ⟨8, _⟩ => ⟨S2048, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x1x16, .f32⟩
  | .hbm, ⟨25, _⟩ => ⟨S2048x16, .f32⟩
  | .hbm, ⟨26, _⟩ => ⟨S2048x1x16, .f32⟩
  | .hbm, ⟨27, _⟩ => ⟨S8x2048x16x16, .f32⟩
  | .hbm, ⟨28, _⟩ => ⟨S8x2048x16x16, .f32⟩
  | .hbm, ⟨29, _⟩ => ⟨S1x2048x1x16, .f32⟩
  | .hbm, ⟨30, _⟩ => ⟨S8x2048x16x16, .f32⟩
  | .hbm, ⟨31, _⟩ => ⟨S8x2048x16x16, .f32⟩
  | .hbm, ⟨32, _⟩ => ⟨S1x2048x1x16, .f32⟩
  | .hbm, ⟨33, _⟩ => ⟨S8x2048x16x16, .f32⟩
  | .hbm, ⟨34, _⟩ => ⟨S8x2048x16x16, .f32⟩
  | .hbm, ⟨35, _⟩ => ⟨S8x2048x16x16, .f32⟩
  | .hbm, ⟨36, _⟩ => ⟨S1x2048x1x16, .f32⟩
  | .hbm, ⟨37, _⟩ => ⟨S8x2048x16x16, .f32⟩
  | .hbm, ⟨38, _⟩ => ⟨S8x2048x16x16, .f32⟩
  | .hbm, ⟨39, _⟩ => ⟨S1x2048x1x16, .f32⟩
  | .hbm, ⟨40, _⟩ => ⟨S8x2048x16x16, .f32⟩
  | .hbm, ⟨41, _⟩ => ⟨S8x2048x16x16, .f32⟩
  | .hbm, ⟨42, _⟩ => ⟨S8x2048x16x16, .f32⟩
  | .hbm, ⟨43, _⟩ => ⟨S8x2048x16x32, .f32⟩
  | .hbm, ⟨44, _⟩ => ⟨S8x2048x16x96, .f32⟩
  | .hbm, ⟨45, _⟩ => ⟨S_, .f32⟩
  | .hbm, ⟨46, _⟩ => ⟨S8x2048x16x96, .f32⟩
  | .hbm, ⟨47, _⟩ => ⟨S8x2048x16x96, .f32⟩
  | .hbm, ⟨48, _⟩ => ⟨S_, .f32⟩
  | .hbm, ⟨49, _⟩ => ⟨S8x2048x16x32, .f32⟩
  | .hbm, ⟨50, _⟩ => ⟨S8x2048x16x128, .f32⟩
  | .hbm, ⟨51, _⟩ => ⟨S16384x2048, .f32⟩
  | .hbm, ⟨52, _⟩ => ⟨S16384x2048, .bf16⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== Kernel12.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1x1x1024x256 : Shape := ⟨4, ![1, 1, 1024, 256]⟩
abbrev S1024x256 : Shape := ⟨2, ![1024, 256]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S40960x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference12Ideal.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S40x1 : Shape := ⟨2, ![40, 1]⟩
abbrev S40x1024 : Shape := ⟨2, ![40, 1024]⟩
abbrev S40960 : Shape := ⟨1, ![40960]⟩
abbrev S40960x1 : Shape := ⟨2, ![40960, 1]⟩
abbrev S8 : Shape := ⟨1, ![8]⟩
abbrev S1x8 : Shape := ⟨2, ![1, 8]⟩
abbrev S40960x8 : Shape := ⟨2, ![40960, 8]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S40960x3584 : Shape := ⟨2, ![40960, 3584]⟩

abbrev nBuf : Space → Nat
  | .hbm => 209
  | .vmem => 0
  | .smem => 0
  | _ => 0

abbrev hbmTy0_0 (i : Nat) : BufTy := match i % 128 with
  | 0 => ⟨S40, .i32⟩
  | 1 => ⟨S1, .i32⟩
  | 2 => ⟨S40960x1024, .f32⟩
  | 3 => ⟨S2x8x1024x3584, .f32⟩
  | 4 => ⟨S2x8x1024x3584, .f32⟩
  | 5 => ⟨S2x8x3584x1024, .f32⟩
  | 6 => ⟨S40, .i32⟩
  | 7 => ⟨S40, .i32⟩
  | 8 => ⟨S40, .i1⟩
  | 9 => ⟨S_, .i32⟩
  | 10 => ⟨S_, .i32⟩
  | 11 => ⟨S40, .i32⟩
  | 12 => ⟨S40, .i32⟩
  | 13 => ⟨S40x1, .i32⟩
  | 14 => ⟨S40x1024, .i32⟩
  | 15 => ⟨S40960, .i32⟩
  | 16 => ⟨S40960x1, .i32⟩
  | 17 => ⟨S8, .i32⟩
  | 18 => ⟨S1x8, .i32⟩
  | 19 => ⟨S40960x8, .i32⟩
  | 20 => ⟨S40960x8, .i32⟩
  | 21 => ⟨S40960x8, .i1⟩
  | 22 => ⟨S40960x8, .f32⟩
  | 23 => ⟨S_, .f32⟩
  | 24 => ⟨S40960x1024, .f32⟩
  | 25 => ⟨S40960x1, .f32⟩
  | 26 => ⟨S1x1x1024x3584, .f32⟩
  | 27 => ⟨S1024x3584, .f32⟩
  | 28 => ⟨S1x1x1024x3584, .f32⟩
  | 29 => ⟨S1024x3584, .f32⟩
  | 30 => ⟨S1x1x3584x1024, .f32⟩
  | 31 => ⟨S3584x1024, .f32⟩
  | 32 => ⟨S40960x3584, .f32⟩
  | 33 => ⟨S40960x3584, .f32⟩
  | 34 => ⟨S40960x3584, .f32⟩
  | 35 => ⟨S_, .f32⟩
  | 36 => ⟨S40960x3584, .f32⟩
  | 37 => ⟨S40960x3584, .f32⟩
  | 38 => ⟨S_, .f32⟩
  | 39 => ⟨S40960x3584, .f32⟩
  | 40 => ⟨S40960x3584, .f32⟩
  | 41 => ⟨S40960x3584, .f32⟩
  | 42 => ⟨S40960x3584, .f32⟩
  | 43 => ⟨S40960x3584, .f32⟩
  | 44 => ⟨S40960x1024, .f32⟩
  | 45 => ⟨S40960x1024, .f32⟩
  | 46 => ⟨S40960x1024, .f32⟩
  | 47 => ⟨S40960x1024, .f32⟩
  | 48 => ⟨S40960x1, .f32⟩
  | 49 => ⟨S1x1x1024x3584, .f32⟩
  | 50 => ⟨S1024x3584, .f32⟩
  | 51 => ⟨S1x1x1024x3584, .f32⟩
  | 52 => ⟨S1024x3584, .f32⟩
  | 53 => ⟨S1x1x3584x1024, .f32⟩
  | 54 => ⟨S3584x1024, .f32⟩
  | 55 => ⟨S40960x3584, .f32⟩
  | 56 => ⟨S40960x3584, .f32⟩
  | 57 => ⟨S40960x3584, .f32⟩
  | 58 => ⟨S_, .f32⟩
  | 59 => ⟨S40960x3584, .f32⟩
  | 60 => ⟨S40960x3584, .f32⟩
  | 61 => ⟨S_, .f32⟩
  | 62 => ⟨S40960x3584, .f32⟩
  | 63 => ⟨S40960x3584, .f32⟩
  | 64 => ⟨S40960x3584, .f32⟩
  | 65 => ⟨S40960x3584, .f32⟩
  | 66 => ⟨S40960x3584, .f32⟩
  | 67 => ⟨S40960x1024, .f32⟩
  | 68 => ⟨S40960x1024, .f32⟩
  | 69 => ⟨S40960x1024, .f32⟩
  | 70 => ⟨S40960x1024, .f32⟩
  | 71 => ⟨S40960x1, .f32⟩
  | 72 => ⟨S1x1x1024x3584, .f32⟩
  | 73 => ⟨S1024x3584, .f32⟩
  | 74 => ⟨S1x1x1024x3584, .f32⟩
  | 75 => ⟨S1024x3584, .f32⟩
  | 76 => ⟨S1x1x3584x1024, .f32⟩
  | 77 => ⟨S3584x1024, .f32⟩
  | 78 => ⟨S40960x3584, .f32⟩
  | 79 => ⟨S40960x3584, .f32⟩
  | 80 => ⟨S40960x3584, .f32⟩
  | 81 => ⟨S_, .f32⟩
  | 82 => ⟨S40960x3584, .f32⟩
  | 83 => ⟨S40960x3584, .f32⟩
  | 84 => ⟨S_, .f32⟩
  | 85 => ⟨S40960x3584, .f32⟩
  | 86 => ⟨S40960x3584, .f32⟩
  | 87 => ⟨S40960x3584, .f32⟩
  | 88 => ⟨S40960x3584, .f32⟩
  | 89 => ⟨S40960x3584, .f32⟩
  | 90 => ⟨S40960x1024, .f32⟩
  | 91 => ⟨S40960x1024, .f32⟩
  | 92 => ⟨S40960x1024, .f32⟩
  | 93 => ⟨S40960x1024, .f32⟩
  | 94 => ⟨S40960x1, .f32⟩
  | 95 => ⟨S1x1x1024x3584, .f32⟩
  | 96 => ⟨S1024x3584, .f32⟩
  | 97 => ⟨S1x1x1024x3584, .f32⟩
  | 98 => ⟨S1024x3584, .f32⟩
  | 99 => ⟨S1x1x3584x1024, .f32⟩
  | 100 => ⟨S3584x1024, .f32⟩
  | 101 => ⟨S40960x3584, .f32⟩
  | 102 => ⟨S40960x3584, .f32⟩
  | 103 => ⟨S40960x3584, .f32⟩
  | 104 => ⟨S_, .f32⟩
  | 105 => ⟨S40960x3584, .f32⟩
  | 106 => ⟨S40960x3584, .f32⟩
  | 107 => ⟨S_, .f32⟩
  | 108 => ⟨S40960x3584, .f32⟩
  | 109 => ⟨S40960x3584, .f32⟩
  | 110 => ⟨S40960x3584, .f32⟩
  | 111 => ⟨S40960x3584, .f32⟩
  | 112 => ⟨S40960x3584, .f32⟩
  | 113 => ⟨S40960x1024, .f32⟩
  | 114 => ⟨S40960x1024, .f32⟩
  | 115 => ⟨S40960x1024, .f32⟩
  | 116 => ⟨S40960x1024, .f32⟩
  | 117 => ⟨S40960x1, .f32⟩
  | 118 => ⟨S1x1x1024x3584, .f32⟩
  | 119 => ⟨S1024x3584, .f32⟩
  | 120 => ⟨S1x1x1024x3584, .f32⟩
  | 121 => ⟨S1024x3584, .f32⟩
  | 122 => ⟨S1x1x3584x1024, .f32⟩
  | 123 => ⟨S3584x1024, .f32⟩
  | 124 => ⟨S40960x3584, .f32⟩
  | 125 => ⟨S40960x3584, .f32⟩
  | 126 => ⟨S40960x3584, .f32⟩
  | 127 => ⟨S_, .f32⟩
  | _ => ⟨S40, .i32⟩

abbrev hbmTy0_1 (i : Nat) : BufTy := match i % 128 with
  | 0 => ⟨S40960x3584, .f32⟩
  | 1 => ⟨S40960x3584, .f32⟩
  | 2 => ⟨S_, .f32⟩
  | 3 => ⟨S40960x3584, .f32⟩
  | 4 => ⟨S40960x3584, .f32⟩
  | 5 => ⟨S40960x3584, .f32⟩
  | 6 => ⟨S40960x3584, .f32⟩
  | 7 => ⟨S40960x3584, .f32⟩
  | 8 => ⟨S40960x1024, .f32⟩
  | 9 => ⟨S40960x1024, .f32⟩
  | 10 => ⟨S40960x1024, .f32⟩
  | 11 => ⟨S40960x1024, .f32⟩
  | 12 => ⟨S40960x1, .f32⟩
  | 13 => ⟨S1x1x1024x3584, .f32⟩
  | 14 => ⟨S1024x3584, .f32⟩
  | 15 => ⟨S1x1x1024x3584, .f32⟩
  | 16 => ⟨S1024x3584, .f32⟩
  | 17 => ⟨S1x1x3584x1024, .f32⟩
  | 18 => ⟨S3584x1024, .f32⟩
  | 19 => ⟨S40960x3584, .f32⟩
  | 20 => ⟨S40960x3584, .f32⟩
  | 21 => ⟨S40960x3584, .f32⟩
  | 22 => ⟨S_, .f32⟩
  | 23 => ⟨S40960x3584, .f32⟩
  | 24 => ⟨S40960x3584, .f32⟩
  | 25 => ⟨S_, .f32⟩
  | 26 => ⟨S40960x3584, .f32⟩
  | 27 => ⟨S40960x3584, .f32⟩
  | 28 => ⟨S40960x3584, .f32⟩
  | 29 => ⟨S40960x3584, .f32⟩
  | 30 => ⟨S40960x3584, .f32⟩
  | 31 => ⟨S40960x1024, .f32⟩
  | 32 => ⟨S40960x1024, .f32⟩
  | 33 => ⟨S40960x1024, .f32⟩
  | 34 => ⟨S40960x1024, .f32⟩
  | 35 => ⟨S40960x1, .f32⟩
  | 36 => ⟨S1x1x1024x3584, .f32⟩
  | 37 => ⟨S1024x3584, .f32⟩
  | 38 => ⟨S1x1x1024x3584, .f32⟩
  | 39 => ⟨S1024x3584, .f32⟩
  | 40 => ⟨S1x1x3584x1024, .f32⟩
  | 41 => ⟨S3584x1024, .f32⟩
  | 42 => ⟨S40960x3584, .f32⟩
  | 43 => ⟨S40960x3584, .f32⟩
  | 44 => ⟨S40960x3584, .f32⟩
  | 45 => ⟨S_, .f32⟩
  | 46 => ⟨S40960x3584, .f32⟩
  | 47 => ⟨S40960x3584, .f32⟩
  | 48 => ⟨S_, .f32⟩
  | 49 => ⟨S40960x3584, .f32⟩
  | 50 => ⟨S40960x3584, .f32⟩
  | 51 => ⟨S40960x3584, .f32⟩
  | 52 => ⟨S40960x3584, .f32⟩
  | 53 => ⟨S40960x3584, .f32⟩
  | 54 => ⟨S40960x1024, .f32⟩
  | 55 => ⟨S40960x1024, .f32⟩
  | 56 => ⟨S40960x1024, .f32⟩
  | 57 => ⟨S40960x1024, .f32⟩
  | 58 => ⟨S40960x1, .f32⟩
  | 59 => ⟨S1x1x1024x3584, .f32⟩
  | 60 => ⟨S1024x3584, .f32⟩
  | 61 => ⟨S1x1x1024x3584, .f32⟩
  | 62 => ⟨S1024x3584, .f32⟩
  | 63 => ⟨S1x1x3584x1024, .f32⟩
  | 64 => ⟨S3584x1024, .f32⟩
  | 65 => ⟨S40960x3584, .f32⟩
  | 66 => ⟨S40960x3584, .f32⟩
  | 67 => ⟨S40960x3584, .f32⟩
  | 68 => ⟨S_, .f32⟩
  | 69 => ⟨S40960x3584, .f32⟩
  | 70 => ⟨S40960x3584, .f32⟩
  | 71 => ⟨S_, .f32⟩
  | 72 => ⟨S40960x3584, .f32⟩
  | 73 => ⟨S40960x3584, .f32⟩
  | 74 => ⟨S40960x3584, .f32⟩
  | 75 => ⟨S40960x3584, .f32⟩
  | 76 => ⟨S40960x3584, .f32⟩
  | 77 => ⟨S40960x1024, .f32⟩
  | 78 => ⟨S40960x1024, .f32⟩
  | 79 => ⟨S40960x1024, .f32⟩
  | 80 => ⟨S40960x1024, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_call7_v0 : Ref sig .tc := ⟨.hbm, 171, rfl⟩
abbrev main_call7_v1 : Ref sig .tc := ⟨.hbm, 172, rfl⟩
abbrev main_call7_cst : Ref sig .tc := ⟨.hbm, 173, rfl⟩
abbrev main_call7_v2 : Ref sig .tc := ⟨.hbm, 174, rfl⟩
abbrev main_call7_v3 : Ref sig .tc := ⟨.hbm, 175, rfl⟩
abbrev main_call7_cst_0 : Ref sig .tc := ⟨.hbm, 176, rfl⟩
abbrev main_call7_v4 : Ref sig .tc := ⟨.hbm, 177, rfl⟩
abbrev main_call7_v5 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_call8_v0 : Ref sig .tc := ⟨.hbm, 194, rfl⟩
abbrev main_call8_v1 : Ref sig .tc := ⟨.hbm, 195, rfl⟩
abbrev main_call8_cst : Ref sig .tc := ⟨.hbm, 196, rfl⟩
abbrev main_call8_v2 : Ref sig .tc := ⟨.hbm, 197, rfl⟩
abbrev main_call8_v3 : Ref sig .tc := ⟨.hbm, 198, rfl⟩
abbrev main_call8_cst_0 : Ref sig .tc := ⟨.hbm, 199, rfl⟩
abbrev main_call8_v4 : Ref sig .tc := ⟨.hbm, 200, rfl⟩
abbrev main_call8_v5 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩

abbrev nD : Nat := 1
abbrev τ : Topo := Topo.v7x

variable {F : FTy → Type} [FloatOps F]
-- ==== Proof.Decode.lean ====
/- What the precondition says of the two tables: its two reductions by `and` read as statements about every entry. -/
module

public import proofs.«01_k».proof.Pre_tables
public import proofs.«01_k».proof.Proof.Gen.Pre_tables
public import Idealize.ShloMosaic.Lib.ReduceAll
public import Idealize.ShloMosaic.Init

@[expose] public section

namespace Cert.Decode

open Idealize.ShloMosaic Cert.Pre_tables

variable {F : FTy → Type} [FloatOps F]

/-- The predicate holds only if every tile's expert is one of the 8 and at least one tile is used. -/
theorem tables_iff [Cert.Pre_tables.Facts] (te : IVec S40 32) (nu : IVec S1 32) (x : FVec F S40960x1024 .f32)
    (a b : FVec F S2x8x1024x3584 .f32) (w : FVec F S2x8x3584x1024 .f32)
    (h : fn (F := F) te nu x a b w = fun _ => 1#1) :
    (∀ i, (te i).toNat < 8) ∧ ∀ i, 1 ≤ (nu i).toInt := by
  have : Subsingleton S_.Idx := ⟨fun y z => funext fun i => i.elim0⟩
  have e := congrFun h (fun i => i.elim0)
  obtain ⟨e1, e2⟩ := IntOp.andi_eq_one.1 e
  constructor
  · intro i
    obtain ⟨g, l⟩ := IntOp.andi_eq_one.1 (Host.reduce_andi_all _ _ _ _ _ e1 i)
    have g' : IntOp.cmpi .sge (te i) 0#32 = 1#1 := g
    have l' : IntOp.cmpi .slt (te i) 8#32 = 1#1 := l
    have p (q : Bool) (hq : BitVec.ofBool q = 1#1) : q = true := by revert hq; cases q <;> decide
    have g2 := p _ g'
    have l2 := p _ l'
    simp only [BitVec.sle, BitVec.slt, decide_eq_true_eq, BitVec.toInt, BitVec.toNat_ofNat] at g2 l2
    omega
  · intro i
    have g : IntOp.cmpi .sge (nu i) 1#32 = 1#1 := Host.reduce_andi_all _ _ _ _ _ e2 i
    have p (q : Bool) (hq : BitVec.ofBool q = 1#1) : q = true := by revert hq; cases q <;> decide
    have g2 := p _ g
    simpa [BitVec.sle] using g2

end Cert.Decode
-- ==== Proof.Kernel.Frame.lean ====
/- The frame of the routed experts' pipeline at any admissible tables: what the output block and the staged x block hold
   after every grid point, the body's obligation along its four paths (a tile's first point or a later one, of a used
   tile or not), and the launch: every execution ends, the arguments unchanged and every semaphore at zero. -/
module

public import proofs.«01_k».proof.Proof.Kernel.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Bits) ℓ) (ρ : Dev nD → PrngReg)

/-- The launch memory's tables are the ones the pipeline is stated at. -/
def Pinned (T : Tabs) (m : (ℓ : Loc nD τ sig) → Buf (Elt Bits) ℓ) : Prop :=
  (∀ c : Dev nD, m ((c : Thread nD τ).loc main_arg0) = T.te)
  ∧ (∀ c : Dev nD, m ((c : Thread nD τ).loc main_arg1) = T.nu)

/-! ## What the outputs and scratches hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA T).N) (prev : (S1024x1024.Idx → Elt Bits .f32) × Buf (Elt Bits) ((c : Thread nD τ).loc cc0_scratch0)) : (S1024x1024.Idx → Elt Bits .f32) × Buf (Elt Bits) ((c : Thread nD τ).loc cc0_scratch0) :=
  if q0 : P0_0 T t then
    if q1 : P0_1 T t then
      (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
    else
      (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
  else
    if q1 : P0_1 T t then
      (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1)
    else
      ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1)

/-- THE TRAJECTORY: after position `n`. -/
def traj0 (c : Dev nD) : (n : ℕ) → n < (cfgA T).N → (S1024x1024.Idx → Elt Bits .f32) × Buf (Elt Bits) ((c : Thread nD τ).loc cc0_scratch0)
  | 0, h => step0 T m ρ c ⟨0, h⟩ (default, default)
  | n + 1, h => step0 T m ρ c ⟨n + 1, h⟩ (traj0 c n (Nat.lt_of_succ_lt h))

/-- What they held BEFORE point `t` (junk before the first). -/
def prev0 (c : Dev nD) (t : Fin (cfgA T).N) : (S1024x1024.Idx → Elt Bits .f32) × Buf (Elt Bits) ((c : Thread nD τ).loc cc0_scratch0) :=
  if h : t.val = 0 then (default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S1024x1024.Idx → Elt Bits .f32) × Buf (Elt Bits) ((c : Thread nD τ).loc cc0_scratch0)) (q0 : P0_0 T t) (q1 : P0_1 T t) :
    step0 T m ρ c t prev = (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_pos q1]

/-- `step0` at a point of path B. -/
theorem step0_B (c : Dev nD) (t : Fin (cfgA T).N) (prev : (S1024x1024.Idx → Elt Bits .f32) × Buf (Elt Bits) ((c : Thread nD τ).loc cc0_scratch0)) (q0 : ¬P0_0 T t) (q1 : P0_1 T t) :
    step0 T m ρ c t prev = (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1) := by
  unfold step0; simp only [dif_neg q0, dif_pos q1]

/-- `step0` at a point of path C. -/
theorem step0_C (c : Dev nD) (t : Fin (cfgA T).N) (prev : (S1024x1024.Idx → Elt Bits .f32) × Buf (Elt Bits) ((c : Thread nD τ).loc cc0_scratch0)) (q0 : P0_0 T t) (q1 : ¬P0_1 T t) :
    step0 T m ρ c t prev = (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_neg q1]

/-- `step0` at a point of path D. -/
theorem step0_D (c : Dev nD) (t : Fin (cfgA T).N) (prev : (S1024x1024.Idx → Elt Bits .f32) × Buf (Elt Bits) ((c : Thread nD τ).loc cc0_scratch0)) (q0 : ¬P0_0 T t) (q1 : ¬P0_1 T t) :
    step0 T m ρ c t prev = ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1) := by
  unfold step0; simp only [dif_neg q0, dif_neg q1]

/-! ## The pipeline's proof data -/

/-- What the tracked buffers held before position `t` of `Fin (N+1)` (the invariant's index). -/
def prev0T (c : Dev nD) (t : Fin ((cfgA T).N + 1)) : (S1024x1024.Idx → Elt Bits .f32) × Buf (Elt Bits) ((c : Thread nD τ).loc cc0_scratch0) :=
  if h : t.val = 0 then (default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA T).N + 1)) : sProp 𝕄 :=
  iprop((∃ a, ⌜sfresh0_0 T t.val = false → a = (prev0T T m ρ c t).2⌝ ∗ (scM0_0.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt).1
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA T).N) (ht : t.val ≠ 0), (cfgA T).idle (4 : Fin 5) ((cfgA T).grid.coords t) = true → (cfgA T).fresh (4 : Fin 5) t.val = false →
    (dats T m ρ 0 c).after (4 : Fin 5) t = (dats T m ρ 0 c).after (4 : Fin 5) ⟨t.val - 1, by omega⟩ := by
  intro t ht hi hf
  rw [after0_4, after0_4, traj0_eq]
  by_cases q0 : P0_0 T t
  · by_cases q1 : P0_1 T t
    · obtain ⟨i4, -, -, -⟩ := sched0_A T t q0 q1
      rw [i4] at hi; exact absurd hi (by decide)
    · obtain ⟨i4, -, -, -⟩ := sched0_C T t q0 q1
      rw [i4] at hi; exact absurd hi (by decide)
  · by_cases q1 : P0_1 T t
    · obtain ⟨i4, -, -, -⟩ := sched0_B T t q0 q1
      rw [i4] at hi; exact absurd hi (by decide)
    · rw [step0_D T m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA T).N) (d) :
    (dats T m ρ 0 c).before (4 : Fin 5) t d = if (cfgA T).fresh (4 : Fin 5) t.val then d else (prev0 T m ρ c t).1 := by
  rw [(dats T m ρ 0 c).before_out_traj (4 : Fin 5) rfl (fun _ _ => rfl) (hcarry0_4 T m ρ c) t.val t rfl d]
  by_cases hf : (cfgA T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA T).N) : Prog (TpuEff nD τ sig (Elt Bits) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i4, f4, fr4, sfn0⟩ := sched0_A T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4, sfn0⟩ := sched0_C T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 T t
    · obtain ⟨i4, fr4, sf0, sfn0⟩ := sched0_B T t q0 q1
      have k0_h1 := q0; have k0_h2 := q1
      rewrite [i4]
      simp only [before0_0, before0_1, before0_2, before0_3, before0_4, after0_0, after0_1, after0_2, after0_3, after0_4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ _ k0_h1 k0_h2).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _)
    · obtain ⟨i4, fr4, sf0, sfn0⟩ := sched0_D T t q0 q1
      have k0_h1 := q0; have k0_h2 := q1
      cases f4 : ((cfgA T).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ, fr4, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned T m) (c : Dev nD) : BodyObligation (dats T m ρ 0 c) (defs₀ (F := Bits)) Variants.none () Set.univ := fun t => by
  rw [bigSep_W0]
  exact sound_body T m ρ hp c t

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the tables: every weakly
    fair execution of @main on the TensorCores terminates, and every final state has each array at the computed contents,
    and every semaphore counter of the machine at zero. -/
theorem run_main_quiescent (hp : Pinned T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Bits)) (onTc (τ := τ) (main (F := Bits))) (s₀ m ρ) (QC T m ρ) :=
  (θ_run defs _ _).mono (fun _ h => h.1) (run_main_quiescent T m ρ hp)

/-- `frame` without the counters: the argument arrays end unchanged. -/
theorem unchanged (hp : Pinned T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- THE FRAME under the pinning: from a launch memory whose tables and steering words are the tables, every weakly fair
    execution terminates, nothing faults, every argument array ends unchanged and every semaphore counter of the machine reads
    zero at every final state — `Cert.quiescent_Kernel`'s post. -/
theorem frame (hp : Pinned T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.Kernel.Experts

end
-- ==== Proof.Kernel.Pre.lean ====
/- The precondition gives the two tables: every memory it admits holds tables the run can be stated over. -/
module

public import proofs.«01_k».proof.Defs
public import proofs.«01_k».proof.Proof.Decode
public import proofs.«01_k».proof.Proof.Kernel.Frame

@[expose] public section

namespace Cert.Kernel.Experts

open Cert.Kernel Cert.Kernel.Gen Idealize.ShloMosaic Idealize.ShloMosaic.TcCoe Idealize.SL.Sem

/-- There is one device. -/
theorem dev_eq (c d : Dev nD) : c = d := Subsingleton.elim (α := Fin 1) c d

/-- A memory the precondition admits holds, on its one device, tables of the kind the run is stated over. -/
theorem pinned [Cert.Pre_tables.Facts] (m : (ℓ : Loc nD τ sig) → Buf (Elt Bits) ℓ) (h : Cert.Pre_Kernel m) : ∃ T : Tabs, Pinned T m := by
  let c0 : Dev nD := (0 : Fin 1)
  obtain ⟨h1, h2⟩ := Cert.Decode.tables_iff _ _ _ _ _ _ (h c0)
  refine ⟨⟨m ((c0 : Thread nD τ).loc main_arg0), m ((c0 : Thread nD τ).loc main_arg1), h1, h2⟩, fun c => ?_, fun c => ?_⟩
  · rw [dev_eq c c0]
  · rw [dev_eq c c0]

end Cert.Kernel.Experts

end
-- ==== Proof.KernelIdeal.Tables.lean ====
/- The routed experts' pipeline at ANY admissible tables: every tile given to one of the 8 experts and at least one
   tile used. The block of every window is then inside its array, and which grid points start a tile, skip their work
   or write the tile back depends on the grid and on the count of used tiles only. -/
module

public import proofs.«01_k».proof.Proof.Gen.KernelIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The two prefetched tables, at contents the precondition admits: each tile's expert and the count of used tiles. -/
structure Tabs where
  te : S40.Idx → BitVec 32
  nu : S1.Idx → BitVec 32
  te_lt : ∀ x, (te x).toNat < 8
  nu_pos : ∀ x, 1 ≤ (nu x).toInt

variable (T : Tabs)

/-- The one word of the second table: how many tiles are used. -/
def Tabs.used : BitVec 32 := T.nu (Shape.Idx.first (numel1_S1.symm ▸ Nat.one_pos))

theorem S1_eq (x y : S1.Idx) : x = y := by
  funext a
  match a with
  | ⟨0, _⟩ => exact Subsingleton.elim (α := Fin 1) _ _

theorem Tabs.nu_eq (x : S1.Idx) : T.nu x = T.used := by unfold Tabs.used; exact congrArg T.nu (S1_eq _ _)

/-- A used tile's x block is its own, an unused one's the last used tile's: in either case a tile that exists. -/
theorem x_row_le {i : ℕ} (hi : i < 40) (w : BitVec 32) (hw : 1 ≤ w.toInt) :
    (Scalar.minsi (BitVec.ofNat 32 i) (Scalar.subi w 1#32)).toNat ≤ i := by
  have e : (Scalar.minsi (BitVec.ofNat 32 i) (Scalar.subi w 1#32))
      = if (BitVec.ofNat 32 i).slt (w - 1#32) then BitVec.ofNat 32 i else w - 1#32 := rfl
  have h1 : (BitVec.ofNat 32 i).toNat = i := by simp; omega
  have h2 : w.toNat < 2 ^ 31 ∧ 1 ≤ w.toNat := by
    rw [BitVec.toInt_eq_toNat_cond] at hw; have := w.isLt; split at hw <;> omega
  have h3 : (w - 1#32).toNat = w.toNat - 1 := by rw [BitVec.toNat_sub]; simp; omega
  rw [e]
  split
  · omega
  · rename_i h
    rw [BitVec.slt_eq_decide, decide_eq_true_eq, BitVec.toInt_eq_toNat_cond, BitVec.toInt_eq_toNat_cond, h1, h3, if_pos (by omega), if_pos (by omega)] at h
    omega

/-- A used tile's x block is its own. -/
theorem x_row_used {i : ℕ} (hi : i < 40) (w : BitVec 32) (hw : 1 ≤ w.toInt) (h : (i : ℤ) < w.toInt) :
    (Scalar.minsi (BitVec.ofNat 32 i) (Scalar.subi w 1#32)).toNat = i := by
  have e : (Scalar.minsi (BitVec.ofNat 32 i) (Scalar.subi w 1#32))
      = if (BitVec.ofNat 32 i).slt (w - 1#32) then BitVec.ofNat 32 i else w - 1#32 := rfl
  have h1 : (BitVec.ofNat 32 i).toNat = i := by simp; omega
  have h2 : w.toNat < 2 ^ 31 ∧ 1 ≤ w.toNat := by
    rw [BitVec.toInt_eq_toNat_cond] at hw; have := w.isLt; split at hw <;> omega
  have h3 : (w - 1#32).toNat = w.toNat - 1 := by rw [BitVec.toNat_sub]; simp; omega
  have h4 : (i : ℤ) < w.toNat := by rw [BitVec.toInt_eq_toNat_cond, if_pos (by omega)] at h; exact h
  rw [e]
  split
  · exact h1
  · rename_i h
    rw [BitVec.slt_eq_decide, decide_eq_true_eq, BitVec.toInt_eq_toNat_cond, BitVec.toInt_eq_toNat_cond, h1, h3, if_pos (by omega), if_pos (by omega)] at h
    omega

/-- The tables' contents as the pipeline takes them. -/
def pfN : pre0.Contents (Elt Ideal) := fun | ⟨0, _⟩ => T.te | ⟨1, _⟩ => T.nu | ⟨_ + 2, h⟩ => absurd h (by simp)

/-- The column block a weight window visits: the point's own at a used tile, the last at an unused one. -/
def colOf (i : grid0.Coords) : BitVec 32 :=
  Scalar.select (Scalar.cmpi .slt (BitVec.ofNat 32 (i 0).val) T.used) (BitVec.ofNat 32 (i 1).val) 6#32

theorem colOf_le (i : grid0.Coords) : (colOf T i).toNat < 7 := by
  have h1 : (i 1).val < 7 := (i 1).isLt
  have h2 : (BitVec.ofNat 32 (i 1).val).toNat = (i 1).val := by simp; omega
  unfold colOf Scalar.select
  split
  · omega
  · decide

/-- The tile whose expert a point reads. -/
def tileIx (i : grid0.Coords) : S40.Idx := (Rect.unit (s := S40) (k0_off1 i) S1.size (k0_off1_inb i)).emb (Shape.Idx.first (numel1_S1.symm ▸ Nat.one_pos))

theorem transform_0_eq (i : grid0.Coords) : cc0_transform_0 inb_S1_S1_0 numel1_S1 (pfN T) i
    = ![(Scalar.minsi (BitVec.ofNat 32 (i 0).val) (Scalar.subi T.used 1#32)).toNat, 0] := by
  have h : (pfN T).at 1 (Rect.unit (s := S1) ![0] S1.size inb_S1_S1_0) numel1_S1 = T.used := T.nu_eq _
  unfold cc0_transform_0; simp only [h]; rfl

theorem transform_1_eq (i : grid0.Coords) : cc0_transform_1 k0_off1_inb numel1_S1 inb_S1_S1_0 (pfN T) i
    = ![0, (T.te (tileIx i)).toNat, 0, (colOf T i).toNat] := by
  have h : (pfN T).at 1 (Rect.unit (s := S1) ![0] S1.size inb_S1_S1_0) numel1_S1 = T.used := T.nu_eq _
  have h' : (pfN T).at 0 (Rect.unit (s := S40) (k0_off1 i) S1.size (k0_off1_inb i)) numel1_S1 = T.te (tileIx i) := rfl
  unfold cc0_transform_1; simp only [h]; rfl

theorem transform_2_eq (i : grid0.Coords) : cc0_transform_2 k0_off1_inb numel1_S1 inb_S1_S1_0 (pfN T) i
    = ![0, (T.te (tileIx i)).toNat, 0, (colOf T i).toNat] := by
  have h : (pfN T).at 1 (Rect.unit (s := S1) ![0] S1.size inb_S1_S1_0) numel1_S1 = T.used := T.nu_eq _
  unfold cc0_transform_2; simp only [h]; rfl

theorem transform_3_eq (i : grid0.Coords) : cc0_transform_3 k0_off1_inb numel1_S1 inb_S1_S1_0 (pfN T) i
    = ![0, (T.te (tileIx i)).toNat, (colOf T i).toNat, 0] := by
  have h : (pfN T).at 1 (Rect.unit (s := S1) ![0] S1.size inb_S1_S1_0) numel1_S1 = T.used := T.nu_eq _
  unfold cc0_transform_3; simp only [h]; rfl

theorem inb_0 (i : grid0.Coords) (a) : (cc0_transform_0 inb_S1_S1_0 numel1_S1 (pfN T) i a + 1) * S1024x1024.size a ≤ S40960x1024.size a := by
  rw [transform_0_eq]
  have h0 : (i 0).val < 40 := (i 0).isLt
  have := x_row_le h0 T.used (T.nu_pos _)
  fin_cases a
  · show ((Scalar.minsi (BitVec.ofNat 32 (i 0).val) (Scalar.subi T.used 1#32)).toNat + 1) * 1024 ≤ 40960; omega
  · show (0 + 1) * 1024 ≤ 1024; omega

theorem inb_1 (i : grid0.Coords) (a) : (cc0_transform_1 k0_off1_inb numel1_S1 inb_S1_S1_0 (pfN T) i a + 1) * S1x1x1024x512.size a ≤ S2x8x1024x3584.size a := by
  rw [transform_1_eq]
  have h0 := T.te_lt (tileIx i)
  have h1 := colOf_le T i
  fin_cases a
  · show (0 + 1) * 1 ≤ 2; omega
  · show ((T.te (tileIx i)).toNat + 1) * 1 ≤ 8; omega
  · show (0 + 1) * 1024 ≤ 1024; omega
  · show ((colOf T i).toNat + 1) * 512 ≤ 3584; omega

theorem inb_2 (i : grid0.Coords) (a) : (cc0_transform_2 k0_off1_inb numel1_S1 inb_S1_S1_0 (pfN T) i a + 1) * S1x1x1024x512.size a ≤ S2x8x1024x3584.size a := by
  rw [transform_2_eq, ← transform_1_eq]; exact inb_1 T i a

theorem inb_3 (i : grid0.Coords) (a) : (cc0_transform_3 k0_off1_inb numel1_S1 inb_S1_S1_0 (pfN T) i a + 1) * S1x1x512x1024.size a ≤ S2x8x3584x1024.size a := by
  rw [transform_3_eq]
  have h0 := T.te_lt (tileIx i)
  have h1 := colOf_le T i
  fin_cases a
  · show (0 + 1) * 1 ≤ 2; omega
  · show ((T.te (tileIx i)).toNat + 1) * 1 ≤ 8; omega
  · show ((colOf T i).toNat + 1) * 512 ≤ 3584; omega
  · show (0 + 1) * 1024 ≤ 1024; omega

/-- The pipeline's side condition holds at the tables. -/
theorem ok_pfN : ok0 (F := Ideal) (pfN T) :=
  ⟨fun i => ⟨inb_0 T i, .inl rfl⟩, fun i => ⟨inb_1 T i, .inl rfl⟩, fun i => ⟨inb_2 T i, .inl rfl⟩, fun i => ⟨inb_3 T i, .inl rfl⟩⟩

/-- The admissible contents, and the pipeline at them. -/
def adm : (pcfg0 (F := Ideal)).Adm := ⟨pfN T, ok_pfN T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-! ## A point's coordinates, words and staging memrefs -/

/-- Point `t`'s coordinates. -/
abbrev crd (t : Fin (cfgA T).N) : (cfgA T).grid.Coords := (cfgA T).grid.coords t

/-- Each window's current staging memref at point `t`, spelled as the pipeline passes it, and its wholeness. -/
abbrev ms0_0 (t : Fin (cfgA T).N) : Memref sig .tc .vmem S1024x1024 .f32 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x1x1024x512 .f32 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x1x1024x512 .f32 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x1x512x1024 .f32 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S1024x1024 .f32 := spec0_4.stage ((cfgA T).slots t (4 : Fin 5))
abbrev hs0_4 (t : Fin (cfgA T).N) : (ms0_4 T t).IsWhole := hstage0_4 (((cfgA T).slots t (4 : Fin 5)).cast nbuf0_4)

/-! ## The windows' blocks -/

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## The control's decisions at a point (what tells the paths apart) -/

abbrev P0_0 (t : Fin (cfgA T).N) : Prop := k0_cond1 (crd T t) = 1#1
abbrev P0_1 (t : Fin (cfgA T).N) : Prop := k0_cond2 (crd T t) (View.readAt (Elt Ideal) (tbM0_1).view (Rect.unit (s := S1) ![0] S1.size inb_S1_S1_0).toLoadRect T.nu (Shape.Idx.first (numel1_S1.symm ▸ Nat.one_pos))) = 1#1

/-! ## The schedule: which points start a tile, skip their work, write the tile back -/

theorem coords_0 : ∀ t : Fin grid0.N, (grid0.coords t 0).val = t.val / 7 := by decide +kernel
theorem coords_1 : ∀ t : Fin grid0.N, (grid0.coords t 1).val = t.val % 7 := by decide +kernel

theorem crd_0 (t : Fin (cfgA T).N) : (crd T t 0).val = t.val / 7 := coords_0 t
theorem crd_1 (t : Fin (cfgA T).N) : (crd T t 1).val = t.val % 7 := coords_1 t
theorem N_eq : (cfgA T).N = 280 := N_0

theorem cond1_coords : ∀ t : Fin grid0.N, k0_cond1 (grid0.coords t) = 1#1 ↔ t.val % 7 = 0 := by decide +kernel

/-- A point starts a tile (zeroes the output block and stages the x block) iff it is the tile's first. -/
theorem P0_0_iff (t : Fin (cfgA T).N) : P0_0 T t ↔ t.val % 7 = 0 := cond1_coords t

/-- A point works iff its tile is a used one. -/
theorem cond2_iff (i : grid0.Coords) (w : BitVec 32) : k0_cond2 i w = 1#1 ↔ ((i 0).val : ℤ) < w.toInt := by
  have h0 : (i 0).val < 40 := (i 0).isLt
  have h1 : (BitVec.ofNat 32 (i 0).val).toInt = (i 0).val := by
    rw [BitVec.toInt_eq_toNat_cond, BitVec.toNat_ofNat, Nat.mod_eq_of_lt (by omega), if_pos (by omega)]
  have e : k0_cond2 i w = if (BitVec.setWidth 32 (BitVec.ofBool ((BitVec.ofNat 32 (i 0).val).slt w))) ≠ 0#32 then 1#1 else 0#1 := by
    unfold k0_cond2
    cases h : (BitVec.ofNat 32 (i 0).val).slt w <;> simp [Scalar.cmpi, IntOp.cmpi, Scalar.extui, h]
  rw [e, BitVec.slt_eq_decide, h1]
  by_cases h : ((i 0).val : ℤ) < w.toInt <;> simp [h]

theorem P0_1_iff (t : Fin (cfgA T).N) : P0_1 T t ↔ ((t.val / 7 : ℕ) : ℤ) < T.used.toInt := by
  rw [← crd_0 T t]
  show k0_cond2 _ (T.nu _) = 1#1 ↔ _
  rw [T.nu_eq]; exact cond2_iff _ _

/-- The output window visits tile `t / 7`, -/
theorem index_4 (t : Fin (cfgA T).N) : ((cfgA T).win (4 : Fin 5)).index t = cc0_transform_4 (grid0.coords t) := rfl

theorem flush_tab : ∀ t : Fin grid0.N, (true && (decide (t.val + 1 = grid0.N) || decide (∃ h : t.val + 1 < grid0.N, cc0_transform_4 (grid0.coords ⟨t.val + 1, h⟩) ≠ cc0_transform_4 (grid0.coords t))))
    = decide (t.val % 7 = 6) := by decide +kernel

/-- and writes it back at the tile's last point. -/
theorem flush_4 (t : Fin (cfgA T).N) : ((cfgA T).win (4 : Fin 5)).flush t = decide (t.val % 7 = 6) := flush_tab t

/-- The body stores nothing into the output block iff the point neither starts its tile nor works. -/
theorem idle_4 (t : Fin (cfgA T).N) : (cfgA T).idle (4 : Fin 5) ((cfgA T).grid.coords t) = (!decide (P0_0 T t) && !decide (P0_1 T t)) := by
  have h : (cfgA T).idle (4 : Fin 5) ((cfgA T).grid.coords t) = (!(k0_cond1 (crd T t) == 1#1) && !(k0_cond2 (crd T t) ((pfN T).atD 1 ![0]) == 1#1)) := rfl
  have h2 : (pfN T).atD 1 ![0] = T.used := by
    exact T.nu_eq _
  have h3 : P0_1 T t ↔ k0_cond2 (crd T t) T.used = 1#1 := by
    show k0_cond2 _ (T.nu _) = 1#1 ↔ _
    rw [T.nu_eq]
  have e0 : (k0_cond1 (crd T t) == 1#1) = decide (P0_0 T t) := rfl
  have e1 : (k0_cond2 (crd T t) T.used == 1#1) = decide (P0_1 T t) := by rw [beq_eq_decide]; exact decide_eq_decide.mpr h3.symm
  rw [h, h2, e0, e1]

/-- The output block holds nothing of this tile exactly before the tile's first point. -/
theorem fresh_4 (t : Fin (cfgA T).N) : (cfgA T).fresh (4 : Fin 5) t.val = decide (t.val % 7 = 0) := by
  refine Pipeline.Cfg.fresh_tab (cfgA T) (4 : Fin 5) (fun n => decide (n % 7 = 0)) rfl (fun t => ?_) t.val (Nat.le_of_lt t.isLt)
  rw [flush_4, idle_4]
  have e : decide (P0_0 T t) = decide (t.val % 7 = 0) := decide_eq_decide.mpr (P0_0_iff T t)
  rw [e]
  by_cases h0 : t.val % 7 = 0
  · simp [h0]; omega
  · by_cases h6 : t.val % 7 = 6
    · simp [h0, h6]; omega
    · simp [h0, h6]; omega

/-- The staged x block is undetermined before the first point only. -/
def sfresh0_0 (_ : Tabs) : ℕ → Bool
  | 0 => true
  | _ + 1 => false

theorem sfresh_pos (t : Fin (cfgA T).N) (q0 : ¬P0_0 T t) : sfresh0_0 T t.val = false := by
  rw [P0_0_iff] at q0
  obtain ⟨_ | n, h⟩ := t
  · exact absurd rfl q0
  · rfl

theorem sched0_A (t : Fin (cfgA T).N) (q0 : P0_0 T t) (q1 : P0_1 T t) :
    (cfgA T).idle (4 : Fin 5) ((cfgA T).grid.coords t) = false ∧ ((cfgA T).win (4 : Fin 5)).flush t = false ∧ (cfgA T).fresh (4 : Fin 5) t.val = true ∧ sfresh0_0 T (t.val + 1) = false := by
  have h := (P0_0_iff T t).mp q0
  refine ⟨by rw [idle_4, decide_eq_true q0]; rfl, by rw [flush_4]; simp [h], by rw [fresh_4]; simp [h], rfl⟩

theorem sched0_C (t : Fin (cfgA T).N) (q0 : P0_0 T t) (q1 : ¬P0_1 T t) :
    (cfgA T).idle (4 : Fin 5) ((cfgA T).grid.coords t) = false ∧ ((cfgA T).win (4 : Fin 5)).flush t = false ∧ (cfgA T).fresh (4 : Fin 5) t.val = true ∧ sfresh0_0 T (t.val + 1) = false := by
  have h := (P0_0_iff T t).mp q0
  refine ⟨by rw [idle_4, decide_eq_true q0]; rfl, by rw [flush_4]; simp [h], by rw [fresh_4]; simp [h], rfl⟩

theorem sched0_B (t : Fin (cfgA T).N) (q0 : ¬P0_0 T t) (q1 : P0_1 T t) :
    (cfgA T).idle (4 : Fin 5) ((cfgA T).grid.coords t) = false ∧ (cfgA T).fresh (4 : Fin 5) t.val = false ∧ sfresh0_0 T t.val = false ∧ sfresh0_0 T (t.val + 1) = false := by
  have h := fun h => q0 ((P0_0_iff T t).mpr h)
  refine ⟨by rw [idle_4, decide_eq_true q1]; simp, by rw [fresh_4]; simpa using h, sfresh_pos T t q0, rfl⟩

theorem sched0_D (t : Fin (cfgA T).N) (q0 : ¬P0_0 T t) (q1 : ¬P0_1 T t) :
    (cfgA T).idle (4 : Fin 5) ((cfgA T).grid.coords t) = true ∧ (cfgA T).fresh (4 : Fin 5) t.val = false ∧ sfresh0_0 T t.val = false ∧ sfresh0_0 T (t.val + 1) = false := by
  have h := fun h => q0 ((P0_0_iff T t).mpr h)
  refine ⟨by rw [idle_4, decide_eq_false q0, decide_eq_false q1]; rfl, by rw [fresh_4]; simpa using h, sfresh_pos T t q0, rfl⟩

end Cert.KernelIdeal.Experts

end
-- ==== Proof.KernelIdeal.Frame.lean ====
/- The frame of the routed experts' pipeline at any admissible tables: what the output block and the staged x block hold
   after every grid point, the body's obligation along its four paths (a tile's first point or a later one, of a used
   tile or not), and the launch: every execution ends, the arguments unchanged and every semaphore at zero. -/
module

public import proofs.«01_k».proof.Proof.KernelIdeal.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Ideal) ℓ) (ρ : Dev nD → PrngReg)

/-- The launch memory's tables are the ones the pipeline is stated at. -/
def Pinned (T : Tabs) (m : (ℓ : Loc nD τ sig) → Buf (Elt Ideal) ℓ) : Prop :=
  (∀ c : Dev nD, m ((c : Thread nD τ).loc main_arg0) = T.te)
  ∧ (∀ c : Dev nD, m ((c : Thread nD τ).loc main_arg1) = T.nu)

/-! ## What the outputs and scratches hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA T).N) (prev : (S1024x1024.Idx → Elt Ideal .f32) × Buf (Elt Ideal) ((c : Thread nD τ).loc cc0_scratch0)) : (S1024x1024.Idx → Elt Ideal .f32) × Buf (Elt Ideal) ((c : Thread nD τ).loc cc0_scratch0) :=
  if q0 : P0_0 T t then
    if q1 : P0_1 T t then
      (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
    else
      (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
  else
    if q1 : P0_1 T t then
      (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1)
    else
      ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1)

/-- THE TRAJECTORY: after position `n`. -/
def traj0 (c : Dev nD) : (n : ℕ) → n < (cfgA T).N → (S1024x1024.Idx → Elt Ideal .f32) × Buf (Elt Ideal) ((c : Thread nD τ).loc cc0_scratch0)
  | 0, h => step0 T m ρ c ⟨0, h⟩ (default, default)
  | n + 1, h => step0 T m ρ c ⟨n + 1, h⟩ (traj0 c n (Nat.lt_of_succ_lt h))

/-- What they held BEFORE point `t` (junk before the first). -/
def prev0 (c : Dev nD) (t : Fin (cfgA T).N) : (S1024x1024.Idx → Elt Ideal .f32) × Buf (Elt Ideal) ((c : Thread nD τ).loc cc0_scratch0) :=
  if h : t.val = 0 then (default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S1024x1024.Idx → Elt Ideal .f32) × Buf (Elt Ideal) ((c : Thread nD τ).loc cc0_scratch0)) (q0 : P0_0 T t) (q1 : P0_1 T t) :
    step0 T m ρ c t prev = (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_pos q1]

/-- `step0` at a point of path B. -/
theorem step0_B (c : Dev nD) (t : Fin (cfgA T).N) (prev : (S1024x1024.Idx → Elt Ideal .f32) × Buf (Elt Ideal) ((c : Thread nD τ).loc cc0_scratch0)) (q0 : ¬P0_0 T t) (q1 : P0_1 T t) :
    step0 T m ρ c t prev = (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1) := by
  unfold step0; simp only [dif_neg q0, dif_pos q1]

/-- `step0` at a point of path C. -/
theorem step0_C (c : Dev nD) (t : Fin (cfgA T).N) (prev : (S1024x1024.Idx → Elt Ideal .f32) × Buf (Elt Ideal) ((c : Thread nD τ).loc cc0_scratch0)) (q0 : P0_0 T t) (q1 : ¬P0_1 T t) :
    step0 T m ρ c t prev = (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_neg q1]

/-- `step0` at a point of path D. -/
theorem step0_D (c : Dev nD) (t : Fin (cfgA T).N) (prev : (S1024x1024.Idx → Elt Ideal .f32) × Buf (Elt Ideal) ((c : Thread nD τ).loc cc0_scratch0)) (q0 : ¬P0_0 T t) (q1 : ¬P0_1 T t) :
    step0 T m ρ c t prev = ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1) := by
  unfold step0; simp only [dif_neg q0, dif_neg q1]

/-! ## The pipeline's proof data -/

/-- What the tracked buffers held before position `t` of `Fin (N+1)` (the invariant's index). -/
def prev0T (c : Dev nD) (t : Fin ((cfgA T).N + 1)) : (S1024x1024.Idx → Elt Ideal .f32) × Buf (Elt Ideal) ((c : Thread nD τ).loc cc0_scratch0) :=
  if h : t.val = 0 then (default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA T).N + 1)) : sProp 𝕄 :=
  iprop((∃ a, ⌜sfresh0_0 T t.val = false → a = (prev0T T m ρ c t).2⌝ ∗ (scM0_0.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt).1
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA T).N) (ht : t.val ≠ 0), (cfgA T).idle (4 : Fin 5) ((cfgA T).grid.coords t) = true → (cfgA T).fresh (4 : Fin 5) t.val = false →
    (dats T m ρ 0 c).after (4 : Fin 5) t = (dats T m ρ 0 c).after (4 : Fin 5) ⟨t.val - 1, by omega⟩ := by
  intro t ht hi hf
  rw [after0_4, after0_4, traj0_eq]
  by_cases q0 : P0_0 T t
  · by_cases q1 : P0_1 T t
    · obtain ⟨i4, -, -, -⟩ := sched0_A T t q0 q1
      rw [i4] at hi; exact absurd hi (by decide)
    · obtain ⟨i4, -, -, -⟩ := sched0_C T t q0 q1
      rw [i4] at hi; exact absurd hi (by decide)
  · by_cases q1 : P0_1 T t
    · obtain ⟨i4, -, -, -⟩ := sched0_B T t q0 q1
      rw [i4] at hi; exact absurd hi (by decide)
    · rw [step0_D T m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA T).N) (d) :
    (dats T m ρ 0 c).before (4 : Fin 5) t d = if (cfgA T).fresh (4 : Fin 5) t.val then d else (prev0 T m ρ c t).1 := by
  rw [(dats T m ρ 0 c).before_out_traj (4 : Fin 5) rfl (fun _ _ => rfl) (hcarry0_4 T m ρ c) t.val t rfl d]
  by_cases hf : (cfgA T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA T).N) : Prog (TpuEff nD τ sig (Elt Ideal) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i4, f4, fr4, sfn0⟩ := sched0_A T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4, sfn0⟩ := sched0_C T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 T t
    · obtain ⟨i4, fr4, sf0, sfn0⟩ := sched0_B T t q0 q1
      have k0_h1 := q0; have k0_h2 := q1
      rewrite [i4]
      simp only [before0_0, before0_1, before0_2, before0_3, before0_4, after0_0, after0_1, after0_2, after0_3, after0_4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ _ k0_h1 k0_h2).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _)
    · obtain ⟨i4, fr4, sf0, sfn0⟩ := sched0_D T t q0 q1
      have k0_h1 := q0; have k0_h2 := q1
      cases f4 : ((cfgA T).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ, fr4, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned T m) (c : Dev nD) : BodyObligation (dats T m ρ 0 c) (defs₀ (F := Ideal)) Variants.none () Set.univ := fun t => by
  rw [bigSep_W0]
  exact sound_body T m ρ hp c t

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the tables: every weakly
    fair execution of @main on the TensorCores terminates, and every final state has each array at the computed contents,
    and every semaphore counter of the machine at zero. -/
theorem run_main_quiescent (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Ideal)) (onTc (τ := τ) (main (F := Ideal))) (s₀ m ρ) (QC T m ρ) :=
  (θ_run defs _ _).mono (fun _ h => h.1) (run_main_quiescent T m ρ hp)

/-- `frame` without the counters: the argument arrays end unchanged. -/
theorem unchanged (hp : Pinned T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- THE FRAME under the pinning: from a launch memory whose tables and steering words are the tables, every weakly fair
    execution terminates, nothing faults, every argument array ends unchanged and every semaphore counter of the machine reads
    zero at every final state — `Cert.quiescent_KernelIdeal`'s post. -/
theorem frame (hp : Pinned T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.KernelIdeal.Experts

end
-- ==== Proof.KernelIdeal.Pre.lean ====
/- The precondition gives the two tables: every memory it admits holds tables the run can be stated over. -/
module

public import proofs.«01_k».proof.Defs
public import proofs.«01_k».proof.Proof.Decode
public import proofs.«01_k».proof.Proof.KernelIdeal.Frame

@[expose] public section

namespace Cert.KernelIdeal.Experts

open Cert.KernelIdeal Cert.KernelIdeal.Gen Idealize.ShloMosaic Idealize.ShloMosaic.TcCoe Idealize.SL.Sem

/-- There is one device. -/
theorem dev_eq (c d : Dev nD) : c = d := Subsingleton.elim (α := Fin 1) c d

/-- A memory the precondition admits holds, on its one device, tables of the kind the run is stated over. -/
theorem pinned [Cert.Pre_tables.Facts] (m : (ℓ : Loc nD τ sig) → Buf (Elt Ideal) ℓ) (h : Cert.Pre_KernelIdeal m) : ∃ T : Tabs, Pinned T m := by
  let c0 : Dev nD := (0 : Fin 1)
  obtain ⟨h1, h2⟩ := Cert.Decode.tables_iff _ _ _ _ _ _ (h c0)
  refine ⟨⟨m ((c0 : Thread nD τ).loc main_arg0), m ((c0 : Thread nD τ).loc main_arg1), h1, h2⟩, fun c => ?_, fun c => ?_⟩
  · rw [dev_eq c c0]
  · rw [dev_eq c c0]

end Cert.KernelIdeal.Experts

end
-- ==== Proof.KernelIdeal.Step.lean ====
/- The values one grid point of the routed experts leaves: the paths' runs opened to the body's arithmetic, and that
   arithmetic read at one element. -/
module

public import proofs.«01_k».proof.Proof.Gen.KernelIdeal.Flash.Runs
public import Idealize.ShloMosaic.Lib.Pipeline.ValueKit
public import Idealize.ShloMosaic.Lib.Pipeline.ReadBack
public import Idealize.ShloMosaic.Lib.Pointwise
public import Idealize.ShloMosaic.PureOps.Ideal
public import Idealize.ShloMosaic.Init

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic

section
variable (c : Dev nD)
/-- The x block that the scratch holds, read as a block. -/
def staged (b : Buf (Elt Ideal) ((c : Thread nD τ).loc cc0_scratch0)) : S1024x1024.Idx → Elt Ideal .bf16 :=
  View.read (Elt Ideal) (View.whole cc0_scratch0) b

end

/-- The gated block of one point: both column chunks of the first two weight blocks against the staged rows. -/
def gate (X : S1024x1024.Idx → Elt Ideal .bf16) (W1 W3 : S1x1x1024x512.Idx → Elt Ideal .f32) : S1024x512.Idx → Elt Ideal .bf16 :=
  k0_pay5 (F := Ideal) X
    (View.ld W1 (Rect.unit ![0, 0, 0, 0] ![1, 1, 1024, 256] inb_S1x1x1024x512_S1x1x1024x256_0_0_0_0))
    (View.ld W3 (Rect.unit ![0, 0, 0, 0] ![1, 1, 1024, 256] inb_S1x1x1024x512_S1x1x1024x256_0_0_0_0))
    (View.ld W1 (Rect.unit ![0, 0, 0, 256] ![1, 1, 1024, 256] inb_S1x1x1024x512_S1x1x1024x256_0_0_0_256))
    (View.ld W3 (Rect.unit ![0, 0, 0, 256] ![1, 1, 1024, 256] inb_S1x1x1024x512_S1x1x1024x256_0_0_0_256))

/-- What a used tile's point leaves in the output block that held `Y`. -/
def work (Y : S1024x1024.Idx → Elt Ideal .f32) (X : S1024x1024.Idx → Elt Ideal .bf16) (W1 W3 : S1x1x1024x512.Idx → Elt Ideal .f32)
    (W2 : S1x1x512x1024.Idx → Elt Ideal .f32) : S1024x1024.Idx → Elt Ideal .f32 :=
  k0_pay3 (F := Ideal) (k0_pay4 Y) (gate X W1 W3) (k0_pay6 W2) (constant S1024x1024 .f32 0x00000000#32)

/-- One hidden unit of one row: `a · logistic a · b` of the row's products with a column of either weight. -/
def gated (x w1 w3 : Fin 1024 → EReal) : EReal :=
  (∑ q, x q * w1 q) * Ideal.logistic (∑ q, x q * w1 q) * (∑ q, x q * w3 q)

variable (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (T0 : S40.Idx → Elt Ideal .i32) (T1 : S1.Idx → Elt Ideal .i32)
  (x0 : S1024x1024.Idx → Elt Ideal .f32) (x1 x2 : S1x1x1024x512.Idx → Elt Ideal .f32) (x3 : S1x1x512x1024.Idx → Elt Ideal .f32)

theorem out_A (k0_h1 k0_h2) :
    out0_A_4 c i arg4 harg4 arg5 harg5 arg6 harg6 arg7 harg7 arg8 harg8 T0 T1 x0 x1 x2 x3 k0_h1 k0_h2 = work (k0_pay1 (F := Ideal)) (k0_pay2 x0) x1 x2 x3 := by
  unfold out0_A_4 work
  frame_out
  simp only [View.read_rep]
  rfl

theorem out_C (k0_h1 k0_h2) :
    out0_C_4 c i arg4 harg4 arg5 harg5 arg6 harg6 arg7 harg7 arg8 harg8 T0 T1 x0 x1 x2 x3 k0_h1 k0_h2 = k0_pay1 (F := Ideal) := by
  unfold out0_C_4
  frame_out

theorem out_B (xo4 xa0 k0_h1 k0_h2) :
    out0_B_4 c i arg4 harg4 arg5 harg5 arg6 harg6 arg7 harg7 arg8 harg8 T0 T1 x0 x1 x2 x3 xo4 xa0 k0_h1 k0_h2 = work xo4 (staged c xa0) x1 x2 x3 := by
  unfold out0_B_4 work staged
  frame_out
  simp only [View.read_rep]
  rfl

theorem staged_A (k0_h1 k0_h2)  :
    staged c (kernelRun0_A c i arg4 harg4 arg5 harg5 arg6 harg6 arg7 harg7 arg8 harg8 T0 T1 x0 x1 x2 x3 k0_h1 k0_h2).2.1 = k0_pay2 x0 := by
  unfold staged kernelRun0_A
  frame_out
  simp only [View.read_rep]

theorem staged_C (k0_h1 k0_h2)  :
    staged c (kernelRun0_C c i arg4 harg4 arg5 harg5 arg6 harg6 arg7 harg7 arg8 harg8 T0 T1 x0 x1 x2 x3 k0_h1 k0_h2).2.1 = k0_pay2 x0 := by
  unfold staged kernelRun0_C
  frame_out
  simp only [View.read_rep]

theorem staged_B (xo4 xa0 k0_h1 k0_h2)  :
    (kernelRun0_B c i arg4 harg4 arg5 harg5 arg6 harg6 arg7 harg7 arg8 harg8 T0 T1 x0 x1 x2 x3 xo4 xa0 k0_h1 k0_h2).2.1 = xa0 := rfl

theorem staged_D (xa0 k0_h1 k0_h2)  :
    (kernelRun0_D c i arg4 harg4 arg5 harg5 arg6 harg6 arg7 harg7 arg8 harg8 T0 T1 x0 x1 x2 x3 xa0 k0_h1 k0_h2).1 = xa0 := rfl

theorem gate_apply (X : S1024x1024.Idx → Elt Ideal .bf16) (W1 W3 : S1x1x1024x512.Idx → Elt Ideal .f32) (r : Fin 1024) (k : Fin 512) :
    gate X W1 W3 (ix2 r k) = gated (fun q => X (ix2 r q)) (fun q => W1 (ix4 0 0 q k)) (fun q => W3 (ix4 0 0 q k)) := by
  unfold gate gated
  pointwise [k0_pay5]
  split
  · rfl
  · have e : (⟨256 + (k.val - 256), by omega⟩ : Fin 512) = k := Fin.ext (by simp only; omega)
    simp only [e]

theorem work_apply (Y : S1024x1024.Idx → Elt Ideal .f32) (X : S1024x1024.Idx → Elt Ideal .bf16) (W1 W3 : S1x1x1024x512.Idx → Elt Ideal .f32) (W2 : S1x1x512x1024.Idx → Elt Ideal .f32) (r d : Fin 1024) :
    work Y X W1 W3 W2 (ix2 r d) = Y (ix2 r d) + ∑ k : Fin 512, gate X W1 W3 (ix2 r k) * W2 (ix4 0 0 k d) := by
  unfold work
  pointwise [k0_pay3, k0_pay4, k0_pay6]

end Cert.KernelIdeal.Experts

end
-- ==== Proof.KernelIdeal.Spec.lean ====
/- The routed experts as plain mathematics: one row under one expert, its sum over the hidden units, and that sum cut
   into the column blocks of a tile's points. -/
module

public import proofs.«01_k».proof.Proof.KernelIdeal.Step
public import proofs.«01_k».proof.Proof.KernelIdeal.Tables

@[expose] public section

set_option maxRecDepth 16384

noncomputable section

namespace Cert.KernelIdeal.Experts

open Cert.KernelIdeal Cert.KernelIdeal.Gen
open Idealize.ShloMosaic Idealize.ShloMosaic.TcCoe

section
variable (X : S40960x1024.Idx → EReal) (W1 W3 : S2x8x1024x3584.Idx → EReal) (W2 : S2x8x3584x1024.Idx → EReal)

/-- Hidden unit `f` of row `R` under expert `e`. -/
def hidden (R : Fin 40960) (e : Fin 8) (f : Fin 3584) : EReal :=
  gated (fun q => X (ix2 R q)) (fun q => W1 (ix4 0 e q f)) (fun q => W3 (ix4 0 e q f))

/-- Row `R` under expert `e`, output column `d`: the sum over all hidden units. -/
def expert (R : Fin 40960) (e : Fin 8) (d : Fin 1024) : EReal :=
  ∑ f : Fin 3584, hidden X W1 W3 R e f * W2 (ix4 0 e f d)

/-- The summand of `expert` at hidden unit number `n` (0 past the last). -/
def summand (R : Fin 40960) (e : Fin 8) (d : Fin 1024) (n : ℕ) : EReal :=
  if h : n < 3584 then hidden X W1 W3 R e ⟨n, h⟩ * W2 (ix4 0 e ⟨n, h⟩ d) else 0

/-- The part of `expert` that column block `j` of 512 hidden units gives. -/
def part (R : Fin 40960) (e : Fin 8) (d : Fin 1024) (j : ℕ) : EReal :=
  ∑ k : Fin 512, summand X W1 W3 W2 R e d (j * 512 + k.val)

/-- The seven parts make the whole. -/
theorem parts_eq (R : Fin 40960) (e : Fin 8) (d : Fin 1024) :
    ∑ j ∈ Finset.range 7, part X W1 W3 W2 R e d j = expert X W1 W3 W2 R e d := by
  rw [Finset.sum_range]
  unfold part
  rw [Fin.sum_univ_univ_mul_add 7 512 (summand X W1 W3 W2 R e d)]
  unfold expert
  refine Finset.sum_congr rfl fun f _ => ?_
  unfold summand
  rw [dif_pos f.isLt]

end

variable (T : Tabs)

/-- The expert of tile `i`. -/
def Tabs.ex (i : Fin 40) : Fin 8 := ⟨(T.te (ix1 i)).toNat, T.te_lt _⟩

/-- The tile of row `R`. -/
def tileOf (R : Fin 40960) : Fin 40 := ⟨R.val / 1024, by omega⟩

/-- What the kernel's result holds at row `R`, column `d`: a used tile's rows under the tile's expert, 0 elsewhere. -/
def routed (X : S40960x1024.Idx → EReal) (W1 W3 : S2x8x1024x3584.Idx → EReal) (W2 : S2x8x3584x1024.Idx → EReal)
    (R : Fin 40960) (d : Fin 1024) : EReal :=
  if ((tileOf R).val : ℤ) < T.used.toInt then expert X W1 W3 W2 R (T.ex (tileOf R)) d else 0

end Cert.KernelIdeal.Experts

end
-- ==== Proof.KernelIdeal.Blocks.lean ====
/- The blocks a used tile's points read: its rows of x, and its expert's blocks of the three weights. -/
module

public import proofs.«01_k».proof.Proof.KernelIdeal.Spec

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic

variable (T : Tabs)
variable (m : (ℓ : Loc nD τ sig) → Buf (Elt Ideal) ℓ) (ρ : Dev nD → PrngReg) (c : Dev nD)

theorem lt_N (t : Fin (cfgA T).N) : t.val < 280 := t.isLt.trans_eq (N_eq T)

/-- The tile of a grid point, -/
def tl (t : Fin (cfgA T).N) : Fin 40 := ⟨t.val / 7, by have := lt_N T t; omega⟩

theorem tileIx_eq (t : Fin (cfgA T).N) : tileIx (crd T t) = ix1 (tl T t) := by
  funext a
  match a with
  | ⟨0, _⟩ =>
    apply Fin.ext
    have h := crd_0 T t
    have hlt := lt_N T t
    show k0_off1 (crd T t) 0 + 0 = t.val / 7
    have e : k0_off1 (crd T t) 0 = (BitVec.ofNat 32 (crd T t 0).val).toNat := rfl
    rw [e, h, BitVec.toNat_ofNat, Nat.mod_eq_of_lt (by omega), Nat.add_zero]

/-- the expert whose weights it reads, -/
theorem te_eq (t : Fin (cfgA T).N) : (T.te (tileIx (crd T t))).toNat = (T.ex (tl T t)).val := by
  rw [tileIx_eq]; rfl

theorem row_eq (t : Fin (cfgA T).N) (h : P0_1 T t) :
    (Scalar.minsi (BitVec.ofNat 32 (crd T t 0).val) (Scalar.subi T.used 1#32)).toNat = t.val / 7 := by
  rw [P0_1_iff] at h
  rw [crd_0]
  exact x_row_used (by have := lt_N T t; omega) T.used (T.nu_pos _) h

/-- and the column block. -/
theorem col_eq (t : Fin (cfgA T).N) (h : P0_1 T t) : (colOf T (crd T t)).toNat = t.val % 7 := by
  rw [P0_1_iff] at h
  have hlt := lt_N T t
  have h0 : (BitVec.ofNat 32 (t.val / 7)).toInt = ((t.val / 7 : ℕ) : ℤ) := by
    rw [BitVec.toInt_eq_toNat_cond, BitVec.toNat_ofNat, Nat.mod_eq_of_lt (by omega), if_pos (by omega)]
  have e : Scalar.cmpi .slt (BitVec.ofNat 32 (crd T t 0).val) T.used = 1#1 := by
    rw [crd_0]
    show BitVec.ofBool ((BitVec.ofNat 32 (t.val / 7)).slt T.used) = 1#1
    rw [BitVec.slt_eq_decide, h0, decide_eq_true h]; rfl
  unfold colOf
  rw [e, crd_1]
  show (BitVec.ofNat 32 (t.val % 7)).toNat = _
  rw [BitVec.toNat_ofNat, Nat.mod_eq_of_lt (by omega)]

theorem index_0 (t : Fin (cfgA T).N) (h : P0_1 T t) : ((cfgA T).win (0 : Fin 5)).index t = ![t.val / 7, 0] := by
  rw [← row_eq T t h]; exact transform_0_eq T _
theorem index_1 (t : Fin (cfgA T).N) (h : P0_1 T t) : ((cfgA T).win (1 : Fin 5)).index t = ![0, (T.ex (tl T t)).val, 0, t.val % 7] := by
  rw [← te_eq, ← col_eq T t h]; exact transform_1_eq T _
theorem index_2 (t : Fin (cfgA T).N) (h : P0_1 T t) : ((cfgA T).win (2 : Fin 5)).index t = ![0, (T.ex (tl T t)).val, 0, t.val % 7] := by
  rw [← te_eq, ← col_eq T t h]; exact transform_2_eq T _
theorem index_3 (t : Fin (cfgA T).N) (h : P0_1 T t) : ((cfgA T).win (3 : Fin 5)).index t = ![0, (T.ex (tl T t)).val, t.val % 7, 0] := by
  rw [← te_eq, ← col_eq T t h]; exact transform_3_eq T _

theorem blk_0 (t : Fin (cfgA T).N) (h : P0_1 T t) (r q : Fin 1024) (R : Fin 40960) (hR : R.val = t.val / 7 * 1024 + r.val) :
    iblk T m ρ c (0 : Fin 5) t (ix2 r q) = m ((c : Thread nD τ).loc main_arg2) (ix2 R q) := by
  have e := index_0 T t h
  blk_ext [iblk, e]
theorem blk_1 (t : Fin (cfgA T).N) (h : P0_1 T t) (q : Fin 1024) (k : Fin 512) (f : Fin 3584) (hf : f.val = t.val % 7 * 512 + k.val) :
    iblk T m ρ c (1 : Fin 5) t (ix4 0 0 q k) = m ((c : Thread nD τ).loc main_arg3) (ix4 0 (T.ex (tl T t)) q f) := by
  have e := index_1 T t h
  blk_ext [iblk, e]
theorem blk_2 (t : Fin (cfgA T).N) (h : P0_1 T t) (q : Fin 1024) (k : Fin 512) (f : Fin 3584) (hf : f.val = t.val % 7 * 512 + k.val) :
    iblk T m ρ c (2 : Fin 5) t (ix4 0 0 q k) = m ((c : Thread nD τ).loc main_arg4) (ix4 0 (T.ex (tl T t)) q f) := by
  have e := index_2 T t h
  blk_ext [iblk, e]
theorem blk_3 (t : Fin (cfgA T).N) (h : P0_1 T t) (k : Fin 512) (d : Fin 1024) (f : Fin 3584) (hf : f.val = t.val % 7 * 512 + k.val) :
    iblk T m ρ c (3 : Fin 5) t (ix4 0 0 k d) = m ((c : Thread nD τ).loc main_arg5) (ix4 0 (T.ex (tl T t)) f d) := by
  have e := index_3 T t h
  blk_ext [iblk, e]

/-! ## One working point's part of the sum -/

/-- The row of the array that row `r` of a point's tile is. -/
def row (t : Fin (cfgA T).N) (r : Fin 1024) : Fin 40960 := ⟨t.val / 7 * 1024 + r.val, by have := lt_N T t; omega⟩

/-- What a working point adds at row `r`, column `d`, its staged x block being the tile's. -/
theorem point_sum (t : Fin (cfgA T).N) (h : P0_1 T t) (S : S1024x1024.Idx → Elt Ideal .bf16)
    (hS : ∀ r q, S (ix2 r q) = m ((c : Thread nD τ).loc main_arg2) (ix2 (row T t r) q)) (r d : Fin 1024) :
    (∑ k : Fin 512, gate S (iblk T m ρ c (1 : Fin 5) t) (iblk T m ρ c (2 : Fin 5) t) (ix2 r k) * iblk T m ρ c (3 : Fin 5) t (ix4 0 0 k d) : EReal)
      = part (m ((c : Thread nD τ).loc main_arg2)) (m ((c : Thread nD τ).loc main_arg3)) (m ((c : Thread nD τ).loc main_arg4))
          (m ((c : Thread nD τ).loc main_arg5)) (row T t r) (T.ex (tl T t)) d (t.val % 7) := by
  unfold part
  refine Finset.sum_congr rfl fun k _ => ?_
  have hk : t.val % 7 * 512 + k.val < 3584 := by omega
  unfold summand
  rw [dif_pos hk]
  have e3 := blk_3 T m ρ c t h k d ⟨_, hk⟩ rfl
  have e1 : (fun q => iblk T m ρ c (1 : Fin 5) t (ix4 0 0 q k)) = fun q => m ((c : Thread nD τ).loc main_arg3) (ix4 0 (T.ex (tl T t)) q ⟨_, hk⟩) :=
    funext fun q => blk_1 T m ρ c t h q k ⟨_, hk⟩ rfl
  have e2 : (fun q => iblk T m ρ c (2 : Fin 5) t (ix4 0 0 q k)) = fun q => m ((c : Thread nD τ).loc main_arg4) (ix4 0 (T.ex (tl T t)) q ⟨_, hk⟩) :=
    funext fun q => blk_2 T m ρ c t h q k ⟨_, hk⟩ rfl
  have e0 : (fun q => S (ix2 r q)) = fun q => m ((c : Thread nD τ).loc main_arg2) (ix2 (row T t r) q) := funext fun q => hS r q
  have eg := gate_apply S (iblk T m ρ c (1 : Fin 5) t) (iblk T m ρ c (2 : Fin 5) t) r k
  rw [e0] at eg
  unfold hidden
  refine congrArg₂ (fun a b : EReal => a * b) (eg.trans ?_) e3
  exact congrArg₂ (gated _) e1 e2

end Cert.KernelIdeal.Experts

end
-- ==== Proof.KernelIdeal.Value.lean ====
/- The routed experts' result: what the output block and the staged x block hold after every grid point, the array after
   the run, and the run itself. -/
module

public import proofs.«01_k».proof.Proof.KernelIdeal.Blocks
public import proofs.«01_k».proof.Proof.KernelIdeal.Frame
public import Idealize.ShloMosaic.Lib.Pipeline.Covers

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic

variable (T : Tabs)
variable (m : (ℓ : Loc nD τ sig) → Buf (Elt Ideal) ℓ) (ρ : Dev nD → PrngReg) (c : Dev nD)

/-- The argument arrays' part of column block `j` at row `r` of a point's tile. -/
abbrev partAt (t : Fin (cfgA T).N) (r d : Fin 1024) (j : ℕ) : EReal :=
  part (m ((c : Thread nD τ).loc main_arg2)) (m ((c : Thread nD τ).loc main_arg3)) (m ((c : Thread nD τ).loc main_arg4))
    (m ((c : Thread nD τ).loc main_arg5)) (row T t r) (T.ex (tl T t)) d j

/-- What holds after a point: the scratch is the tile's rows of x if the tile is used, the output block the sum of the
    column blocks done so far, or 0. -/
def Holds (t : Fin (cfgA T).N) (v : (S1024x1024.Idx → Elt Ideal .f32) × Buf (Elt Ideal) ((c : Thread nD τ).loc cc0_scratch0)) : Prop :=
  (P0_1 T t → ∀ r q, staged c v.2 (ix2 r q) = m ((c : Thread nD τ).loc main_arg2) (ix2 (row T t r) q))
  ∧ ∀ r d, v.1 (ix2 r d) = if P0_1 T t then ∑ j ∈ Finset.range (t.val % 7 + 1), partAt T m c t r d j else (0 : EReal)

theorem pay1_apply (y : S1024x1024.Idx) : k0_pay1 (F := Ideal) y = (0 : EReal) := by
  pointwise [k0_pay1]

theorem pay2_apply (x : S1024x1024.Idx → Elt Ideal .f32) (r q : Fin 1024) : k0_pay2 (F := Ideal) x (ix2 r q) = x (ix2 r q) := by
  pointwise [k0_pay2]

/-! ## The step at a point, its blocks named -/

section
variable (t : Fin (cfgA T).N) (prev : (S1024x1024.Idx → Elt Ideal .f32) × Buf (Elt Ideal) ((c : Thread nD τ).loc cc0_scratch0))

theorem step_A (q0 : P0_0 T t) (q1 : P0_1 T t) :
    (step0 T m ρ c t prev).1 = work (k0_pay1 (F := Ideal)) (k0_pay2 (F := Ideal) (iblk T m ρ c (0 : Fin 5) t)) (iblk T m ρ c (1 : Fin 5) t) (iblk T m ρ c (2 : Fin 5) t) (iblk T m ρ c (3 : Fin 5) t)
    ∧ staged c (step0 T m ρ c t prev).2 = k0_pay2 (F := Ideal) (iblk T m ρ c (0 : Fin 5) t) := by
  rw [step0_A T m ρ c t prev q0 q1]
  have e1 := out_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1
  have e2 := staged_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1
  dsimp only
  constructor
  · rw [e1]
  · rw [e2]

theorem step_B (q0 : ¬P0_0 T t) (q1 : P0_1 T t) :
    (step0 T m ρ c t prev).1 = work prev.1 (staged c prev.2) (iblk T m ρ c (1 : Fin 5) t) (iblk T m ρ c (2 : Fin 5) t) (iblk T m ρ c (3 : Fin 5) t)
    ∧ staged c (step0 T m ρ c t prev).2 = staged c prev.2 := by
  rw [step0_B T m ρ c t prev q0 q1]
  have e1 := out_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1
  have e2 := congrArg (staged c) (staged_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1)
  dsimp only
  constructor
  · rw [e1]
  · rw [e2]

theorem step_C (q0 : P0_0 T t) (q1 : ¬P0_1 T t) : (step0 T m ρ c t prev).1 = k0_pay1 (F := Ideal) := by
  rw [step0_C T m ρ c t prev q0 q1]
  exact out_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1

theorem step_D (q0 : ¬P0_0 T t) (q1 : ¬P0_1 T t) : (step0 T m ρ c t prev).1 = prev.1 := by
  have hf : (cfgA T).fresh (4 : Fin 5) t.val = false := by
    rw [fresh_4]; exact decide_eq_false fun h => q0 ((P0_0_iff T t).mpr h)
  rw [step0_D T m ρ c t prev q0 q1]
  simp only [hf, Bool.false_eq_true, ↓reduceIte]

end

/-- A tile's first point. -/
theorem holds_first (t : Fin (cfgA T).N) (q0 : P0_0 T t) (prev) : Holds T m c t (step0 T m ρ c t prev) := by
  have h0 := (P0_0_iff T t).mp q0
  by_cases q1 : P0_1 T t
  · obtain ⟨e1, e2⟩ := step_A T m ρ c t prev q0 q1
    have hx : ∀ r q, k0_pay2 (F := Ideal) (iblk T m ρ c (0 : Fin 5) t) (ix2 r q) = m ((c : Thread nD τ).loc main_arg2) (ix2 (row T t r) q) :=
      fun r q => (pay2_apply _ r q).trans (blk_0 T m ρ c t q1 r q _ rfl)
    refine ⟨fun _ r q => (congrFun e2 _).trans (hx r q), fun r d => ?_⟩
    rw [if_pos q1, h0, Nat.zero_add, Finset.sum_range_one]
    refine ((congrFun e1 _).trans (work_apply _ _ _ _ _ r d)).trans ?_
    have e := point_sum T m ρ c t q1 _ hx r d
    rw [h0] at e
    exact (congrArg₂ (fun a b : EReal => a + b) (pay1_apply _) e).trans (zero_add _)
  · have e1 := step_C T m ρ c t prev q0 q1
    refine ⟨fun h => absurd h q1, fun r d => ?_⟩
    rw [if_neg q1]
    exact (congrFun e1 _).trans (pay1_apply _)

/-- A later point of the tile, from what the point before left. -/
theorem holds_next (t u : Fin (cfgA T).N) (hu : u.val + 1 = t.val) (q0 : ¬P0_0 T t) (prev) (hp : Holds T m c u prev) :
    Holds T m c t (step0 T m ρ c t prev) := by
  have h0 : ¬t.val % 7 = 0 := fun h => q0 ((P0_0_iff T t).mpr h)
  have hdiv : u.val / 7 = t.val / 7 := by omega
  have hmod : u.val % 7 + 1 = t.val % 7 := by omega
  have htl : tl T u = tl T t := Fin.ext hdiv
  have hrow : ∀ r, row T u r = row T t r := fun r => Fin.ext (by show _ / 7 * 1024 + _ = _ / 7 * 1024 + _; rw [hdiv])
  have hq : P0_1 T u ↔ P0_1 T t := by rw [P0_1_iff, P0_1_iff, hdiv]
  obtain ⟨hs, ho⟩ := hp
  by_cases q1 : P0_1 T t
  · obtain ⟨e1, e2⟩ := step_B T m ρ c t prev q0 q1
    have hx : ∀ r q, staged c prev.2 (ix2 r q) = m ((c : Thread nD τ).loc main_arg2) (ix2 (row T t r) q) :=
      fun r q => by rw [← hrow]; exact hs (hq.mpr q1) r q
    refine ⟨fun _ r q => (congrFun e2 _).trans (hx r q), fun r d => ?_⟩
    rw [if_pos q1, Finset.sum_range_succ]
    refine ((congrFun e1 _).trans (work_apply _ _ _ _ _ r d)).trans ?_
    have e := point_sum T m ρ c t q1 _ hx r d
    have eo := ho r d
    rw [if_pos (hq.mpr q1), hmod] at eo
    refine congrArg₂ (fun a b : EReal => a + b) (eo.trans ?_) e
    simp only [partAt, hrow, htl]
  · have e1 := step_D T m ρ c t prev q0 q1
    refine ⟨fun h => absurd h q1, fun r d => ?_⟩
    have eo := ho r d
    rw [if_neg fun h => q1 (hq.mp h)] at eo
    rw [if_neg q1]
    exact (congrFun e1 _).trans eo

theorem holds (n : ℕ) (h : n < (cfgA T).N) : Holds T m c ⟨n, h⟩ (traj0 T m ρ c n h) := by
  induction n with
  | zero => exact holds_first T m ρ c ⟨0, h⟩ ((P0_0_iff T _).mpr rfl) _
  | succ n ih =>
    by_cases q0 : P0_0 T ⟨n + 1, h⟩
    · exact holds_first T m ρ c ⟨n + 1, h⟩ q0 _
    · exact holds_next T m ρ c ⟨n + 1, h⟩ ⟨n, Nat.lt_of_succ_lt h⟩ rfl q0 _ (ih _)

/-- The result array, as one function of the arguments. -/
def result : S40960x1024.Idx → EReal := fun i =>
  routed T (m ((c : Thread nD τ).loc main_arg2)) (m ((c : Thread nD τ).loc main_arg3)) (m ((c : Thread nD τ).loc main_arg4))
    (m ((c : Thread nD τ).loc main_arg5)) (i 0) (i 1)

theorem out4 (i : grid0.Coords) : cc0_transform_4 i = ![(i 0).val, 0] := by
  have h0 : (i 0).val < 40 := (i 0).isLt
  have e : (BitVec.ofNat 32 (i 0).val).toNat = (i 0).val := by rw [BitVec.toNat_ofNat, Nat.mod_eq_of_lt (by omega)]
  unfold cc0_transform_4
  simp only [e]
  rfl

theorem map_4 (i : grid0.Coords) : ((cfgA T).win (4 : Fin 5)).indexMap i = ![(i 0).val, 0] := out4 i

/-- Forty blocks of rows, one of columns. -/
theorem nblk_4 : ((cfgA T).win (4 : Fin 5)).nblk (0 : Fin 2) = 40 ∧ ((cfgA T).win (4 : Fin 5)).nblk (1 : Fin 2) = 1 := by
  constructor
  · show (40960 + 1024 - 1) / 1024 = 40
    norm_num
  · show (1024 + 1024 - 1) / 1024 = 1
    norm_num

/-- The tiles' blocks fill the array. -/
theorem covers_4 : ((cfgA T).win (4 : Fin 5)).Covers :=
  ((cfgA T).win (4 : Fin 5)).covers_of_indexMap_surj rfl (fun a => match a with | ⟨0, _⟩ => Nat.succ_pos 1023 | ⟨1, _⟩ => Nat.succ_pos 1023) fun β =>
    ⟨(fun a => match a with | ⟨0, _⟩ => ⟨(β (0 : Fin 2)).val, (β (0 : Fin 2)).isLt.trans_eq (nblk_4 T).1⟩ | ⟨1, _⟩ => ⟨0, Nat.succ_pos 6⟩ : grid0.Coords), fun a => by
      rw [map_4]
      match a with
      | ⟨0, _⟩ => rfl
      | ⟨1, _⟩ =>
        have h : (β (1 : Fin 2)).val < 1 := (β (1 : Fin 2)).isLt.trans_eq (nblk_4 T).2
        exact (Nat.lt_one_iff.mp h).symm⟩

/-- Row `r` of the block a tile's last point writes back. -/
theorem row_last (t : Fin (cfgA T).N) (r : Fin 1024) : tileOf (row T t r) = tl T t := by
  apply Fin.ext
  show (t.val / 7 * 1024 + r.val) / 1024 = t.val / 7
  omega

/-- The array after the run. -/
theorem final : (dats T m ρ 0 c).arrAt (4 : Fin 5) (cfgA T).N = result T m c := by
  refine (dats T m ρ 0 c).arrAt_eq_of_covers (4 : Fin 5) _ (covers_4 T) fun t hf y => ?_
  have hidx : ((cfgA T).win (4 : Fin 5)).index t = ![t.val / 7, 0] := by
    rw [index_4, out4, coords_0]
  have h6 : t.val % 7 = 6 := by rw [flush_4] at hf; exact of_decide_eq_true hf
  blk_simp
  rw [after0_4]
  obtain ⟨r, d, rfl⟩ : ∃ (r d : Fin 1024), y = (ix2 r d : S1024x1024.Idx) := ⟨y 0, y 1, eq_ix2 y⟩
  have he : (((cfgA T).win (4 : Fin 5)).blk t).view.emb (ix2 r d : S1024x1024.Idx) = (ix2 (row T t r) d : S40960x1024.Idx) := by
    blk_ext [hidx, row]
  rw [he]
  have e := (holds T m ρ c t.val t.isLt).2 r d
  refine e.trans ?_
  show _ = routed T _ _ _ _ (row T t r) d
  unfold routed
  rw [row_last]
  have hq := P0_1_iff T t
  by_cases q1 : P0_1 T t
  · rw [if_pos q1, if_pos (show ((tl T t).val : ℤ) < T.used.toInt from hq.mp q1)]
    show ∑ j ∈ Finset.range (t.val % 7 + 1), _ = _
    rw [h6]
    exact parts_eq _ _ _ _ _ _ _
  · rw [if_neg q1, if_neg (show ¬((tl T t).val : ℤ) < T.used.toInt from fun h => q1 (hq.mpr h))]

end Cert.KernelIdeal.Experts

end
-- ==== Proof.ReferenceIdeal.Value.lean ====
/- The reference's result at one element: the eight experts' values of a row, each times its column of the one-hot table,
   of which at most one is 1. -/
module

public import proofs.«01_k».proof.Proof.Gen.ReferenceIdeal.Run
public import proofs.«01_k».proof.Proof.KernelIdeal.Spec
public import Idealize.ShloMosaic.Lib.Pointwise
public import Idealize.ShloMosaic.Lib.IdealHost
public import Idealize.ShloMosaic.PureOps.Ideal

@[expose] public section

set_option maxRecDepth 16384

noncomputable section

namespace Cert.ReferenceIdeal.Experts

open Cert.ReferenceIdeal Cert.ReferenceIdeal.Gen Cert.ReferenceIdeal.Value
open Cert.KernelIdeal.Experts (Tabs expert hidden gated tileOf routed)
open Idealize.ShloMosaic Idealize.ShloMosaic.TcCoe Idealize.SL.Sem Idealize.ShloMosaic.StableHlo Idealize.ShloMosaic.Tactic

section
variable (T : Tabs) (V0 : Valuation τ sig (Elt Ideal))

/-- The reference's one-hot table. -/
def oneHot : S40960x8.Idx → EReal := res_main_v13 (F := Ideal) V0

/-- A true bit read as a number. -/
theorem one_of_true : (FloatOps.uitofp .f32 (1#1 : BitVec 1) : Ideal .f32) = (1 : EReal) := by
  show (((1 : ℕ) : ℝ) : EReal) = 1
  norm_num

/-- A false bit read as a number. -/
theorem zero_of_false : (FloatOps.uitofp .f32 (0#1 : BitVec 1) : Ideal .f32) = (0 : EReal) := by
  show (((0 : ℕ) : ℝ) : EReal) = 0
  norm_num

/-- The one-hot table: 1 where the row's tile is used and the expert is the tile's. -/
theorem mask (h0 : V0 (Proc.devRef .tc main_arg0) = T.te) (h1 : V0 (Proc.devRef .tc main_arg1) = T.nu) (R : Fin 40960) (e : Fin 8) :
    oneHot V0 (ix2 R e)
      = if ((tileOf R).val : ℤ) < T.used.toInt then (if e = T.ex (tileOf R) then (1 : EReal) else 0) else 0 := by
  have hR : R.val / 1024 < 40 := by omega
  unfold oneHot res_main_v13
  pointwise
  rw [h0, h1, T.nu_eq]
  have hi : (BitVec.ofNat 32 (R.val / 1024)).toInt = ((R.val / 1024 : ℕ) : ℤ) := by
    rw [BitVec.toInt_eq_toNat_cond, BitVec.toNat_ofNat, Nat.mod_eq_of_lt (by omega), if_pos (by omega)]
  have hc : IntOp.cmpi .slt (BitVec.ofNat 32 (R.val / 1024)) T.used = BitVec.ofBool (decide (((R.val / 1024 : ℕ) : ℤ) < T.used.toInt)) := by
    show BitVec.ofBool ((BitVec.ofNat 32 (R.val / 1024)).slt T.used) = _
    rw [BitVec.slt_eq_decide, hi]
  rw [hc]
  have ht : T.te (ix1 ⟨R.val / 1024, hR⟩) = BitVec.ofNat 32 (T.ex (tileOf R)).val := by
    show T.te (ix1 ⟨R.val / 1024, hR⟩) = BitVec.ofNat 32 (T.te (ix1 ⟨R.val / 1024, hR⟩)).toNat
    rw [BitVec.ofNat_toNat, BitVec.setWidth_eq]
  rw [ht]
  by_cases hu : ((tileOf R).val : ℤ) < T.used.toInt
  · rw [if_pos hu, decide_eq_true (show ((R.val / 1024 : ℕ) : ℤ) < T.used.toInt from hu)]
    generalize T.ex (tileOf R) = x
    have hs : ∀ a b : BitVec 32, Scalar.select (BitVec.ofBool true) a b = a := fun _ _ => rfl
    rw [hs]
    by_cases he : e = x
    · subst he
      rw [if_pos rfl]
      refine Eq.trans ?_ one_of_true
      congr 1
      show BitVec.ofBool (_ == _) = _
      rw [beq_self_eq_true]; rfl
    · rw [if_neg he]
      refine Eq.trans ?_ zero_of_false
      congr 1
      revert he
      revert e x
      decide
  · rw [if_neg hu, decide_eq_false (show ¬((R.val / 1024 : ℕ) : ℤ) < T.used.toInt from hu)]
    have hs : ∀ a b : BitVec 32, Scalar.select (BitVec.ofBool false) a b = b := fun _ _ => rfl
    rw [hs]
    refine Eq.trans ?_ zero_of_false
    congr 1
    revert e
    show ∀ e : Fin 8, IntOp.cmpi .eq 4294967295#32 (BitVec.ofNat 32 e.val) = 0#1
    decide

/-- The one-hot sum picks the tile's expert. -/
theorem pick (E : Fin 8 → EReal) (x : Fin 8) (p : Prop) [Decidable p] (c : Fin 8 → EReal)
    (hc : ∀ e, c e = if p then (if e = x then (1 : EReal) else 0) else 0) :
    c 0 * E 0 + c 1 * E 1 + c 2 * E 2 + c 3 * E 3 + c 4 * E 4 + c 5 * E 5 + c 6 * E 6 + c 7 * E 7 = if p then E x else 0 := by
  simp only [hc]
  by_cases hp : p
  · simp only [if_pos hp]
    fin_cases x <;> simp
  · simp [hp]

/-- What the reference's run leaves in its result, as a term of the arguments. -/
def out : S40960x1024.Idx → EReal := val3 (F := Ideal) V0 (Proc.devRef .tc main_v134)

/-- The result at an element, expert by expert. -/
theorem parts_eq (R : Fin 40960) (d : Fin 1024) : out V0 (ix2 R d) =
    oneHot V0 (ix2 R 0) * expert (V0 (Proc.devRef .tc main_arg2)) (V0 (Proc.devRef .tc main_arg3)) (V0 (Proc.devRef .tc main_arg4)) (V0 (Proc.devRef .tc main_arg5)) R 0 d
    + oneHot V0 (ix2 R 1) * expert (V0 (Proc.devRef .tc main_arg2)) (V0 (Proc.devRef .tc main_arg3)) (V0 (Proc.devRef .tc main_arg4)) (V0 (Proc.devRef .tc main_arg5)) R 1 d
    + oneHot V0 (ix2 R 2) * expert (V0 (Proc.devRef .tc main_arg2)) (V0 (Proc.devRef .tc main_arg3)) (V0 (Proc.devRef .tc main_arg4)) (V0 (Proc.devRef .tc main_arg5)) R 2 d
    + oneHot V0 (ix2 R 3) * expert (V0 (Proc.devRef .tc main_arg2)) (V0 (Proc.devRef .tc main_arg3)) (V0 (Proc.devRef .tc main_arg4)) (V0 (Proc.devRef .tc main_arg5)) R 3 d
    + oneHot V0 (ix2 R 4) * expert (V0 (Proc.devRef .tc main_arg2)) (V0 (Proc.devRef .tc main_arg3)) (V0 (Proc.devRef .tc main_arg4)) (V0 (Proc.devRef .tc main_arg5)) R 4 d
    + oneHot V0 (ix2 R 5) * expert (V0 (Proc.devRef .tc main_arg2)) (V0 (Proc.devRef .tc main_arg3)) (V0 (Proc.devRef .tc main_arg4)) (V0 (Proc.devRef .tc main_arg5)) R 5 d
    + oneHot V0 (ix2 R 6) * expert (V0 (Proc.devRef .tc main_arg2)) (V0 (Proc.devRef .tc main_arg3)) (V0 (Proc.devRef .tc main_arg4)) (V0 (Proc.devRef .tc main_arg5)) R 6 d
    + oneHot V0 (ix2 R 7) * expert (V0 (Proc.devRef .tc main_arg2)) (V0 (Proc.devRef .tc main_arg3)) (V0 (Proc.devRef .tc main_arg4)) (V0 (Proc.devRef .tc main_arg5)) R 7 d := by
  unfold out
  rw [val3_main_v134]
  unfold oneHot
  unfold res_main_v89
  pointwise
  unfold res_main_v22 res_main_v37 res_main_v52 res_main_v67 res_main_v82 res_main_v97 res_main_v112 res_main_v127
  pointwise
  rfl

/-- The reference's result: the routed experts. -/
theorem value (h0 : V0 (Proc.devRef .tc main_arg0) = T.te) (h1 : V0 (Proc.devRef .tc main_arg1) = T.nu) :
    out V0 = fun i => routed T (V0 (Proc.devRef .tc main_arg2)) (V0 (Proc.devRef .tc main_arg3)) (V0 (Proc.devRef .tc main_arg4))
      (V0 (Proc.devRef .tc main_arg5)) (i 0) (i 1) := by
  funext i
  obtain ⟨R, d, rfl⟩ : ∃ (R : Fin 40960) (d : Fin 1024), i = (ix2 R d : S40960x1024.Idx) := ⟨i 0, i 1, eq_ix2 i⟩
  refine (parts_eq V0 R d).trans ?_
  show _ = routed T _ _ _ _ R d
  exact pick (fun e => expert (V0 (Proc.devRef .tc main_arg2)) (V0 (Proc.devRef .tc main_arg3)) (V0 (Proc.devRef .tc main_arg4))
    (V0 (Proc.devRef .tc main_arg5)) R e d) (T.ex (tileOf R)) (((tileOf R).val : ℤ) < T.used.toInt)
    (fun e => oneHot V0 (ix2 R e)) (fun e => mask T V0 h0 h1 R e)

end

end Cert.ReferenceIdeal.Experts

end
-- ==== Proof.ReferenceIdeal.Frame.lean ====
/- The reference's runs: straight-line host operations, so every execution ends, with the arguments unchanged and, no
   semaphore being declared, every counter at zero. -/
module

public import proofs.«01_k».proof.Proof.ReferenceIdeal.Value
public import Idealize.ShloMosaic.Lib.Quiescent

@[expose] public section

namespace Cert.ReferenceIdeal.Experts

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (ρ : Dev nD → PrngReg)

/-- Every execution of the reference ends with its arguments unchanged and every counter at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run (F := Ideal) m ρ)

/-- Every execution of the reference ends with its result at `out` and its arguments unchanged. -/
theorem run :
    θ_run (defs (F := Ideal)) (onTc (τ := τ) (main (F := Ideal))) ⟨m, fun _ => 0, ρ⟩ (fun r => ∀ c : Dev nD,
      r.2.mem ((c.tc : Thread nD τ).loc main_v134) = out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (val3_main_v134 (F := Ideal) (launchContents m c)).symm, (h c).2⟩)
    (Value.run (F := Ideal) m ρ)

end Cert.ReferenceIdeal.Experts

end
-- ==== Proof.Equation.lean ====
/- The equation: kernel and reference, from the same arguments, end with the same array. -/
module

public import proofs.«01_k».proof.Proof.KernelIdeal.Pre
public import proofs.«01_k».proof.Proof.KernelIdeal.Value
public import proofs.«01_k».proof.Proof.ReferenceIdeal.Frame

@[expose] public section

namespace Cert.Experts

open Idealize.ShloMosaic Idealize.SL.Sem
open Cert.KernelIdeal.Experts (Tabs Pinned result)

/-- Equal arguments, equal routed sums. -/
theorem routed_congr (T : Tabs) {X X' : KernelIdeal.S40960x1024.Idx → EReal} {W1 W1' W3 W3' : KernelIdeal.S2x8x1024x3584.Idx → EReal}
    {W2 W2' : KernelIdeal.S2x8x3584x1024.Idx → EReal} (h : X' = X) (h1 : W1' = W1) (h3 : W3' = W3) (h2 : W2' = W2) (R : Fin 40960) (d : Fin 1024) :
    KernelIdeal.Experts.routed T X' W1' W3' W2' R d = KernelIdeal.Experts.routed T X W1 W3 W2 R d := by
  subst h h1 h3 h2; rfl

/-- From memories agreeing on the arguments, the reference's value is the kernel's. -/
theorem value_eq (T : Tabs) (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (hp : Pinned T m) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)) :
    ReferenceIdeal.Experts.out (StableHlo.launchContents m' c) = result T m c := by
  obtain ⟨h0, h1, h2, h3, h4, h5⟩ := h
  rw [ReferenceIdeal.Experts.value T (StableHlo.launchContents m' c) (h0.trans (hp.1 c)) (h1.trans (hp.2 c))]
  funext i
  exact routed_congr T h2 h3 h4 h5 (i 0) (i 1)

/-- The value claim. -/
theorem algebraic [hPre : Cert.Pre_tables.Facts] :
    algebraic_KernelIdeal_ReferenceIdeal (hKernelIdeal := KernelIdeal.Gen.facts) (hReferenceIdeal := ReferenceIdeal.Gen.facts) := by
  intro m g m' g' hpre hag
  obtain ⟨T, hp⟩ := KernelIdeal.Experts.pinned m hpre
  refine ⟨fun c => result T m c, ?_, ?_⟩
  · refine (θ_run _ _ _).mono (fun r h c => ⟨?_, h.1 c⟩)
      (θ_run_and (KernelIdeal.Experts.unchanged T m g hp) (KernelIdeal.Experts.run_main T m g hp))
    exact ((h.2 c).1 (4 : Fin 5)).trans (KernelIdeal.Experts.final T m g c)
  · refine (θ_run _ _ _).mono (fun r h c => ⟨?_, (h c).2⟩) (ReferenceIdeal.Experts.run m' g')
    exact (h c).1.trans (value_eq T m m' hp c (hag c))

end Cert.Experts

end
-- ==== Proof.Sums.lean ====
/- The row functions that the calls share: the product sum, the layer norm of one row, and the two gates. -/
module

public import Idealize.ShloMosaic.PureOps.Ideal

@[expose] public section

noncomputable section

namespace Cert.Calls

open Idealize.ShloMosaic

/-- The sum of the products of two vectors' entries. -/
def dot {n : ℕ} (x w : Fin n → EReal) : EReal := ∑ q, x q * w q

/-- The mean of a row of 1024 entries. -/
def mean (z : Fin 1024 → EReal) : EReal := Ideal.div (∑ q, z q) (Ideal.ofBits .f32 0x44800000#32)

/-- One over the root of a row's variance plus the norm's small constant. -/
def scale (z : Fin 1024 → EReal) : EReal :=
  Ideal.rsqrt (Ideal.div (∑ q, (z q - mean z) * (z q - mean z)) (Ideal.ofBits .f32 0x44800000#32) + Ideal.ofBits .f32 0x3727C5AC#32)

/-- The layer norm of one row, with gain `g` and offset `b`. -/
def norm (z g b : Fin 1024 → EReal) (d : Fin 1024) : EReal := (z d - mean z) * scale z * g d + b d

/-- A row weighted by the residual's constant, plus another row. -/
def residual (h m : Fin 1024 → EReal) (d : Fin 1024) : EReal := Ideal.ofBits .f32 0x3FD744FD#32 * h d + m d

/-- The gate of the dense feed-forward layer: `a · logistic a · b`. -/
def gate (a b : EReal) : EReal := a * Ideal.logistic a * b

/-- The spatial gating's activation: `x` times half of one plus a hyperbolic tangent. -/
def gelu (x : EReal) : EReal :=
  x * (Ideal.ofBits .f32 0x3F000000#32 * (1
    + Ideal.tanh (Ideal.ofBits .f32 0x3F4C422A#32 * (x + Ideal.ofBits .f32 0x3D372713#32 * (x * (x * x))))))

end Cert.Calls

end
-- ==== Proof.Kernel2Ideal.Step.lean ====
/- The dense feed-forward layer of one block: the stored expressions, element by element, and the eleven chunks of 256
   hidden units as one sum. -/
module

public import proofs.«01_k».proof.Proof.Sums
public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.PureOps.Ideal

@[expose] public section

set_option maxRecDepth 16384

noncomputable section

namespace Cert.Kernel2Ideal.Calls

open Cert.Kernel2Ideal Cert.Kernel2Ideal.Gen Idealize.ShloMosaic Idealize.ShloMosaic.TcCoe Idealize.ShloMosaic.Tactic Idealize.SL.Sem
open Cert.Calls

/-- The dense feed-forward layer of one row, output column `d`: the sum over all hidden units. -/
def ffn (x : Fin 1024 → EReal) (W1 W3 : S1024x2816.Idx → EReal) (W2 : S2816x1024.Idx → EReal) (d : Fin 1024) : EReal :=
  dot (fun f : Fin 2816 => gate (dot x fun q => W1 (ix2 q f)) (dot x fun q => W3 (ix2 q f))) fun f => W2 (ix2 f d)

/-- The summand of `ffn` at hidden unit number `n` (0 past the last). -/
def summand (x : Fin 1024 → EReal) (W1 W3 : S1024x2816.Idx → EReal) (W2 : S2816x1024.Idx → EReal) (d : Fin 1024) (n : ℕ) : EReal :=
  if h : n < 2816 then gate (dot x fun q => W1 (ix2 q ⟨n, h⟩)) (dot x fun q => W3 (ix2 q ⟨n, h⟩)) * W2 (ix2 ⟨n, h⟩ d) else 0

/-- The sum over the 256 hidden units from number `o` on. -/
def chunk (x : Fin 1024 → EReal) (W1 W3 : S1024x2816.Idx → EReal) (W2 : S2816x1024.Idx → EReal) (d : Fin 1024) (o : ℕ) : EReal :=
  ∑ k : Fin 256, summand x W1 W3 W2 d (o + k.val)

/-- The eleven chunks, added in the order the kernel adds them, make the whole sum. -/
theorem chunks_eq (x : Fin 1024 → EReal) (W1 W3 : S1024x2816.Idx → EReal) (W2 : S2816x1024.Idx → EReal) (d : Fin 1024) :
    ∑ j ∈ Finset.range 11, chunk x W1 W3 W2 d (j * 256) = ffn x W1 W3 W2 d := by
  rw [Finset.sum_range]
  unfold chunk
  rw [Fin.sum_univ_univ_mul_add 11 256 (summand x W1 W3 W2 d)]
  unfold ffn dot
  refine Finset.sum_congr rfl fun f _ => ?_
  unfold summand
  rw [dif_pos f.isLt]
  rfl

/-- The sum over the 256 hidden units of a slab of the weights. -/
def slab (x : Fin 1024 → EReal) (W1 W3 : S1024x256.Idx → EReal) (W2 : S256x1024.Idx → EReal) (d : Fin 1024) : EReal :=
  ∑ k : Fin 256, gate (dot x fun q => W1 (ix2 q k)) (dot x fun q => W3 (ix2 q k)) * W2 (ix2 k d)

/-- A slab cut from the weights at hidden unit `o` gives the chunk at `o`. -/
theorem slab_chunk (x : Fin 1024 → EReal) (W1 W3 : Vec Ideal S1024x2816 .bf16) (W2 : Vec Ideal S2816x1024 .bf16) (d : Fin 1024) (o : ℕ)
    (ho : o + 256 ≤ 2816) (h1 h3 h2) :
    slab x (View.ld W1 (Rect.unit (s := S1024x2816) ![0, o] ![1024, 256] h1)) (View.ld W3 (Rect.unit (s := S1024x2816) ![0, o] ![1024, 256] h3))
      (View.ld W2 (Rect.unit (s := S2816x1024) ![o, 0] ![256, 1024] h2)) d = chunk x W1 W3 W2 d o := by
  unfold slab chunk
  refine Finset.sum_congr rfl fun k _ => ?_
  have hk : o + k.val < 2816 := by have := k.isLt; omega
  unfold summand
  rw [dif_pos hk]
  have e1 : ∀ (W : Vec Ideal S1024x2816 .bf16) (h) (q : Fin 1024), View.ld W (Rect.unit (s := S1024x2816) ![0, o] ![1024, 256] h) (ix2 q k : S1024x256.Idx) = W (ix2 q ⟨o + k.val, hk⟩) :=
    fun W h q => View.ld_unit_apply_of W _ _ h _ _ fun a => by
      match a with
      | ⟨0, _⟩ => exact (Nat.zero_add _).symm
      | ⟨1, _⟩ => rfl
  have e2 : View.ld W2 (Rect.unit (s := S2816x1024) ![o, 0] ![256, 1024] h2) (ix2 k d : S256x1024.Idx) = W2 (ix2 ⟨o + k.val, hk⟩ d) :=
    View.ld_unit_apply_of W2 _ _ h2 _ _ fun a => by
      match a with
      | ⟨0, _⟩ => rfl
      | ⟨1, _⟩ => exact (Nat.zero_add _).symm
  exact congrArg₂ (fun u v : EReal => u * v) (congrArg₂ gate (congrArg (dot x) (funext fun q => e1 W1 h1 q)) (congrArg (dot x) (funext fun q => e1 W3 h3 q))) e2

variable (X : Vec Ideal S512x1024 .bf16) (A B : Vec Ideal S1024x256 .bf16) (C : Vec Ideal S256x1024 .bf16) (Y : Vec Ideal S512x1024 .f32)
  (r : Fin 512) (d : Fin 1024)

/-- The chunks' stored sums: each adds its slab's sum to what the block held. -/
theorem stage_0 : k0_pay7 (F := Ideal) X A B C (ix2 r d) = slab (fun q => X (ix2 r q)) A B C d := by
  unfold k0_pay7
  pointwise
  rfl

theorem stage_1 : k0_pay9 (F := Ideal) (k0_pay8 X A B C Y) (ix2 r d) = Y (ix2 r d) + slab (fun q => X (ix2 r q)) A B C d := by
  unfold k0_pay9 k0_pay8
  pointwise
  rfl

theorem stage_2 : k0_pay10 (F := Ideal) X A B C Y (ix2 r d) = Y (ix2 r d) + slab (fun q => X (ix2 r q)) A B C d := by
  unfold k0_pay10
  pointwise
  rfl

theorem stage_3 : k0_pay12 (F := Ideal) (k0_pay11 X A B C) Y (ix2 r d) = Y (ix2 r d) + slab (fun q => X (ix2 r q)) A B C d := by
  unfold k0_pay12 k0_pay11
  pointwise
  rfl

theorem stage_4 : k0_pay13 (F := Ideal) X A B C Y (ix2 r d) = Y (ix2 r d) + slab (fun q => X (ix2 r q)) A B C d := by
  unfold k0_pay13
  pointwise
  rfl

theorem stage_5 : k0_pay15 (F := Ideal) (k0_pay14 X A B) C Y (ix2 r d) = Y (ix2 r d) + slab (fun q => X (ix2 r q)) A B C d := by
  unfold k0_pay15 k0_pay14
  pointwise
  rfl

theorem stage_6 : k0_pay16 (F := Ideal) X A B C Y (ix2 r d) = Y (ix2 r d) + slab (fun q => X (ix2 r q)) A B C d := by
  unfold k0_pay16
  pointwise
  rfl

theorem stage_7 : k0_pay19 (F := Ideal) (k0_pay17 X B) (k0_pay18 X A) C Y (ix2 r d) = Y (ix2 r d) + slab (fun q => X (ix2 r q)) A B C d := by
  unfold k0_pay19 k0_pay17 k0_pay18
  pointwise
  rfl

theorem stage_8 : k0_pay20 (F := Ideal) X A B C Y (ix2 r d) = Y (ix2 r d) + slab (fun q => X (ix2 r q)) A B C d := by
  unfold k0_pay20
  pointwise
  rfl

theorem stage_9 : k0_pay23 (F := Ideal) X (k0_pay21 X A) (k0_pay22 B) C Y (ix2 r d) = Y (ix2 r d) + slab (fun q => X (ix2 r q)) A B C d := by
  unfold k0_pay23 k0_pay21 k0_pay22
  pointwise
  rfl

theorem stage_10 : k0_pay24 (F := Ideal) X A B C Y (ix2 r d) = Y (ix2 r d) + slab (fun q => X (ix2 r q)) A B C d := by
  unfold k0_pay24
  pointwise
  rfl

variable (W1 W3 : Vec Ideal S1024x2816 .bf16) (W2 : Vec Ideal S2816x1024 .bf16)

/-- The accumulator after chunk 0. -/
def acc_0 : Vec Ideal S512x1024 .f32 :=
  k0_pay7 (F := Ideal) X
      (View.ld W1 (Rect.unit ![0, 0] ![1024, 256] inb_S1024x2816_S1024x256_0_0))
      (View.ld W3 (Rect.unit ![0, 0] ![1024, 256] inb_S1024x2816_S1024x256_0_0))
      (View.ld W2 (Rect.unit ![0, 0] ![256, 1024] inb_S2816x1024_S256x1024_0_0))

/-- The accumulator after chunk 1. -/
def acc_1 : Vec Ideal S512x1024 .f32 :=
  k0_pay9 (F := Ideal) (k0_pay8 X
      (View.ld W1 (Rect.unit ![0, 256] ![1024, 256] inb_S1024x2816_S1024x256_0_256))
      (View.ld W3 (Rect.unit ![0, 256] ![1024, 256] inb_S1024x2816_S1024x256_0_256))
      (View.ld W2 (Rect.unit ![256, 0] ![256, 1024] inb_S2816x1024_S256x1024_256_0)) (acc_0 X W1 W3 W2))

/-- The accumulator after chunk 2. -/
def acc_2 : Vec Ideal S512x1024 .f32 :=
  k0_pay10 (F := Ideal) X
      (View.ld W1 (Rect.unit ![0, 512] ![1024, 256] inb_S1024x2816_S1024x256_0_512))
      (View.ld W3 (Rect.unit ![0, 512] ![1024, 256] inb_S1024x2816_S1024x256_0_512))
      (View.ld W2 (Rect.unit ![512, 0] ![256, 1024] inb_S2816x1024_S256x1024_512_0)) (acc_1 X W1 W3 W2)

/-- The accumulator after chunk 3. -/
def acc_3 : Vec Ideal S512x1024 .f32 :=
  k0_pay12 (F := Ideal) (k0_pay11 X
      (View.ld W1 (Rect.unit ![0, 768] ![1024, 256] inb_S1024x2816_S1024x256_0_768))
      (View.ld W3 (Rect.unit ![0, 768] ![1024, 256] inb_S1024x2816_S1024x256_0_768))
      (View.ld W2 (Rect.unit ![768, 0] ![256, 1024] inb_S2816x1024_S256x1024_768_0))) (acc_2 X W1 W3 W2)

/-- The accumulator after chunk 4. -/
def acc_4 : Vec Ideal S512x1024 .f32 :=
  k0_pay13 (F := Ideal) X
      (View.ld W1 (Rect.unit ![0, 1024] ![1024, 256] inb_S1024x2816_S1024x256_0_1024))
      (View.ld W3 (Rect.unit ![0, 1024] ![1024, 256] inb_S1024x2816_S1024x256_0_1024))
      (View.ld W2 (Rect.unit ![1024, 0] ![256, 1024] inb_S2816x1024_S256x1024_1024_0)) (acc_3 X W1 W3 W2)

/-- The accumulator after chunk 5. -/
def acc_5 : Vec Ideal S512x1024 .f32 :=
  k0_pay15 (F := Ideal) (k0_pay14 X
      (View.ld W1 (Rect.unit ![0, 1280] ![1024, 256] inb_S1024x2816_S1024x256_0_1280))
      (View.ld W3 (Rect.unit ![0, 1280] ![1024, 256] inb_S1024x2816_S1024x256_0_1280)))
      (View.ld W2 (Rect.unit ![1280, 0] ![256, 1024] inb_S2816x1024_S256x1024_1280_0)) (acc_4 X W1 W3 W2)

/-- The accumulator after chunk 6. -/
def acc_6 : Vec Ideal S512x1024 .f32 :=
  k0_pay16 (F := Ideal) X
      (View.ld W1 (Rect.unit ![0, 1536] ![1024, 256] inb_S1024x2816_S1024x256_0_1536))
      (View.ld W3 (Rect.unit ![0, 1536] ![1024, 256] inb_S1024x2816_S1024x256_0_1536))
      (View.ld W2 (Rect.unit ![1536, 0] ![256, 1024] inb_S2816x1024_S256x1024_1536_0)) (acc_5 X W1 W3 W2)

/-- The accumulator after chunk 7. -/
def acc_7 : Vec Ideal S512x1024 .f32 :=
  k0_pay19 (F := Ideal) (k0_pay17 X
      (View.ld W3 (Rect.unit ![0, 1792] ![1024, 256] inb_S1024x2816_S1024x256_0_1792))) (k0_pay18 X
      (View.ld W1 (Rect.unit ![0, 1792] ![1024, 256] inb_S1024x2816_S1024x256_0_1792)))
      (View.ld W2 (Rect.unit ![1792, 0] ![256, 1024] inb_S2816x1024_S256x1024_1792_0)) (acc_6 X W1 W3 W2)

/-- The accumulator after chunk 8. -/
def acc_8 : Vec Ideal S512x1024 .f32 :=
  k0_pay20 (F := Ideal) X
      (View.ld W1 (Rect.unit ![0, 2048] ![1024, 256] inb_S1024x2816_S1024x256_0_2048))
      (View.ld W3 (Rect.unit ![0, 2048] ![1024, 256] inb_S1024x2816_S1024x256_0_2048))
      (View.ld W2 (Rect.unit ![2048, 0] ![256, 1024] inb_S2816x1024_S256x1024_2048_0)) (acc_7 X W1 W3 W2)

/-- The accumulator after chunk 9. -/
def acc_9 : Vec Ideal S512x1024 .f32 :=
  k0_pay23 (F := Ideal) X (k0_pay21 X
      (View.ld W1 (Rect.unit ![0, 2304] ![1024, 256] inb_S1024x2816_S1024x256_0_2304))) (k0_pay22
      (View.ld W3 (Rect.unit ![0, 2304] ![1024, 256] inb_S1024x2816_S1024x256_0_2304)))
      (View.ld W2 (Rect.unit ![2304, 0] ![256, 1024] inb_S2816x1024_S256x1024_2304_0)) (acc_8 X W1 W3 W2)

/-- The accumulator after chunk 10. -/
def acc_10 : Vec Ideal S512x1024 .f32 :=
  k0_pay24 (F := Ideal) X
      (View.ld W1 (Rect.unit ![0, 2560] ![1024, 256] inb_S1024x2816_S1024x256_0_2560))
      (View.ld W3 (Rect.unit ![0, 2560] ![1024, 256] inb_S1024x2816_S1024x256_0_2560))
      (View.ld W2 (Rect.unit ![2560, 0] ![256, 1024] inb_S2816x1024_S256x1024_2560_0)) (acc_9 X W1 W3 W2)

/-- The accumulator after the last chunk is the whole layer. -/
theorem acc_eq : acc_10 X W1 W3 W2 (ix2 r d) = ffn (fun q => X (ix2 r q)) W1 W3 W2 d := by
  rw [← chunks_eq]
  simp only [Finset.sum_range_succ, Finset.sum_range_zero, zero_add]
  refine (stage_10 X _ _ _ _ r d).trans ?_
  refine congrArg₂ (fun u v : EReal => u + v) ?_ (slab_chunk _ W1 W3 W2 d 2560 (by decide) _ _ _)
  refine (stage_9 X _ _ _ _ r d).trans ?_
  refine congrArg₂ (fun u v : EReal => u + v) ?_ (slab_chunk _ W1 W3 W2 d 2304 (by decide) _ _ _)
  refine (stage_8 X _ _ _ _ r d).trans ?_
  refine congrArg₂ (fun u v : EReal => u + v) ?_ (slab_chunk _ W1 W3 W2 d 2048 (by decide) _ _ _)
  refine (stage_7 X _ _ _ _ r d).trans ?_
  refine congrArg₂ (fun u v : EReal => u + v) ?_ (slab_chunk _ W1 W3 W2 d 1792 (by decide) _ _ _)
  refine (stage_6 X _ _ _ _ r d).trans ?_
  refine congrArg₂ (fun u v : EReal => u + v) ?_ (slab_chunk _ W1 W3 W2 d 1536 (by decide) _ _ _)
  refine (stage_5 X _ _ _ _ r d).trans ?_
  refine congrArg₂ (fun u v : EReal => u + v) ?_ (slab_chunk _ W1 W3 W2 d 1280 (by decide) _ _ _)
  refine (stage_4 X _ _ _ _ r d).trans ?_
  refine congrArg₂ (fun u v : EReal => u + v) ?_ (slab_chunk _ W1 W3 W2 d 1024 (by decide) _ _ _)
  refine (stage_3 X _ _ _ _ r d).trans ?_
  refine congrArg₂ (fun u v : EReal => u + v) ?_ (slab_chunk _ W1 W3 W2 d 768 (by decide) _ _ _)
  refine (stage_2 X _ _ _ _ r d).trans ?_
  refine congrArg₂ (fun u v : EReal => u + v) ?_ (slab_chunk _ W1 W3 W2 d 512 (by decide) _ _ _)
  refine (stage_1 X _ _ _ _ r d).trans ?_
  refine congrArg₂ (fun u v : EReal => u + v) ?_ (slab_chunk _ W1 W3 W2 d 256 (by decide) _ _ _)
  exact (stage_0 X _ _ _ r d).trans (slab_chunk _ W1 W3 W2 d 0 (by decide) _ _ _)

/-- The attention's projection with the residual and its layer norm, element by element. -/
theorem pay3_apply (a : Vec Ideal S512x1024 .bf16) (wo : Vec Ideal S1024x1024 .bf16) (h : Vec Ideal S512x1024 .f32) (g b : Vec Ideal S1x1024 .f32) :
    k0_pay3 (F := Ideal) a wo h g b (ix2 r d)
      = norm (residual (fun e => h (ix2 r e)) fun e => dot (fun q => a (ix2 r q)) fun q => wo (ix2 q e)) (fun e => g (ix2 0 e)) (fun e => b (ix2 0 e)) d := by
  unfold k0_pay3
  pointwise
  rfl

theorem pay4_apply (a : Vec Ideal S512x1024 .bf16) (wo : Vec Ideal S1024x1024 .bf16) (h : Vec Ideal S512x1024 .f32) (g b : Vec Ideal S1x1024 .f32) :
    k0_pay4 (F := Ideal) a wo h g b (ix2 r d) = k0_pay3 (F := Ideal) a wo h g b (ix2 r d) := by
  unfold k0_pay4
  pointwise

theorem pay6_apply (a : Vec Ideal S512x1024 .bf16) (wo : Vec Ideal S1024x1024 .bf16) (h : Vec Ideal S512x1024 .f32) (g b : Vec Ideal S1x1024 .f32) :
    k0_pay6 (F := Ideal) (k0_pay5 a wo h g b) (ix2 r d) = k0_pay3 (F := Ideal) a wo h g b (ix2 r d) := by
  unfold k0_pay6 k0_pay5
  pointwise

/-- The second residual with its layer norm, element by element. -/
theorem pay1_apply (h f : Vec Ideal S512x1024 .f32) (g b : Vec Ideal S1x1024 .f32) :
    k0_pay1 (F := Ideal) h f g b (ix2 r d)
      = norm (residual (fun e => h (ix2 r e)) fun e => f (ix2 r e)) (fun e => g (ix2 0 e)) (fun e => b (ix2 0 e)) d := by
  unfold k0_pay1
  pointwise
  rfl

end Cert.Kernel2Ideal.Calls

end
-- ==== Proof.Kernel2Ideal.Value.lean ====
/- The output projection with the dense feed-forward layer: what its two result arrays hold after the run. -/
module

public import proofs.«01_k».proof.Proof.Kernel2Ideal.Step

@[expose] public section

set_option maxRecDepth 16384

noncomputable section

namespace Cert.Kernel2Ideal.Calls

open Cert.Kernel2Ideal Cert.Kernel2Ideal.Gen Idealize.ShloMosaic Idealize.ShloMosaic.TcCoe Idealize.ShloMosaic.Tactic Idealize.SL.Sem
open Cert.Calls

variable (m : (ℓ : Loc nD τ sig) → Buf (Elt Ideal) ℓ) (c : Dev nD)

/-- The layer of row `R`: the projection with the residual and its norm, then the feed-forward layer with the residual and its norm. -/
def mixed (A : S16384x1024.Idx → EReal) (WO : S1024x1024.Idx → EReal) (MG MB : S1024.Idx → EReal) (H : S16384x1024.Idx → EReal) (R : Fin 16384) :
    Fin 1024 → EReal :=
  norm (residual (fun e => H (ix2 R e)) fun e => dot (fun q : Fin 1024 => A (ix2 R q)) fun q => WO (ix2 q e)) (fun e => MG (ix1 e)) fun e => MB (ix1 e)

def layer (A : S16384x1024.Idx → EReal) (WO : S1024x1024.Idx → EReal) (MG MB : S1024.Idx → EReal) (W1 W3 : S1024x2816.Idx → EReal)
    (W2 : S2816x1024.Idx → EReal) (H : S16384x1024.Idx → EReal) (FG FB : S1024.Idx → EReal) : S16384x1024.Idx → EReal := fun i =>
  norm (residual (mixed A WO MG MB H (i 0)) (ffn (mixed A WO MG MB H (i 0)) W1 W3 W2)) (fun e => FG (ix1 e)) (fun e => FB (ix1 e)) (i 1)

/-- The blocks' places at each grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![0, 0]
    ∧ win0_9.index t = ![0, 0] ∧ win0_10.index t = ![t.val, 0] ∧ win0_11.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![0, 0]
    ∧ win0_9.index t = ![0, 0] ∧ win0_10.index t = ![t.val, 0] ∧ win0_11.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 1024) : iblk m c 0 t (ix2 r q) = m ((c : Thread nD τ).loc main_arg0) (ix2 (row t r) q) := by
  blk_ext [iblk, V, idx t, row]

theorem blk_7 (t : Fin cfg0.N) (r : Fin 512) (q : Fin 1024) : iblk m c 7 t (ix2 r q) = m ((c : Thread nD τ).loc main_arg7) (ix2 (row t r) q) := by
  blk_ext [iblk, V, idx t, row]

theorem blk_1 (t : Fin cfg0.N) : (iblk m c 1 t : S1024x1024.Idx → EReal) = m ((c : Thread nD τ).loc main_arg1) := by
  funext i
  blk_ext [iblk, V, idx t]

theorem blk_4 (t : Fin cfg0.N) : (iblk m c 4 t : S1024x2816.Idx → EReal) = m ((c : Thread nD τ).loc main_arg4) := by
  funext i
  blk_ext [iblk, V, idx t]

theorem blk_5 (t : Fin cfg0.N) : (iblk m c 5 t : S1024x2816.Idx → EReal) = m ((c : Thread nD τ).loc main_arg5) := by
  funext i
  blk_ext [iblk, V, idx t]

theorem blk_6 (t : Fin cfg0.N) : (iblk m c 6 t : S2816x1024.Idx → EReal) = m ((c : Thread nD τ).loc main_arg6) := by
  funext i
  blk_ext [iblk, V, idx t]

theorem blk_2 (t : Fin cfg0.N) (d : Fin 1024) : iblk m c 2 t (ix2 0 d) = m ((c : Thread nD τ).loc main_arg2) (ix1 d) := by
  blk_ext! [iblk, V, idx t]

theorem blk_3 (t : Fin cfg0.N) (d : Fin 1024) : iblk m c 3 t (ix2 0 d) = m ((c : Thread nD τ).loc main_arg3) (ix1 d) := by
  blk_ext! [iblk, V, idx t]

theorem blk_8 (t : Fin cfg0.N) (d : Fin 1024) : iblk m c 8 t (ix2 0 d) = m ((c : Thread nD τ).loc main_arg8) (ix1 d) := by
  blk_ext! [iblk, V, idx t]

theorem blk_9 (t : Fin cfg0.N) (d : Fin 1024) : iblk m c 9 t (ix2 0 d) = m ((c : Thread nD τ).loc main_arg9) (ix1 d) := by
  blk_ext! [iblk, V, idx t]

/-- The arguments' values of `layer` in the launch memory. -/
def out : S16384x1024.Idx → EReal := layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What a point's first norm gives, as the array's row. -/
theorem mixed_blk (t : Fin cfg0.N) (r : Fin 512) (d : Fin 1024) :
    k0_pay3 (F := Ideal) (iblk m c 0 t) (iblk m c 1 t) (iblk m c 7 t) (iblk m c 2 t) (iblk m c 3 t) (ix2 r d)
      = mixed (m ((c : Thread nD τ).loc main_arg0)) (m ((c : Thread nD τ).loc main_arg1)) (m ((c : Thread nD τ).loc main_arg2))
          (m ((c : Thread nD τ).loc main_arg3)) (m ((c : Thread nD τ).loc main_arg7)) (row t r) d := by
  refine (pay3_apply r d _ _ _ _ _).trans ?_
  unfold mixed
  rw [blk_1]
  have e7 := funext fun e => blk_7 m c t r e
  have e0 := funext fun q => blk_0 m c t r q
  have e2 := funext fun e => blk_2 m c t e
  have e3 := funext fun e => blk_3 m c t e
  exact congrFun (congr (congrArg₂ norm (congrArg₂ residual e7 (funext fun e => congrArg₂ dot e0 rfl)) e2) e3) d

/-- What a point stores to the first result's block, element by element. -/
theorem pay_blk (t : Fin cfg0.N) (r : Fin 512) (d : Fin 1024) :
    k0_pay1 (F := Ideal) (k0_pay4 (iblk m c 0 t) (iblk m c 1 t) (iblk m c 7 t) (iblk m c 2 t) (iblk m c 3 t))
      (acc_10 (k0_pay6 (k0_pay5 (iblk m c 0 t) (iblk m c 1 t) (iblk m c 7 t) (iblk m c 2 t) (iblk m c 3 t))) (iblk m c 4 t) (iblk m c 5 t) (iblk m c 6 t))
      (iblk m c 8 t) (iblk m c 9 t) (ix2 r d) = out m c (ix2 (row t r) d) := by
  refine (pay1_apply r d _ _ _ _).trans ?_
  unfold out layer
  have e4 : (fun e => k0_pay4 (F := Ideal) (iblk m c 0 t) (iblk m c 1 t) (iblk m c 7 t) (iblk m c 2 t) (iblk m c 3 t) (ix2 r e)) = _ :=
    funext fun e => (pay4_apply r e _ _ _ _ _).trans (mixed_blk m c t r e)
  have e6 : (fun e => k0_pay6 (F := Ideal) (k0_pay5 (iblk m c 0 t) (iblk m c 1 t) (iblk m c 7 t) (iblk m c 2 t) (iblk m c 3 t)) (ix2 r e)) = _ :=
    funext fun e => (pay6_apply r e _ _ _ _ _).trans (mixed_blk m c t r e)
  have ea : (fun e => acc_10 (k0_pay6 (k0_pay5 (iblk m c 0 t) (iblk m c 1 t) (iblk m c 7 t) (iblk m c 2 t) (iblk m c 3 t))) (iblk m c 4 t) (iblk m c 5 t) (iblk m c 6 t) (ix2 r e)) = _ :=
    funext fun e => (acc_eq _ r e _ _ _).trans (congrFun (congr (congr (congrArg₂ ffn e6 (blk_4 m c t)) (blk_5 m c t)) (blk_6 m c t)) e)
  exact congrFun (congr (congrArg₂ norm (congrArg₂ residual e4 ea) (funext fun e => blk_8 m c t e)) (funext fun e => blk_9 m c t e)) d

/-- The first result's array after the run. -/
theorem final_10 : (dats (F := Ideal) m 0 c).arrAt 10 cfg0.N = out m c := by
  refine (dats m 0 c).arrAt_eq_of_covers 10 _ (by decide +kernel) fun t hf y => ?_
  blk_simp
  rw [after0_10]
  simp only [outsAt0]
  frame_out
  obtain ⟨r, d, rfl⟩ : ∃ (r : Fin 512) (d : Fin 1024), y = (ix2 r d : S512x1024.Idx) := ⟨y 0, y 1, eq_ix2 y⟩
  have he : ((cfg0.win 10).blk t).view.emb (ix2 r d : S512x1024.Idx) = (ix2 (row t r) d : S16384x1024.Idx) := by
    blk_ext [idx t, row]
  refine Eq.trans ?_ (congrArg (out m c) he).symm
  exact pay_blk m c t r d

/-- The second result's array after the run: the same values. -/
theorem final_11 : (dats (F := Ideal) m 0 c).arrAt 11 cfg0.N = out m c := by
  refine (dats m 0 c).arrAt_eq_of_covers 11 _ (by decide +kernel) fun t hf y => ?_
  blk_simp
  rw [after0_11]
  simp only [outsAt0]
  frame_out
  obtain ⟨r, d, rfl⟩ : ∃ (r : Fin 512) (d : Fin 1024), y = (ix2 r d : S512x1024.Idx) := ⟨y 0, y 1, eq_ix2 y⟩
  have he : ((cfg0.win 11).blk t).view.emb (ix2 r d : S512x1024.Idx) = (ix2 (row t r) d : S16384x1024.Idx) := by
    blk_ext [idx t, row]
  refine Eq.trans ?_ (congrArg (out m c) he).symm
  exact pay_blk m c t r d

end Cert.Kernel2Ideal.Calls

end
-- ==== Proof.Reference2Ideal.Claim.lean ====
/- The output projection with the dense feed-forward layer: its claims. -/
module

public import proofs.«01_k».proof.Defs
public import proofs.«01_k».proof.Proof.Kernel2Ideal.Value
public import proofs.«01_k».proof.Proof.Gen.Reference2Ideal.Run
public import Idealize.ShloMosaic.Lib.Quiescent

@[expose] public section

set_option maxRecDepth 16384

noncomputable section

namespace Cert.Reference2Ideal.Calls

open Cert.Reference2Ideal Cert.Reference2Ideal.Gen Idealize.ShloMosaic Idealize.ShloMosaic.TcCoe Idealize.ShloMosaic.Tactic Idealize.SL.Sem
open Cert.Calls
open Cert.Kernel2Ideal.Calls (mixed layer ffn out)

/-- The residual with a branch's result, as an array. -/
def sumA (H M : FVec Ideal S16384x1024 .f32) : FVec Ideal S16384x1024 .f32 :=
  addf (mulf (broadcastInDim S16384x1024 ![] bcast_S_S16384x1024 (constant S_ .f32 0x3FD744FD#32)) H) M

/-- The rows' means, as an array. -/
def meanA (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_))
    (broadcastInDim S16384x1 ![] bcast_S_S16384x1 (constant S_ .f32 0x44800000#32))

/-- The rows less their means, as an array. -/
def centA (Z : FVec Ideal S16384x1024 .f32) : FVec Ideal S16384x1024 .f32 :=
  subf Z (broadcastInDim S16384x1024 ![0, 1] bcast_S16384x1_S16384x1024_0_1 (meanA Z))

/-- The layer norm, as an array. -/
def normA (Z : FVec Ideal S16384x1024 .f32) (G B : FVec Ideal S1024 .f32) : FVec Ideal S16384x1024 .f32 :=
  addf (mulf (mulf (centA Z) (broadcastInDim S16384x1024 ![0, 1] bcast_S16384x1_S16384x1024_0_1
      (Host.rsqrt (addf (meanA (mulf (centA Z) (centA Z))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 G)))
    (broadcastInDim S16384x1024 ![0, 1] bcast_S1x1024_S16384x1024_0_1 (broadcastInDim S1x1024 ![1] bcast_S1024_S1x1024_1 B))

/-- The feed-forward layer, as an array. -/
def ffnA (X : FVec Ideal S16384x1024 .f32) (W1 W3 : FVec Ideal S1024x2816 .f32) (W2 : FVec Ideal S2816x1024 .f32) : FVec Ideal S16384x1024 .f32 :=
  Host.dotGeneral dot_S16384x2816_S2816x1024_S16384x1024_1_0_0_1_n_n none
    (mulf (mulf (Host.dotGeneral dot_S16384x1024_S1024x2816_S16384x2816_1_0_0_1_n_n none X W1)
        (Host.divf (broadcastInDim S16384x2816 ![] bcast_S_S16384x2816 (constant S_ .f32 0x3F800000#32))
          (addf (broadcastInDim S16384x2816 ![] bcast_S_S16384x2816 (constant S_ .f32 0x3F800000#32))
            (Host.exp (Host.negf (Host.dotGeneral dot_S16384x1024_S1024x2816_S16384x2816_1_0_0_1_n_n none X W1))))))
      (Host.dotGeneral dot_S16384x1024_S1024x2816_S16384x2816_1_0_0_1_n_n none X W3)) W2

theorem sumA_apply (H M : FVec Ideal S16384x1024 .f32) (R : Fin 16384) (d : Fin 1024) :
    sumA H M (ix2 R d) = residual (fun e => H (ix2 R e)) (fun e => M (ix2 R e)) d := by
  unfold sumA
  pointwise
  rfl

theorem meanA_apply (Z : FVec Ideal S16384x1024 .f32) (R : Fin 16384) : meanA Z (ix2 R 0) = mean fun e => Z (ix2 R e) := by
  unfold meanA
  pointwise
  rfl

theorem centA_apply (Z : FVec Ideal S16384x1024 .f32) (R : Fin 16384) (d : Fin 1024) :
    centA Z (ix2 R d) = Z (ix2 R d) - mean fun e => Z (ix2 R e) := by
  rw [← meanA_apply]
  unfold centA
  pointwise

theorem normA_apply (Z : FVec Ideal S16384x1024 .f32) (G B : FVec Ideal S1024 .f32) (R : Fin 16384) (d : Fin 1024) :
    normA Z G B (ix2 R d) = norm (fun e => Z (ix2 R e)) (fun e => G (ix1 e)) (fun e => B (ix1 e)) d := by
  unfold normA
  pointwise [meanA_apply, centA_apply]
  rfl

theorem ffnA_apply (X : FVec Ideal S16384x1024 .f32) (W1 W3 : FVec Ideal S1024x2816 .f32) (W2 : FVec Ideal S2816x1024 .f32) (R : Fin 16384) (d : Fin 1024) :
    ffnA X W1 W3 W2 (ix2 R d) = ffn (fun q => X (ix2 R q)) W1 W3 W2 d := by
  unfold ffnA
  pointwise
  rfl

/-- The projection with the residual and its norm, as an array. -/
def mixedA (A : FVec Ideal S16384x1024 .bf16) (WO : FVec Ideal S1024x1024 .f32) (MG MB : FVec Ideal S1024 .f32) (H : FVec Ideal S16384x1024 .f32) :
    FVec Ideal S16384x1024 .f32 :=
  normA (sumA H (Host.dotGeneral dot_S16384x1024_S1024x1024_S16384x1024_1_0_0_1_n_n none (extf .f32 A bitsLt_bf16_f32) WO)) MG MB

theorem mixedA_apply (A : FVec Ideal S16384x1024 .bf16) (WO : FVec Ideal S1024x1024 .f32) (MG MB : FVec Ideal S1024 .f32) (H : FVec Ideal S16384x1024 .f32)
    (R : Fin 16384) (d : Fin 1024) : mixedA A WO MG MB H (ix2 R d) = mixed A WO MG MB H R d := by
  unfold mixedA mixed
  rw [normA_apply]
  refine congrFun (congrFun (congrFun (congrArg norm (funext fun e => (sumA_apply _ _ R e).trans ?_)) _) _) d
  refine congrFun (congrArg (residual _) (funext fun e => ?_)) e
  pointwise
  rfl

/-- The whole layer, as an array. -/
def layerA (A : FVec Ideal S16384x1024 .bf16) (WO : FVec Ideal S1024x1024 .f32) (MG MB : FVec Ideal S1024 .f32) (W1 W3 : FVec Ideal S1024x2816 .f32)
    (W2 : FVec Ideal S2816x1024 .f32) (H : FVec Ideal S16384x1024 .f32) (FG FB : FVec Ideal S1024 .f32) : FVec Ideal S16384x1024 .f32 :=
  normA (sumA (mixedA A WO MG MB H) (ffnA (mixedA A WO MG MB H) W1 W3 W2)) FG FB

/-- The reference's array, element by element. -/
theorem value (A : FVec Ideal S16384x1024 .bf16) (WO : FVec Ideal S1024x1024 .f32) (MG MB : FVec Ideal S1024 .f32) (W1 W3 : FVec Ideal S1024x2816 .f32)
    (W2 : FVec Ideal S2816x1024 .f32) (H : FVec Ideal S16384x1024 .f32) (FG FB : FVec Ideal S1024 .f32) :
    layerA A WO MG MB W1 W3 W2 H FG FB = layer A WO MG MB W1 W3 W2 H FG FB := by
  funext i
  obtain ⟨R, d, rfl⟩ : ∃ (R : Fin 16384) (d : Fin 1024), i = (ix2 R d : S16384x1024.Idx) := ⟨i 0, i 1, eq_ix2 i⟩
  have hm : (fun q => mixedA A WO MG MB H (ix2 R q)) = mixed A WO MG MB H R := funext fun q => mixedA_apply A WO MG MB H R q
  unfold layerA layer
  rw [normA_apply]
  refine congrFun (congrFun (congrFun (congrArg norm (funext fun e => (sumA_apply _ _ R e).trans ?_)) _) _) d
  refine congrFun (congrArg₂ residual hm (funext fun e => (ffnA_apply _ W1 W3 W2 R e).trans ?_)) e
  rw [hm]
  rfl

variable (m : (ℓ : Loc nD τ sig) → Buf (Elt Ideal) ℓ) (c : Dev nD)

theorem res_0 : Value.res_main_v56 (F := Ideal) m c =
    layerA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Value.res_main_v56
  rfl

theorem res_1 : Value.res_main_v57 (F := Ideal) m c = truncf (F := Ideal) .bf16 (
    layerA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) bitsLt_bf16_f32 := by
  unfold Value.res_main_v57
  rfl

/-- The reference's run: the arguments unchanged, every counter zero. -/
theorem frame : Cert.quiescent_Reference2Ideal := fun m g _ =>
  (θ_run defs _ _).mono (fun r h => ⟨fun c => (h c).2.2, sem_eq_zero_of_no_sems (by decide) r.2⟩) (Value.run (F := Ideal) m g)

theorem layer_congr {A A' : S16384x1024.Idx → EReal} {WO WO' : S1024x1024.Idx → EReal} {MG MG' MB MB' : S1024.Idx → EReal}
    {W1 W1' W3 W3' : S1024x2816.Idx → EReal} {W2 W2' : S2816x1024.Idx → EReal} {H H' : S16384x1024.Idx → EReal} {FG FG' FB FB' : S1024.Idx → EReal}
    (h0 : A = A') (h1 : WO = WO') (h2 : MG = MG') (h3 : MB = MB') (h4 : W1 = W1') (h5 : W3 = W3') (h6 : W2 = W2') (h7 : H = H') (h8 : FG = FG')
    (h9 : FB = FB') : layer A WO MG MB W1 W3 W2 H FG FB = layer A' WO' MG' MB' W1' W3' W2' H' FG' FB' := by
  subst h0 h1 h2 h3 h4 h5 h6 h7 h8 h9
  rfl

/-- Equal arguments, equal arrays. -/
theorem algebraic : Cert.algebraic_Kernel2Ideal_Reference2Ideal := by
  intro m g m' g' _ hag
  refine ⟨fun c => out m c, fun c => out m c, ?_, ?_⟩
  · exact (θ_run _ _ _).mono (fun r h c => ⟨(h c).1.trans (Kernel2Ideal.Calls.final_10 m c), (h c).2.1.trans (Kernel2Ideal.Calls.final_11 m c), (h c).2.2⟩)
      (Kernel2Ideal.Value.run_blocks (F := Ideal) m g)
  · refine (θ_run _ _ _).mono (fun r h c => ?_) (Value.run (F := Ideal) m' g')
    obtain ⟨h0, h1, h2, h3, h4, h5, h6, h7, h8, h9⟩ := hag c
    have e := layer_congr h0 h1 h2 h3 h4 h5 h6 h7 h8 h9
    refine ⟨?_, ?_, (h c).2.2⟩
    · exact (h c).1.trans ((res_0 m' c).trans ((value _ _ _ _ _ _ _ _ _ _).trans e))
    · exact (h c).2.1.trans ((res_1 m' c).trans ((value _ _ _ _ _ _ _ _ _ _).trans e))

end Cert.Reference2Ideal.Calls

end
-- ==== Proof.Kernel3Ideal.Value.lean ====
/- The projection of the banded attention: the kernel's array is the product, element by element. -/
module

public import proofs.«01_k».proof.Proof.Gen.Kernel3Ideal.Value
public import proofs.«01_k».proof.Proof.Sums
public import Idealize.ShloMosaic.Lib.Pipeline.ValueKit
public import Idealize.ShloMosaic.Lib.Pointwise
public import Idealize.ShloMosaic.Lib.IdealHost
public import Idealize.ShloMosaic.PureOps.Ideal

@[expose] public section

set_option maxRecDepth 16384

noncomputable section

namespace Cert.Kernel3Ideal.Calls

open Cert.Kernel3Ideal Cert.Kernel3Ideal.Gen Idealize.ShloMosaic Idealize.ShloMosaic.TcCoe Idealize.ShloMosaic.Tactic Idealize.SL.Sem
open Cert.Calls (dot)

variable (m : (ℓ : Loc nD τ sig) → Buf (Elt Ideal) ℓ) (c : Dev nD)

/-- Row times column, the columns those of three matrices side by side. -/
def prod (X : S16384x1024.Idx → EReal) (W0 W1 W2 : S1024x1024.Idx → EReal) : S16384x3072.Idx → EReal := fun i =>
  if h0 : (i 1).val < 1024 then dot (fun q : Fin 1024 => X (ix2 (i 0) q)) fun q => W0 (ix2 q ⟨(i 1).val, h0⟩)
  else if h1 : (i 1).val < 2048 then dot (fun q : Fin 1024 => X (ix2 (i 0) q)) fun q => W1 (ix2 q ⟨(i 1).val - 1024, by omega⟩)
  else dot (fun q : Fin 1024 => X (ix2 (i 0) q)) fun q => W2 (ix2 q ⟨(i 1).val - 2048, by have h : (i 1).val < 3072 := (i 1).isLt; omega⟩)

theorem prod_0 (X : S16384x1024.Idx → EReal) (W0 W1 W2 : S1024x1024.Idx → EReal) (R : Fin 16384) (d : Fin 3072) (h : d.val < 1024) :
    prod X W0 W1 W2 (ix2 R d) = dot (fun q : Fin 1024 => X (ix2 R q)) fun q => W0 (ix2 q ⟨d.val, h⟩) := dif_pos h

theorem prod_1 (X : S16384x1024.Idx → EReal) (W0 W1 W2 : S1024x1024.Idx → EReal) (R : Fin 16384) (d : Fin 3072) (h : ¬ d.val < 1024)
    (h' : d.val < 2048) : prod X W0 W1 W2 (ix2 R d) = dot (fun q : Fin 1024 => X (ix2 R q)) fun q => W1 (ix2 q ⟨d.val - 1024, by omega⟩) :=
  (dif_neg h).trans (dif_pos h')

theorem prod_2 (X : S16384x1024.Idx → EReal) (W0 W1 W2 : S1024x1024.Idx → EReal) (R : Fin 16384) (d : Fin 3072) (h' : ¬ d.val < 2048) :
    prod X W0 W1 W2 (ix2 R d) = dot (fun q : Fin 1024 => X (ix2 R q)) fun q => W2 (ix2 q ⟨d.val - 2048, by omega⟩) :=
  (dif_neg (fun h : d.val < 1024 => h' (by omega))).trans (dif_neg h')

/-- The blocks' places at each grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 1024) :
    iblk m c 0 t (ix2 r q) = m ((c : Thread nD τ).loc main_arg0) (ix2 (row t r) q) := by
  blk_ext [iblk, V, idx t, row]

theorem blk_1 (t : Fin cfg0.N) (q d : Fin 1024) : iblk m c 1 t (ix2 q d) = m ((c : Thread nD τ).loc main_arg1) (ix2 q d) := by
  blk_ext [iblk, V, idx t]

theorem blk_2 (t : Fin cfg0.N) (q d : Fin 1024) : iblk m c 2 t (ix2 q d) = m ((c : Thread nD τ).loc main_arg2) (ix2 q d) := by
  blk_ext [iblk, V, idx t]

theorem blk_3 (t : Fin cfg0.N) (q d : Fin 1024) : iblk m c 3 t (ix2 q d) = m ((c : Thread nD τ).loc main_arg3) (ix2 q d) := by
  blk_ext [iblk, V, idx t]

/-- What a point stores, element by element: the three products. -/
theorem pay2_apply (X : Vec Ideal S512x1024 .f32) (W : Vec Ideal S1024x1024 .bf16) (r : Fin 512) (d : Fin 1024) :
    k0_pay2 (F := Ideal) X W (ix2 r d) = dot (fun q : Fin 1024 => X (ix2 r q)) fun q => W (ix2 q d) := by
  unfold k0_pay2 k0_pay1
  pointwise
  rfl

theorem pay3_apply (X : Vec Ideal S512x1024 .f32) (W : Vec Ideal S1024x1024 .bf16) (r : Fin 512) (d : Fin 1024) :
    k0_pay3 (F := Ideal) X W (ix2 r d) = dot (fun q : Fin 1024 => X (ix2 r q)) fun q => W (ix2 q d) := pay2_apply X W r d

theorem pay4_apply (X : Vec Ideal S512x1024 .f32) (W : Vec Ideal S1024x1024 .bf16) (r : Fin 512) (d : Fin 1024) :
    k0_pay4 (F := Ideal) X W (ix2 r d) = dot (fun q : Fin 1024 => X (ix2 r q)) fun q => W (ix2 q d) := pay2_apply X W r d

/-- The array after the run. -/
theorem final : (dats (F := Ideal) m 0 c).arrAt 4 cfg0.N = prod (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, d, rfl⟩ : ∃ (r : Fin 512) (d : Fin 3072), y = (ix2 r d : S512x3072.Idx) := ⟨y 0, y 1, eq_ix2 y⟩
  have he : ((cfg0.win 4).blk t).view.emb (ix2 r d : S512x3072.Idx) = (ix2 (row t r) d : S16384x3072.Idx) := by
    blk_ext [idx t, row]
  refine Eq.trans ?_ (congrArg (prod _ _ _ _) he).symm
  canon_tiles x h
  · have hx : x = (ix2 r (⟨d.val - 2048, by have h : d.val = 2048 + (x 1).val := h1; omega⟩ : Fin 1024) : S512x1024.Idx) := by
      refine (eq_ix2 x).trans (congrArg₂ ix2 (Fin.ext h0.symm) (Fin.ext ?_))
      have h : d.val = 2048 + (x 1).val := h1
      exact (by omega : (x 1).val = d.val - 2048)
    have e : d.val = 2048 + (x 1).val := h1
    rw [hx, prod_2 _ _ _ _ _ d (by omega)]
    refine (pay4_apply _ _ r _).trans ?_
    exact congrArg₂ dot (funext fun k => blk_0 m c t r k) (funext fun k => blk_3 m c t k _)
  · have e : d.val = 1024 + (x 1).val := h1
    have hx : x = (ix2 r (⟨d.val - 1024, by omega⟩ : Fin 1024) : S512x1024.Idx) := by
      refine (eq_ix2 x).trans (congrArg₂ ix2 (Fin.ext h0.symm) (Fin.ext ?_))
      exact (by omega : (x 1).val = d.val - 1024)
    rw [hx, prod_1 _ _ _ _ _ d (by omega) (by omega)]
    refine (pay3_apply _ _ r _).trans ?_
    exact congrArg₂ dot (funext fun k => blk_0 m c t r k) (funext fun k => blk_2 m c t k _)
  · have e : d.val = (x 1).val := h1
    have hx : x = (ix2 r (⟨d.val, by omega⟩ : Fin 1024) : S512x1024.Idx) :=
      (eq_ix2 x).trans (congrArg₂ ix2 (Fin.ext h0.symm) (Fin.ext e.symm))
    rw [hx, prod_0 _ _ _ _ _ d (by omega)]
    refine (pay2_apply _ _ r _).trans ?_
    exact congrArg₂ dot (funext fun k => blk_0 m c t r k) (funext fun k => blk_1 m c t k _)

end Cert.Kernel3Ideal.Calls

end
-- ==== Proof.Reference3Ideal.Claim.lean ====
/- The three projections of the differential attention: its claims. -/
module

public import proofs.«01_k».proof.Defs
public import proofs.«01_k».proof.Proof.Kernel3Ideal.Value
public import proofs.«01_k».proof.Proof.Gen.Reference3Ideal.Run
public import Idealize.ShloMosaic.Lib.Quiescent

@[expose] public section

set_option maxRecDepth 16384

noncomputable section

namespace Cert.Reference3Ideal.Calls

open Cert.Reference3Ideal Cert.Reference3Ideal.Gen Idealize.ShloMosaic Idealize.ShloMosaic.TcCoe Idealize.ShloMosaic.Tactic Idealize.SL.Sem
open Cert.Kernel3Ideal.Calls (prod prod_0 prod_1 prod_2)

/-- The reference's array, element by element. -/
theorem value (X : FVec Ideal S16384x1024 .f32) (W0 W1 W2 : FVec Ideal S1024x1024 .f32) :
    truncf (F := Ideal) .bf16 ((concatenate S16384x3072 1 [⟨S16384x1024, ((Host.dotGeneral dot_S16384x1024_S1024x1024_S16384x1024_1_0_0_1_n_n none X W0) : (⟨S16384x1024, .f32⟩ : BufTy).Contents (Elt Ideal))⟩,
      ⟨S16384x1024, ((Host.dotGeneral dot_S16384x1024_S1024x1024_S16384x1024_1_0_0_1_n_n none X W1) : (⟨S16384x1024, .f32⟩ : BufTy).Contents (Elt Ideal))⟩,
      ⟨S16384x1024, ((Host.dotGeneral dot_S16384x1024_S1024x1024_S16384x1024_1_0_0_1_n_n none X W2) : (⟨S16384x1024, .f32⟩ : BufTy).Contents (Elt Ideal))⟩]
      concatenates_S16384x1024_S16384x1024_S16384x1024_S16384x3072_d1 : (⟨S16384x3072, .f32⟩ : BufTy).Contents (Elt Ideal))) bitsLt_bf16_f32
      = prod X W0 W1 W2 := by
  funext i
  obtain ⟨r, d, rfl⟩ : ∃ (r : Fin 16384) (d : Fin 3072), i = (ix2 r d : S16384x3072.Idx) := ⟨i 0, i 1, eq_ix2 i⟩
  pointwise
  by_cases h0 : d.val < 1024
  · rw [prod_0 _ _ _ _ _ d h0, dif_pos h0]
    rfl
  by_cases h1 : d.val < 2048
  · rw [prod_1 _ _ _ _ _ d h0 h1, dif_neg h0, dif_pos (by omega : d.val - 1024 < 1024)]
    rfl
  · rw [prod_2 _ _ _ _ _ d h1, dif_neg h0, dif_neg (by omega : ¬ d.val - 1024 < 1024)]
    refine Finset.sum_congr rfl fun x _ => ?_
    exact congrArg (X (ix2 r x) * ·) (congrArg (fun e : Fin 1024 => W2 (ix2 x e)) (Fin.ext (by show d.val - 1024 - 1024 = d.val - 2048; omega)))

theorem prod_congr {X X' : S16384x1024.Idx → EReal} {U U' V V' W W' : S1024x1024.Idx → EReal} (h0 : X = X') (h1 : U = U') (h2 : V = V')
    (h3 : W = W') : prod X U V W = prod X' U' V' W' := by
  subst h0 h1 h2 h3
  rfl

/-- The reference's run: the arguments unchanged, every counter zero. -/
theorem frame : Cert.quiescent_Reference3Ideal := fun m g _ =>
  (θ_run defs _ _).mono (fun r h => ⟨fun c => (h c).2, sem_eq_zero_of_no_sems (by decide) r.2⟩) (Value.run (F := Ideal) m g)

/-- Equal arguments, equal arrays. -/
theorem algebraic : Cert.algebraic_Kernel3Ideal_Reference3Ideal := by
  intro m g m' g' _ hag
  refine ⟨fun c => prod (m ((c.tc : Thread Kernel3Ideal.nD Kernel3Ideal.τ).loc Kernel3Ideal.main_arg0)) (m ((c.tc : Thread Kernel3Ideal.nD Kernel3Ideal.τ).loc Kernel3Ideal.main_arg1))
    (m ((c.tc : Thread Kernel3Ideal.nD Kernel3Ideal.τ).loc Kernel3Ideal.main_arg2)) (m ((c.tc : Thread Kernel3Ideal.nD Kernel3Ideal.τ).loc Kernel3Ideal.main_arg3)), ?_, ?_⟩
  · exact (θ_run _ _ _).mono (fun r h c => ⟨(h c).1.trans (Kernel3Ideal.Calls.final m c), (h c).2⟩) (Kernel3Ideal.Value.run_blocks (F := Ideal) m g)
  · refine (θ_run _ _ _).mono (fun r h c => ⟨?_, (h c).2⟩) (Value.run (F := Ideal) m' g')
    refine (h c).1.trans ((value _ _ _ _).trans ?_)
    obtain ⟨h0, h1, h2, h3⟩ := hag c
    exact prod_congr h0 h1 h2 h3

end Cert.Reference3Ideal.Calls

end
-- ==== Proof.Kernel4Ideal.Value.lean ====
/- The projection of the banded attention: the kernel's array is the product, element by element. -/
module

public import proofs.«01_k».proof.Proof.Gen.Kernel4Ideal.Value
public import proofs.«01_k».proof.Proof.Sums
public import Idealize.ShloMosaic.Lib.Pipeline.ValueKit
public import Idealize.ShloMosaic.Lib.Pointwise
public import Idealize.ShloMosaic.Lib.IdealHost
public import Idealize.ShloMosaic.PureOps.Ideal

@[expose] public section

set_option maxRecDepth 16384

noncomputable section

namespace Cert.Kernel4Ideal.Calls

open Cert.Kernel4Ideal Cert.Kernel4Ideal.Gen Idealize.ShloMosaic Idealize.ShloMosaic.TcCoe Idealize.ShloMosaic.Tactic Idealize.SL.Sem
open Cert.Calls (dot)

variable (m : (ℓ : Loc nD τ sig) → Buf (Elt Ideal) ℓ) (c : Dev nD)

/-- Row times column. -/
def prod (X : S16384x1024.Idx → EReal) (W : S1024x3072.Idx → EReal) : S16384x3072.Idx → EReal := fun i =>
  dot (fun q : Fin 1024 => X (ix2 (i 0) q)) fun q => W (ix2 q (i 1))

/-- The blocks' places at each grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 1024) :
    iblk m c 0 t (ix2 r q) = m ((c : Thread nD τ).loc main_arg0) (ix2 (row t r) q) := by
  blk_ext [iblk, V, idx t, row]

theorem blk_1 (t : Fin cfg0.N) (q : Fin 1024) (d : Fin 3072) :
    iblk m c 1 t (ix2 q d) = m ((c : Thread nD τ).loc main_arg1) (ix2 q d) := by
  blk_ext [iblk, V, idx t]

/-- What a point stores, element by element. -/
theorem pay_apply (X : Vec Ideal S512x1024 .bf16) (W : Vec Ideal S1024x3072 .bf16) (r : Fin 512) (d : Fin 3072) :
    k0_pay1 (F := Ideal) X W (ix2 r d) = dot (fun q : Fin 1024 => X (ix2 r q)) fun q => W (ix2 q d) := by
  unfold k0_pay1
  pointwise
  rfl

/-- The array after the run. -/
theorem final : (dats (F := Ideal) m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, d, rfl⟩ : ∃ (r : Fin 512) (d : Fin 3072), y = (ix2 r d : S512x3072.Idx) := ⟨y 0, y 1, eq_ix2 y⟩
  have he : ((cfg0.win 2).blk t).view.emb (ix2 r d : S512x3072.Idx) = (ix2 (row t r) d : S16384x3072.Idx) := by
    blk_ext [idx t, row]
  refine Eq.trans ?_ (congrArg (prod _ _) he).symm
  refine (pay_apply _ _ r d).trans ?_
  exact congrArg₂ dot (funext fun k => blk_0 m c t r k) (funext fun k => blk_1 m c t k d)

end Cert.Kernel4Ideal.Calls

end
-- ==== Proof.Reference4Ideal.Claim.lean ====
/- The projection of the banded attention: its claims. -/
module

public import proofs.«01_k».proof.Defs
public import proofs.«01_k».proof.Proof.Kernel4Ideal.Value
public import proofs.«01_k».proof.Proof.Gen.Reference4Ideal.Run
public import Idealize.ShloMosaic.Lib.Quiescent

@[expose] public section

set_option maxRecDepth 16384

noncomputable section

namespace Cert.Reference4Ideal.Calls

open Cert.Reference4Ideal Cert.Reference4Ideal.Gen Idealize.ShloMosaic Idealize.ShloMosaic.TcCoe Idealize.ShloMosaic.Tactic Idealize.SL.Sem
open Cert.Kernel4Ideal.Calls (prod)
open Cert.Calls (dot)

/-- The reference's array, element by element. -/
theorem value (X : FVec Ideal S16384x1024 .bf16) (W : FVec Ideal S1024x3072 .f32) :
    truncf .bf16 (Host.dotGeneral dot_S16384x1024_S1024x3072_S16384x3072_1_0_0_1_n_n none (extf .f32 X bitsLt_bf16_f32) W) bitsLt_bf16_f32
      = prod X W := by
  funext i
  obtain ⟨r, d, rfl⟩ : ∃ (r : Fin 16384) (d : Fin 3072), i = (ix2 r d : S16384x3072.Idx) := ⟨i 0, i 1, eq_ix2 i⟩
  pointwise
  rfl

/-- The reference's run: the arguments unchanged, every counter zero. -/
theorem frame : Cert.quiescent_Reference4Ideal := fun m g _ =>
  (θ_run defs _ _).mono (fun r h => ⟨fun c => (h c).2, sem_eq_zero_of_no_sems (by decide) r.2⟩) (Value.run (F := Ideal) m g)

/-- Equal arguments, equal arrays. -/
theorem algebraic : Cert.algebraic_Kernel4Ideal_Reference4Ideal := by
  intro m g m' g' _ hag
  refine ⟨fun c => prod (m ((c.tc : Thread Kernel4Ideal.nD Kernel4Ideal.τ).loc Kernel4Ideal.main_arg0)) (m ((c.tc : Thread Kernel4Ideal.nD Kernel4Ideal.τ).loc Kernel4Ideal.main_arg1)), ?_, ?_⟩
  · exact (θ_run _ _ _).mono (fun r h c => ⟨(h c).1.trans (Kernel4Ideal.Calls.final m c), (h c).2⟩) (Kernel4Ideal.Value.run_blocks (F := Ideal) m g)
  · refine (θ_run _ _ _).mono (fun r h c => ⟨?_, (h c).2⟩) (Value.run (F := Ideal) m' g')
    refine (h c).1.trans ((value _ _).trans ?_)
    obtain ⟨h0, h1⟩ := hag c
    exact congrArg₂ prod h0 h1

end Cert.Reference4Ideal.Calls

end
-- ==== Proof.Kernel5Ideal.Value.lean ====
/- The spatial gating's input: what its two result arrays hold after the run. -/
module

public import proofs.«01_k».proof.Proof.Sums
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.PureOps.Ideal

@[expose] public section

set_option maxRecDepth 16384

noncomputable section

namespace Cert.Kernel5Ideal.Calls

open Cert.Kernel5Ideal Cert.Kernel5Ideal.Gen Idealize.ShloMosaic Idealize.ShloMosaic.TcCoe Idealize.ShloMosaic.Tactic Idealize.SL.Sem
open Cert.Calls

/-- The activated product of a row with column `f` of the weight. -/
def act (x : Fin 1024 → EReal) (W : S1024x2048.Idx → EReal) (f : Fin 2048) : EReal := gelu (dot x fun q => W (ix2 q f))

/-- Column `d` of the first half, and of the second half. -/
def left (d : Fin 1024) : Fin 2048 := ⟨d.val, by omega⟩

def right (d : Fin 1024) : Fin 2048 := ⟨1024 + d.val, by omega⟩

/-- The first result: the first half's activations. -/
def outU (X : S16384x1024.Idx → EReal) (W : S1024x2048.Idx → EReal) : S16384x1024.Idx → EReal := fun i =>
  act (fun q => X (ix2 (i 0) q)) W (left (i 1))

/-- The second result: the layer norm of the second half's activations. -/
def outV (X : S16384x1024.Idx → EReal) (W : S1024x2048.Idx → EReal) (G B : S1024.Idx → EReal) : S16384x1024.Idx → EReal := fun i =>
  norm (fun e => act (fun q => X (ix2 (i 0) q)) W (right e)) (fun e => G (ix1 e)) (fun e => B (ix1 e)) (i 1)

section
variable (X : Vec Ideal S512x1024 .bf16) (A : Vec Ideal S1024x512 .bf16) (r : Fin 512) (d : Fin 512)

theorem pay2_apply : k0_pay2 (F := Ideal) X A (ix2 r d) = gelu (dot (fun q => X (ix2 r q)) fun q => A (ix2 q d)) := by
  unfold k0_pay2
  pointwise
  rfl

theorem pay3_apply : k0_pay3 (F := Ideal) X A (ix2 r d) = gelu (dot (fun q => X (ix2 r q)) fun q => A (ix2 q d)) := by
  unfold k0_pay3
  pointwise
  rfl

theorem pay4_apply : k0_pay4 (F := Ideal) X A (ix2 r d) = gelu (dot (fun q => X (ix2 r q)) fun q => A (ix2 q d)) := by
  unfold k0_pay4
  pointwise
  rfl

theorem pay5_apply : k0_pay5 (F := Ideal) X A (ix2 r d) = gelu (dot (fun q => X (ix2 r q)) fun q => A (ix2 q d)) := by
  unfold k0_pay5
  pointwise
  rfl

end

/-- A column slab of the weight, read at an index. -/
theorem ld_apply (W : Vec Ideal S1024x2048 .bf16) (o : ℕ) (h) (q : Fin 1024) (k : Fin 512) (f : Fin 2048) (hf : f.val = o + k.val) :
    View.ld W (Rect.unit (s := S1024x2048) ![0, o] ![1024, 512] h) (ix2 q k : S1024x512.Idx) = W (ix2 q f) :=
  View.ld_unit_apply_of W _ _ h _ _ fun a => by
    match a with
    | ⟨0, _⟩ => exact (Nat.zero_add _).symm
    | ⟨1, _⟩ => exact hf

/-- The two column stores of the first result's block, read at an index. -/
theorem canon_U (X : Vec Ideal S512x1024 .bf16) (W : Vec Ideal S1024x2048 .bf16) (r : Fin 512) (d : Fin 1024) :
    View.canon (Val := Elt Ideal) (s := S512x1024) (e := .bf16)
      [⟨Rect.unit ![0, 512] ![512, 512] inb_S512x1024_S512x512_0_512, k0_pay3 (F := Ideal) X (View.ld W (Rect.unit ![0, 512] ![1024, 512] inb_S1024x2048_S1024x512_0_512))⟩,
        ⟨Rect.unit ![0, 0] ![512, 512] inb_S512x1024_S512x512_0_0, k0_pay2 (F := Ideal) X (View.ld W (Rect.unit ![0, 0] ![1024, 512] inb_S1024x2048_S1024x512_0_0))⟩]
      (ix2 r d : S512x1024.Idx) = act (fun q => X (ix2 r q)) W (left d) := by
  canon_tiles x h
  · have e : d.val = 512 + (x 1).val := h1
    have hx : x = (ix2 r (⟨d.val - 512, by omega⟩ : Fin 512) : S512x512.Idx) := by
      refine (eq_ix2 x).trans (congrArg₂ ix2 (Fin.ext h0.symm) (Fin.ext ?_))
      exact (by omega : (x 1).val = d.val - 512)
    rw [hx]
    refine (pay3_apply _ _ r _).trans ?_
    exact congrArg gelu (congrArg (dot _) (funext fun q => ld_apply W 512 _ q _ _ (by show d.val = 512 + (d.val - 512); omega)))
  · have e : d.val = (x 1).val := h1
    have hx : x = (ix2 r (⟨d.val, by omega⟩ : Fin 512) : S512x512.Idx) :=
      (eq_ix2 x).trans (congrArg₂ ix2 (Fin.ext h0.symm) (Fin.ext e.symm))
    rw [hx]
    refine (pay2_apply _ _ r _).trans ?_
    exact congrArg gelu (congrArg (dot _) (funext fun q => ld_apply W 0 _ q _ _ (by show d.val = 0 + d.val; omega)))

/-- The two column stores of the scratch buffer, read at an index. -/
theorem canon_V (X : Vec Ideal S512x1024 .bf16) (W : Vec Ideal S1024x2048 .bf16) (r : Fin 512) (d : Fin 1024) :
    View.canon (Val := Elt Ideal) (s := S512x1024) (e := .f32)
      [⟨Rect.unit ![0, 512] ![512, 512] inb_S512x1024_S512x512_0_512, k0_pay5 (F := Ideal) X (View.ld W (Rect.unit ![0, 1536] ![1024, 512] inb_S1024x2048_S1024x512_0_1536))⟩,
        ⟨Rect.unit ![0, 0] ![512, 512] inb_S512x1024_S512x512_0_0, k0_pay4 (F := Ideal) X (View.ld W (Rect.unit ![0, 1024] ![1024, 512] inb_S1024x2048_S1024x512_0_1024))⟩]
      (ix2 r d : S512x1024.Idx) = act (fun q => X (ix2 r q)) W (right d) := by
  canon_tiles x h
  · have e : d.val = 512 + (x 1).val := h1
    have hx : x = (ix2 r (⟨d.val - 512, by omega⟩ : Fin 512) : S512x512.Idx) := by
      refine (eq_ix2 x).trans (congrArg₂ ix2 (Fin.ext h0.symm) (Fin.ext ?_))
      exact (by omega : (x 1).val = d.val - 512)
    rw [hx]
    refine (pay5_apply _ _ r _).trans ?_
    exact congrArg gelu (congrArg (dot _) (funext fun q => ld_apply W 1536 _ q _ _ (by show 1024 + d.val = 1536 + (d.val - 512); omega)))
  · have e : d.val = (x 1).val := h1
    have hx : x = (ix2 r (⟨d.val, by omega⟩ : Fin 512) : S512x512.Idx) :=
      (eq_ix2 x).trans (congrArg₂ ix2 (Fin.ext h0.symm) (Fin.ext e.symm))
    rw [hx]
    refine (pay4_apply _ _ r _).trans ?_
    exact congrArg gelu (congrArg (dot _) (funext fun q => ld_apply W 1024 _ q _ _ rfl))

/-- The second result's stored expression, element by element. -/
theorem pay1_apply (V : Vec Ideal S512x1024 .f32) (G B : Vec Ideal S1x1024 .f32) (r : Fin 512) (d : Fin 1024) :
    k0_pay1 (F := Ideal) V G B (ix2 r d) = norm (fun e => V (ix2 r e)) (fun e => G (ix2 0 e)) (fun e => B (ix2 0 e)) d := by
  unfold k0_pay1
  pointwise
  rfl

variable (m : (ℓ : Loc nD τ sig) → Buf (Elt Ideal) ℓ) (c : Dev nD)

/-- The blocks' places at each grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 1024) : iblk m c 0 t (ix2 r q) = m ((c : Thread nD τ).loc main_arg0) (ix2 (row t r) q) := by
  blk_ext [iblk, V, idx t, row]

theorem blk_1 (t : Fin cfg0.N) : (iblk m c 1 t : S1024x2048.Idx → EReal) = m ((c : Thread nD τ).loc main_arg1) := by
  funext i
  blk_ext [iblk, V, idx t]

theorem blk_2 (t : Fin cfg0.N) (d : Fin 1024) : iblk m c 2 t (ix2 0 d) = m ((c : Thread nD τ).loc main_arg2) (ix1 d) := by
  blk_ext! [iblk, V, idx t]

theorem blk_3 (t : Fin cfg0.N) (d : Fin 1024) : iblk m c 3 t (ix2 0 d) = m ((c : Thread nD τ).loc main_arg3) (ix1 d) := by
  blk_ext! [iblk, V, idx t]

/-- The first result's array after the run. -/
theorem final_4 : (dats (F := Ideal) m 0 c).arrAt 4 cfg0.N = outU (m ((c : Thread nD τ).loc main_arg0)) (m ((c : Thread nD τ).loc main_arg1)) := by
  refine (dats m 0 c).arrAt_eq_of_covers 4 _ (by decide +kernel) fun t hf y => ?_
  blk_simp
  rw [after0_4]
  simp only [outsAt0]
  frame_out
  obtain ⟨r, d, rfl⟩ : ∃ (r : Fin 512) (d : Fin 1024), y = (ix2 r d : S512x1024.Idx) := ⟨y 0, y 1, eq_ix2 y⟩
  have he : ((cfg0.win 4).blk t).view.emb (ix2 r d : S512x1024.Idx) = (ix2 (row t r) d : S16384x1024.Idx) := by
    blk_ext [idx t, row]
  refine Eq.trans ?_ (congrArg (outU _ _) he).symm
  refine (canon_U (iblk m c 0 t) (iblk m c 1 t) r d).trans ?_
  exact congrFun (congrArg₂ act (funext fun q => blk_0 m c t r q) (blk_1 m c t)) (left d)

/-- The second result's array after the run. -/
theorem final_5 : (dats (F := Ideal) m 0 c).arrAt 5 cfg0.N = outV (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  simp only [outsAt0]
  frame_out
  obtain ⟨r, d, rfl⟩ : ∃ (r : Fin 512) (d : Fin 1024), y = (ix2 r d : S512x1024.Idx) := ⟨y 0, y 1, eq_ix2 y⟩
  have he : ((cfg0.win 5).blk t).view.emb (ix2 r d : S512x1024.Idx) = (ix2 (row t r) d : S16384x1024.Idx) := by
    blk_ext [idx t, row]
  refine Eq.trans ?_ (congrArg (outV _ _ _ _) he).symm
  refine (pay1_apply _ _ _ r d).trans ?_
  refine congrFun (congr (congrArg₂ norm (funext fun e => ?_) (funext fun e => blk_2 m c t e)) (funext fun e => blk_3 m c t e)) d
  refine (congrFun (View.readCov_eq_canon' _ _ _) _).trans ?_
  refine Eq.trans (congrArg (View.canon _) ?_) ((canon_V (iblk m c 0 t) (iblk m c 1 t) r e).trans ?_)
  · refine funext fun a => Fin.ext ?_
    match a with
    | ⟨0, _⟩ => exact (Rect.idx_unit_val _ _ _ _ _).trans (Nat.zero_add _)
    | ⟨1, _⟩ => exact (Rect.idx_unit_val _ _ _ _ _).trans (Nat.zero_add _)
  · exact congrFun (congrArg₂ act (funext fun q => blk_0 m c t r q) (blk_1 m c t)) (right e)

end Cert.Kernel5Ideal.Calls

end
-- ==== Proof.Reference5Ideal.Claim.lean ====
/- The spatial gating's input: its claims. -/
module

public import proofs.«01_k».proof.Defs
public import proofs.«01_k».proof.Proof.Kernel5Ideal.Value
public import proofs.«01_k».proof.Proof.Gen.Reference5Ideal.Run
public import Idealize.ShloMosaic.Lib.Quiescent

@[expose] public section

set_option maxRecDepth 16384

noncomputable section

namespace Cert.Reference5Ideal.Calls

open Cert.Reference5Ideal Cert.Reference5Ideal.Gen Idealize.ShloMosaic Idealize.ShloMosaic.TcCoe Idealize.ShloMosaic.Tactic Idealize.SL.Sem
open Cert.Calls
open Cert.Kernel5Ideal.Calls (act left right outU outV)

/-- The rows' means, as an array. -/
def meanA (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_))
    (broadcastInDim S16384x1 ![] bcast_S_S16384x1 (constant S_ .f32 0x44800000#32))

/-- The rows less their means, as an array. -/
def centA (Z : FVec Ideal S16384x1024 .f32) : FVec Ideal S16384x1024 .f32 :=
  subf Z (broadcastInDim S16384x1024 ![0, 1] bcast_S16384x1_S16384x1024_0_1 (meanA Z))

/-- The layer norm, as an array. -/
def normA (Z : FVec Ideal S16384x1024 .f32) (G B : FVec Ideal S1024 .f32) : FVec Ideal S16384x1024 .f32 :=
  addf (mulf (mulf (centA Z) (broadcastInDim S16384x1024 ![0, 1] bcast_S16384x1_S16384x1024_0_1
      (Host.rsqrt (addf (meanA (mulf (centA Z) (centA Z))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 G)))
    (broadcastInDim S16384x1024 ![0, 1] bcast_S1x1024_S16384x1024_0_1 (broadcastInDim S1x1024 ![1] bcast_S1024_S1x1024_1 B))

theorem meanA_apply (Z : FVec Ideal S16384x1024 .f32) (R : Fin 16384) : meanA Z (ix2 R 0) = mean fun e => Z (ix2 R e) := by
  unfold meanA
  pointwise
  rfl

theorem centA_apply (Z : FVec Ideal S16384x1024 .f32) (R : Fin 16384) (d : Fin 1024) :
    centA Z (ix2 R d) = Z (ix2 R d) - mean fun e => Z (ix2 R e) := by
  rw [← meanA_apply]
  unfold centA
  pointwise

theorem normA_apply (Z : FVec Ideal S16384x1024 .f32) (G B : FVec Ideal S1024 .f32) (R : Fin 16384) (d : Fin 1024) :
    normA Z G B (ix2 R d) = norm (fun e => Z (ix2 R e)) (fun e => G (ix1 e)) (fun e => B (ix1 e)) d := by
  unfold normA
  pointwise [meanA_apply, centA_apply]
  rfl

/-- The activated product, as an array. -/
def actA (X : FVec Ideal S16384x1024 .bf16) (W : FVec Ideal S1024x2048 .f32) : FVec Ideal S16384x2048 .f32 :=
  let P := Host.dotGeneral dot_S16384x1024_S1024x2048_S16384x2048_1_0_0_1_n_n none (extf .f32 X bitsLt_bf16_f32) W
  mulf P (mulf (broadcastInDim S16384x2048 ![] bcast_S_S16384x2048 (constant S_ .f32 0x3F000000#32)) (addf (broadcastInDim S16384x2048 ![] bcast_S_S16384x2048 (constant S_ .f32 0x3F800000#32)) (Host.tanh (mulf (broadcastInDim S16384x2048 ![] bcast_S_S16384x2048 (constant S_ .f32 0x3F4C422A#32)) (addf P (mulf (broadcastInDim S16384x2048 ![] bcast_S_S16384x2048 (constant S_ .f32 0x3D372713#32)) (mulf (mulf P P) P)))))))

theorem actA_apply (X : FVec Ideal S16384x1024 .bf16) (W : FVec Ideal S1024x2048 .f32) (R : Fin 16384) (f : Fin 2048) :
    actA X W (ix2 R f) = act (fun q => X (ix2 R q)) W f := by
  unfold actA
  pointwise
  unfold act gelu
  rw [mul_comm (dot _ _) (dot _ _ * dot _ _)]
  rfl

/-- The second half, normed, as an array. -/
def halfA (X : FVec Ideal S16384x1024 .bf16) (W : FVec Ideal S1024x2048 .f32) : FVec Ideal S16384x1024 .f32 :=
  extractStridedSlice S16384x1024 ![0, 1024] (actA X W) slices_S16384x2048_S16384x1024_0_1024

theorem halfA_apply (X : FVec Ideal S16384x1024 .bf16) (W : FVec Ideal S1024x2048 .f32) (R : Fin 16384) (d : Fin 1024) :
    halfA X W (ix2 R d) = act (fun q => X (ix2 R q)) W (right d) := by
  rw [← actA_apply]
  unfold halfA
  pointwise
  rfl

/-- The reference's first array, element by element. -/
theorem value_U (X : FVec Ideal S16384x1024 .bf16) (W : FVec Ideal S1024x2048 .f32) :
    extractStridedSlice S16384x1024 ![0, 0] (actA X W) slices_S16384x2048_S16384x1024_0_0 = outU X W := by
  funext i
  obtain ⟨R, d, rfl⟩ : ∃ (R : Fin 16384) (d : Fin 1024), i = (ix2 R d : S16384x1024.Idx) := ⟨i 0, i 1, eq_ix2 i⟩
  refine Eq.trans ?_ (actA_apply X W R (left d))
  pointwise
  rfl

/-- The reference's second array, element by element. -/
theorem value_V (X : FVec Ideal S16384x1024 .bf16) (W : FVec Ideal S1024x2048 .f32) (G B : FVec Ideal S1024 .f32) :
    normA (halfA X W) G B = outV X W G B := by
  funext i
  obtain ⟨R, d, rfl⟩ : ∃ (R : Fin 16384) (d : Fin 1024), i = (ix2 R d : S16384x1024.Idx) := ⟨i 0, i 1, eq_ix2 i⟩
  rw [normA_apply]
  exact congrFun (congrFun (congrFun (congrArg norm (funext fun e => halfA_apply X W R e)) _) _) d

variable (m : (ℓ : Loc nD τ sig) → Buf (Elt Ideal) ℓ) (c : Dev nD)

theorem res_1 : Value.res_main_v40 (F := Ideal) m c = truncf (F := Ideal) .bf16 (normA (halfA (m ((c.tc : Thread nD τ).loc main_arg0)) (m ((c.tc : Thread nD τ).loc main_arg1)))
    (m ((c.tc : Thread nD τ).loc main_arg2)) (m ((c.tc : Thread nD τ).loc main_arg3))) bitsLt_bf16_f32 := by
  unfold Value.res_main_v40
  rfl

/-- The reference's run: the arguments unchanged, every counter zero. -/
theorem frame : Cert.quiescent_Reference5Ideal := fun m g _ =>
  (θ_run defs _ _).mono (fun r h => ⟨fun c => (h c).2.2, sem_eq_zero_of_no_sems (by decide) r.2⟩) (Value.run (F := Ideal) m g)

theorem outV_congr {X X' : S16384x1024.Idx → EReal} {W W' : S1024x2048.Idx → EReal} {G G' B B' : S1024.Idx → EReal} (h0 : X = X') (h1 : W = W')
    (h2 : G = G') (h3 : B = B') : outV X W G B = outV X' W' G' B' := by
  subst h0 h1 h2 h3
  rfl

/-- Equal arguments, equal arrays. -/
theorem algebraic : Cert.algebraic_Kernel5Ideal_Reference5Ideal := by
  intro m g m' g' _ hag
  refine ⟨fun c => outU (m ((c.tc : Thread Kernel5Ideal.nD Kernel5Ideal.τ).loc Kernel5Ideal.main_arg0)) (m ((c.tc : Thread Kernel5Ideal.nD Kernel5Ideal.τ).loc Kernel5Ideal.main_arg1)),
    fun c => outV (m ((c.tc : Thread Kernel5Ideal.nD Kernel5Ideal.τ).loc Kernel5Ideal.main_arg0)) (m ((c.tc : Thread Kernel5Ideal.nD Kernel5Ideal.τ).loc Kernel5Ideal.main_arg1))
      (m ((c.tc : Thread Kernel5Ideal.nD Kernel5Ideal.τ).loc Kernel5Ideal.main_arg2)) (m ((c.tc : Thread Kernel5Ideal.nD Kernel5Ideal.τ).loc Kernel5Ideal.main_arg3)), ?_, ?_⟩
  · exact (θ_run _ _ _).mono (fun r h c => ⟨(h c).1.trans (Kernel5Ideal.Calls.final_4 m c), (h c).2.1.trans (Kernel5Ideal.Calls.final_5 m c), (h c).2.2⟩)
      (Kernel5Ideal.Value.run_blocks (F := Ideal) m g)
  · refine (θ_run _ _ _).mono (fun r h c => ?_) (Value.run (F := Ideal) m' g')
    obtain ⟨h0, h1, h2, h3⟩ := hag c
    refine ⟨?_, ?_, (h c).2.2⟩
    · exact (h c).1.trans ((value_U _ _).trans (congrArg₂ outU h0 h1))
    · exact (h c).2.1.trans ((res_1 m' c).trans ((value_V _ _ _ _).trans (outV_congr h0 h1 h2 h3)))

end Cert.Reference5Ideal.Calls

end
-- ==== Proof.Kernel6Ideal.Value.lean ====
/- The banded attention's output projection: what its result array holds after the run. -/
module

public import proofs.«01_k».proof.Proof.Sums
public import proofs.«01_k».proof.Proof.Gen.Kernel6Ideal.Value
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.PureOps.Ideal

@[expose] public section

set_option maxRecDepth 16384

noncomputable section

namespace Cert.Kernel6Ideal.Calls

open Cert.Kernel6Ideal Cert.Kernel6Ideal.Gen Idealize.ShloMosaic Idealize.ShloMosaic.TcCoe Idealize.ShloMosaic.Tactic Idealize.SL.Sem
open Cert.Calls

/-- The projection of a row with the residual and its norm. -/
def layer (A : S16384x1024.Idx → EReal) (WO : S1024x1024.Idx → EReal) (H : S16384x1024.Idx → EReal) (G B : S1024.Idx → EReal) :
    S16384x1024.Idx → EReal := fun i =>
  norm (residual (fun e => H (ix2 (i 0) e)) fun e => dot (fun q : Fin 1024 => A (ix2 (i 0) q)) fun q => WO (ix2 q e)) (fun e => G (ix1 e))
    (fun e => B (ix1 e)) (i 1)

/-- The stored expression, element by element. -/
theorem pay_apply (a : Vec Ideal S512x1024 .bf16) (wo : Vec Ideal S1024x1024 .bf16) (h : Vec Ideal S512x1024 .f32) (g b : Vec Ideal S1x1024 .f32)
    (r : Fin 512) (d : Fin 1024) :
    k0_pay3 (F := Ideal) a wo h g b (ix2 r d)
      = norm (residual (fun e => h (ix2 r e)) fun e => dot (fun q => a (ix2 r q)) fun q => wo (ix2 q e)) (fun e => g (ix2 0 e)) (fun e => b (ix2 0 e)) d := by
  unfold k0_pay3
  pointwise
  rfl

variable (m : (ℓ : Loc nD τ sig) → Buf (Elt Ideal) ℓ) (c : Dev nD)

/-- The blocks' places at each grid point. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_6.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![0, 0] ∧ win0_6.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 1024) : iblk m c 0 t (ix2 r q) = m ((c : Thread nD τ).loc main_arg0) (ix2 (row t r) q) := by
  blk_ext [iblk, V, idx t, row]

theorem blk_2 (t : Fin cfg0.N) (r : Fin 512) (q : Fin 1024) : iblk m c 2 t (ix2 r q) = m ((c : Thread nD τ).loc main_arg2) (ix2 (row t r) q) := by
  blk_ext [iblk, V, idx t, row]

theorem blk_1 (t : Fin cfg0.N) (q d : Fin 1024) : iblk m c 1 t (ix2 q d) = m ((c : Thread nD τ).loc main_arg1) (ix2 q d) := by
  blk_ext [iblk, V, idx t]

theorem blk_3 (t : Fin cfg0.N) (d : Fin 1024) : iblk m c 3 t (ix2 0 d) = m ((c : Thread nD τ).loc main_arg3) (ix1 d) := by
  blk_ext! [iblk, V, idx t]

theorem blk_4 (t : Fin cfg0.N) (d : Fin 1024) : iblk m c 4 t (ix2 0 d) = m ((c : Thread nD τ).loc main_arg4) (ix1 d) := by
  blk_ext! [iblk, V, idx t]

/-- The arguments' values of `layer` in the launch memory. -/
def out : S16384x1024.Idx → EReal := layer (m ((c : Thread nD τ).loc main_arg0)) (m ((c : Thread nD τ).loc main_arg1)) (m ((c : Thread nD τ).loc main_arg2))
  (m ((c : Thread nD τ).loc main_arg3)) (m ((c : Thread nD τ).loc main_arg4))

/-- What a point stores, element by element. -/
theorem pay_blk (t : Fin cfg0.N) (r : Fin 512) (d : Fin 1024) :
    k0_pay3 (F := Ideal) (iblk m c 0 t) (iblk m c 1 t) (iblk m c 2 t) (iblk m c 3 t) (iblk m c 4 t) (ix2 r d) = out m c (ix2 (row t r) d) := by
  refine (pay_apply _ _ _ _ _ r d).trans ?_
  have e0 := funext fun q => blk_0 m c t r q
  have e2 := funext fun e => blk_2 m c t r e
  have e3 := funext fun e => blk_3 m c t e
  have e4 := funext fun e => blk_4 m c t e
  exact congrFun (congr (congrArg₂ norm (congrArg₂ residual e2 (funext fun e => congrArg₂ dot e0 (funext fun q => blk_1 m c t q e))) e3) e4) d

/-- The result's array after the run. -/
theorem final : (dats (F := Ideal) m 0 c).arrAt 6 cfg0.N = out m c := by
  refine (dats m 0 c).arrAt_eq_of_covers 6 _ (by decide +kernel) fun t hf y => ?_
  obtain ⟨r, d, rfl⟩ : ∃ (r : Fin 512) (d : Fin 1024), y = (ix2 r d : S512x1024.Idx) := ⟨y 0, y 1, eq_ix2 y⟩
  have he : ((cfg0.win 6).blk t).view.emb (ix2 r d : S512x1024.Idx) = (ix2 (row t r) d : S16384x1024.Idx) := by
    blk_ext [idx t, row]
  blk_simp
  rw [after0_6]
  refine Eq.trans ?_ (congrArg (out m c) he).symm
  by_cases h0 : t.val % 32 = 0
  · rw [outsAt0_A m c t h0]
    frame_out
    exact pay_blk m c t r d
  · rw [outsAt0_B m c t h0]
    frame_out
    exact pay_blk m c t r d

end Cert.Kernel6Ideal.Calls

end
-- ==== Proof.Reference6Ideal.Claim.lean ====
/- The banded attention's output projection: its claims. -/
module

public import proofs.«01_k».proof.Defs
public import proofs.«01_k».proof.Proof.Kernel6Ideal.Value
public import proofs.«01_k».proof.Proof.Gen.Reference6Ideal.Run
public import Idealize.ShloMosaic.Lib.Quiescent

@[expose] public section

set_option maxRecDepth 16384

noncomputable section

namespace Cert.Reference6Ideal.Calls

open Cert.Reference6Ideal Cert.Reference6Ideal.Gen Idealize.ShloMosaic Idealize.ShloMosaic.TcCoe Idealize.ShloMosaic.Tactic Idealize.SL.Sem
open Cert.Calls
open Cert.Kernel6Ideal.Calls (layer out)

/-- The residual with a branch's result, as an array. -/
def sumA (H M : FVec Ideal S16384x1024 .f32) : FVec Ideal S16384x1024 .f32 :=
  addf (mulf (broadcastInDim S16384x1024 ![] bcast_S_S16384x1024 (constant S_ .f32 0x3FD744FD#32)) H) M

/-- The rows' means, as an array. -/
def meanA (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_))
    (broadcastInDim S16384x1 ![] bcast_S_S16384x1 (constant S_ .f32 0x44800000#32))

/-- The rows less their means, as an array. -/
def centA (Z : FVec Ideal S16384x1024 .f32) : FVec Ideal S16384x1024 .f32 :=
  subf Z (broadcastInDim S16384x1024 ![0, 1] bcast_S16384x1_S16384x1024_0_1 (meanA Z))

/-- The layer norm, as an array. -/
def normA (Z : FVec Ideal S16384x1024 .f32) (G B : FVec Ideal S1024 .f32) : FVec Ideal S16384x1024 .f32 :=
  addf (mulf (mulf (centA Z) (broadcastInDim S16384x1024 ![0, 1] bcast_S16384x1_S16384x1024_0_1
      (Host.rsqrt (addf (meanA (mulf (centA Z) (centA Z))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 G)))
    (broadcastInDim S16384x1024 ![0, 1] bcast_S1x1024_S16384x1024_0_1 (broadcastInDim S1x1024 ![1] bcast_S1024_S1x1024_1 B))

theorem sumA_apply (H M : FVec Ideal S16384x1024 .f32) (R : Fin 16384) (d : Fin 1024) :
    sumA H M (ix2 R d) = residual (fun e => H (ix2 R e)) (fun e => M (ix2 R e)) d := by
  unfold sumA
  pointwise
  rfl

theorem meanA_apply (Z : FVec Ideal S16384x1024 .f32) (R : Fin 16384) : meanA Z (ix2 R 0) = mean fun e => Z (ix2 R e) := by
  unfold meanA
  pointwise
  rfl

theorem centA_apply (Z : FVec Ideal S16384x1024 .f32) (R : Fin 16384) (d : Fin 1024) :
    centA Z (ix2 R d) = Z (ix2 R d) - mean fun e => Z (ix2 R e) := by
  rw [← meanA_apply]
  unfold centA
  pointwise

theorem normA_apply (Z : FVec Ideal S16384x1024 .f32) (G B : FVec Ideal S1024 .f32) (R : Fin 16384) (d : Fin 1024) :
    normA Z G B (ix2 R d) = norm (fun e => Z (ix2 R e)) (fun e => G (ix1 e)) (fun e => B (ix1 e)) d := by
  unfold normA
  pointwise [meanA_apply, centA_apply]
  rfl

/-- The projection with the residual and its norm, as an array. -/
def layerA (A : FVec Ideal S16384x1024 .bf16) (WO : FVec Ideal S1024x1024 .f32) (H : FVec Ideal S16384x1024 .f32) (G B : FVec Ideal S1024 .f32) :
    FVec Ideal S16384x1024 .f32 :=
  normA (sumA H (Host.dotGeneral dot_S16384x1024_S1024x1024_S16384x1024_1_0_0_1_n_n none (extf .f32 A bitsLt_bf16_f32) WO)) G B

/-- The reference's array, element by element. -/
theorem value (A : FVec Ideal S16384x1024 .bf16) (WO : FVec Ideal S1024x1024 .f32) (H : FVec Ideal S16384x1024 .f32) (G B : FVec Ideal S1024 .f32) :
    layerA A WO H G B = layer A WO H G B := by
  funext i
  obtain ⟨R, d, rfl⟩ : ∃ (R : Fin 16384) (d : Fin 1024), i = (ix2 R d : S16384x1024.Idx) := ⟨i 0, i 1, eq_ix2 i⟩
  unfold layerA layer
  rw [normA_apply]
  refine congrFun (congrFun (congrFun (congrArg norm (funext fun e => (sumA_apply _ _ R e).trans ?_)) _) _) d
  refine congrFun (congrArg (residual _) (funext fun e => ?_)) e
  pointwise
  rfl

/-- The reference's run: the arguments unchanged, every counter zero. -/
theorem frame : Cert.quiescent_Reference6Ideal := fun m g _ =>
  (θ_run defs _ _).mono (fun r h => ⟨fun c => (h c).2, sem_eq_zero_of_no_sems (by decide) r.2⟩) (Value.run (F := Ideal) m g)

theorem layer_congr {A A' : S16384x1024.Idx → EReal} {WO WO' : S1024x1024.Idx → EReal} {H H' : S16384x1024.Idx → EReal}
    {G G' B B' : S1024.Idx → EReal} (h0 : A = A') (h1 : WO = WO') (h2 : H = H') (h3 : G = G') (h4 : B = B') :
    layer A WO H G B = layer A' WO' H' G' B' := by
  subst h0 h1 h2 h3 h4
  rfl

/-- Equal arguments, equal arrays. -/
theorem algebraic : Cert.algebraic_Kernel6Ideal_Reference6Ideal := by
  intro m g m' g' _ hag
  refine ⟨fun c => out m c, ?_, ?_⟩
  · exact (θ_run _ _ _).mono (fun r h c => ⟨(h c).1.trans (Kernel6Ideal.Calls.final m c), (h c).2.2.2⟩)
      (Kernel6Ideal.Value.run_blocks (F := Ideal) m g)
  · refine (θ_run _ _ _).mono (fun r h c => ?_) (Value.run (F := Ideal) m' g')
    obtain ⟨h0, h1, h2, h3, h4, h5⟩ := hag c
    refine ⟨?_, (h c).2⟩
    exact (h c).1.trans ((value (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4))).trans (layer_congr h0 h1 h2 h3 h4))

end Cert.Reference6Ideal.Calls

end
-- ==== Proof.Kernel7Ideal.Value.lean ====
/- The latent attention's query rank: what its result array holds after the run. -/
module

public import proofs.«01_k».proof.Proof.Sums
public import proofs.«01_k».proof.Proof.Gen.Kernel7Ideal.Value
public import Idealize.ShloMosaic.Lib.Pipeline.ValueKit
public import Idealize.ShloMosaic.Lib.Pointwise
public import Idealize.ShloMosaic.Lib.IdealHost
public import Idealize.ShloMosaic.PureOps.Ideal

@[expose] public section

set_option maxRecDepth 16384

noncomputable section

namespace Cert.Kernel7Ideal.Calls

open Cert.Kernel7Ideal Cert.Kernel7Ideal.Gen Idealize.ShloMosaic Idealize.ShloMosaic.TcCoe Idealize.ShloMosaic.Tactic Idealize.SL.Sem
open Cert.Calls (dot)

/-- The root-mean-square norm of one row of 384 entries, with gain `g`. -/
def rms (z g : Fin 384 → EReal) (d : Fin 384) : EReal :=
  z d * Ideal.rsqrt (Ideal.div (∑ q, z q * z q) (Ideal.ofBits .f32 0x43C00000#32) + Ideal.ofBits .f32 0x358637BD#32) * g d

/-- The norm of each row's projection. -/
def rank (X : S16384x1024.Idx → EReal) (W : S1024x384.Idx → EReal) (G : S384.Idx → EReal) : S16384x384.Idx → EReal := fun i =>
  rms (fun e => dot (fun q : Fin 1024 => X (ix2 (i 0) q)) fun q => W (ix2 q e)) (fun e => G (ix1 e)) (i 1)

/-- The stored expression, element by element. -/
theorem pay_apply (x : Vec Ideal S512x1024 .bf16) (w : Vec Ideal S1024x384 .bf16) (g : Vec Ideal S1x384 .f32) (r : Fin 512) (d : Fin 384) :
    k0_pay1 (F := Ideal) x w g (ix2 r d) = rms (fun e => dot (fun q => x (ix2 r q)) fun q => w (ix2 q e)) (fun e => g (ix2 0 e)) d := by
  unfold k0_pay1
  pointwise
  rfl

variable (m : (ℓ : Loc nD τ sig) → Buf (Elt Ideal) ℓ) (c : Dev nD)

/-- The blocks' places at each grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0]
    ∧ win0_3.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 1024) : iblk m c 0 t (ix2 r q) = m ((c : Thread nD τ).loc main_arg0) (ix2 (row t r) q) := by
  blk_ext [iblk, V, idx t, row]

theorem blk_1 (t : Fin cfg0.N) (q : Fin 1024) (d : Fin 384) : iblk m c 1 t (ix2 q d) = m ((c : Thread nD τ).loc main_arg1) (ix2 q d) := by
  blk_ext [iblk, V, idx t]

theorem blk_2 (t : Fin cfg0.N) (d : Fin 384) : iblk m c 2 t (ix2 0 d) = m ((c : Thread nD τ).loc main_arg2) (ix1 d) := by
  blk_ext! [iblk, V, idx t]

/-- The result's array after the run. -/
theorem final : (dats (F := Ideal) m 0 c).arrAt 3 cfg0.N
    = rank (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, d, rfl⟩ : ∃ (r : Fin 512) (d : Fin 384), y = (ix2 r d : S512x384.Idx) := ⟨y 0, y 1, eq_ix2 y⟩
  have he : ((cfg0.win 3).blk t).view.emb (ix2 r d : S512x384.Idx) = (ix2 (row t r) d : S16384x384.Idx) := by
    blk_ext [idx t, row]
  refine Eq.trans ?_ (congrArg (rank _ _ _) he).symm
  refine (pay_apply _ _ _ r d).trans ?_
  exact congrFun (congrArg₂ rms (funext fun e => congrArg₂ dot (funext fun q => blk_0 m c t r q) (funext fun q => blk_1 m c t q e))
    (funext fun e => blk_2 m c t e)) d

end Cert.Kernel7Ideal.Calls

end
-- ==== Proof.Reference7Ideal.Claim.lean ====
/- The latent attention's query rank: its claims. -/
module

public import proofs.«01_k».proof.Defs
public import proofs.«01_k».proof.Proof.Kernel7Ideal.Value
public import proofs.«01_k».proof.Proof.Gen.Reference7Ideal.Run
public import Idealize.ShloMosaic.Lib.Quiescent

@[expose] public section

set_option maxRecDepth 16384

noncomputable section

namespace Cert.Reference7Ideal.Calls

open Cert.Reference7Ideal Cert.Reference7Ideal.Gen Idealize.ShloMosaic Idealize.ShloMosaic.TcCoe Idealize.ShloMosaic.Tactic Idealize.SL.Sem
open Cert.Calls (dot)
open Cert.Kernel7Ideal.Calls (rms rank)

/-- The norm of an array's rows, as an array. -/
def normA (Z : FVec Ideal S16384x384 .f32) (G : FVec Ideal S384 .f32) : FVec Ideal S16384x384 .f32 :=
  mulf (mulf Z (broadcastInDim S16384x384 ![0, 1] bcast_S16384x1_S16384x384_0_1
      (Host.rsqrt (addf (Host.divf (broadcastInDim S16384x1 ![0] bcast_S16384_S16384x1_0
          (Host.reduceAdd (mulf Z Z) (constant S_ .f32 0x00000000#32) reducesTo_S16384x384_S16384_d1 h_S_))
        (broadcastInDim S16384x1 ![] bcast_S_S16384x1 (constant S_ .f32 0x43C00000#32)))
        (broadcastInDim S16384x1 ![] bcast_S_S16384x1 (constant S_ .f32 0x358637BD#32))))))
    (broadcastInDim S16384x384 ![0, 1] bcast_S1x384_S16384x384_0_1 (broadcastInDim S1x384 ![1] bcast_S384_S1x384_1 G))

theorem normA_apply (Z : FVec Ideal S16384x384 .f32) (G : FVec Ideal S384 .f32) (R : Fin 16384) (d : Fin 384) :
    normA Z G (ix2 R d) = rms (fun e => Z (ix2 R e)) (fun e => G (ix1 e)) d := by
  unfold normA
  pointwise
  rfl

/-- The normalised projection, as an array. -/
def rankA (X : FVec Ideal S16384x1024 .bf16) (W : FVec Ideal S1024x384 .f32) (G : FVec Ideal S384 .f32) : FVec Ideal S16384x384 .bf16 :=
  truncf .bf16 (normA (Host.dotGeneral dot_S16384x1024_S1024x384_S16384x384_1_0_0_1_n_n none (extf .f32 X bitsLt_bf16_f32) W) G) bitsLt_bf16_f32

/-- The reference's array, element by element. -/
theorem value (X : FVec Ideal S16384x1024 .bf16) (W : FVec Ideal S1024x384 .f32) (G : FVec Ideal S384 .f32) : rankA X W G = rank X W G := by
  funext i
  obtain ⟨R, d, rfl⟩ : ∃ (R : Fin 16384) (d : Fin 384), i = (ix2 R d : S16384x384.Idx) := ⟨i 0, i 1, eq_ix2 i⟩
  unfold rankA rank
  refine Eq.trans (b := normA (Host.dotGeneral dot_S16384x1024_S1024x384_S16384x384_1_0_0_1_n_n none (extf .f32 X bitsLt_bf16_f32) W) G (ix2 R d)) ?_ ?_
  · pointwise
  rw [normA_apply]
  refine congrFun (congrFun (congrArg rms (funext fun e => ?_)) _) d
  pointwise
  rfl

/-- The reference's run: the arguments unchanged, every counter zero. -/
theorem frame : Cert.quiescent_Reference7Ideal := fun m g _ =>
  (θ_run defs _ _).mono (fun r h => ⟨fun c => (h c).2, sem_eq_zero_of_no_sems (by decide) r.2⟩) (Value.run (F := Ideal) m g)

theorem rank_congr {X X' : S16384x1024.Idx → EReal} {W W' : S1024x384.Idx → EReal} {G G' : S384.Idx → EReal} (h0 : X = X') (h1 : W = W')
    (h2 : G = G') : rank X W G = rank X' W' G' := by
  subst h0 h1 h2
  rfl

/-- Equal arguments, equal arrays. -/
theorem algebraic : Cert.algebraic_Kernel7Ideal_Reference7Ideal := by
  intro m g m' g' _ hag
  refine ⟨fun c => rank (m ((c.tc : Thread Kernel7Ideal.nD Kernel7Ideal.τ).loc Kernel7Ideal.main_arg0)) (m ((c.tc : Thread Kernel7Ideal.nD Kernel7Ideal.τ).loc Kernel7Ideal.main_arg1))
    (m ((c.tc : Thread Kernel7Ideal.nD Kernel7Ideal.τ).loc Kernel7Ideal.main_arg2)), ?_, ?_⟩
  · exact (θ_run _ _ _).mono (fun r h c => ⟨(h c).1.trans (Kernel7Ideal.Calls.final m c), (h c).2⟩)
      (Kernel7Ideal.Value.run_blocks (F := Ideal) m g)
  · refine (θ_run _ _ _).mono (fun r h c => ?_) (Value.run (F := Ideal) m' g')
    obtain ⟨h0, h1, h2⟩ := hag c
    refine ⟨?_, (h c).2⟩
    exact (h c).1.trans ((value (m' ((c.tc : Thread nD τ).loc main_arg0)) (m' ((c.tc : Thread nD τ).loc main_arg1)) (m' ((c.tc : Thread nD τ).loc main_arg2))).trans (rank_congr h0 h1 h2))

end Cert.Reference7Ideal.Calls

end
-- ==== Proof.Kernel8Ideal.Tiles.lean ====
/- The spatial gating: what one tile of 128 rows and 128 columns holds, and the norm of the projected rows. -/
module

public import proofs.«01_k».proof.Proof.Sums
public import proofs.«01_k».proof.Proof.Gen.Kernel8Ideal.Value
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.PureOps.Ideal

@[expose] public section

set_option maxRecDepth 16384

noncomputable section

namespace Cert.Kernel8Ideal.Calls

open Cert.Kernel8Ideal Cert.Kernel8Ideal.Gen Idealize.ShloMosaic Idealize.ShloMosaic.TcCoe Idealize.ShloMosaic.Tactic Idealize.SL.Sem
open Cert.Calls

/-- A weight's entry from place `j` to place `i` of a chunk: zero where `j` lies in a later half than `i`. -/
def causal (w : EReal) (i j : Fin 128) : EReal := if j.val / 64 ≤ i.val / 64 then w else 0

/-- The kernel's comparison of two places' halves. -/
theorem mask_apply (i j : Fin 128) : k0_pay4 (ix2 i j : S128x128.Idx) = if j.val / 64 ≤ i.val / 64 then 1#1 else 0#1 := by
  have hs : ∀ a : Fin 128, IntOp.shrsi .vector (BitVec.ofNat 32 a.val) 6#32 = BitVec.ofNat 32 (a.val / 64) := by decide +kernel
  have hc : ∀ a b : Fin 2, IntOp.cmpi CmpIPredicate.sle (BitVec.ofNat 32 b.val) (BitVec.ofNat 32 a.val) = if b.val ≤ a.val then 1#1 else 0#1 := by
    decide +kernel
  unfold k0_pay4
  pointwise
  rw [hs, hs]
  exact hc ⟨i.val / 64, by omega⟩ ⟨j.val / 64, by omega⟩

/-- One tile's stored expression. -/
abbrev tile (w : Vec Ideal S1x128x128 .f32) (v : Vec Ideal S128x128 .bf16) (b : Vec Ideal S128x128 .f32) (u : Vec Ideal S128x128 .bf16) :
    FVec Ideal S128x128 .bf16 := k0_pay10 (F := Ideal) (k0_pay5 w) v b u

theorem weight_apply (w : Vec Ideal S1x128x128 .f32) (i j : Fin 128) : k0_pay5 (F := Ideal) w (ix2 i j) = causal (w (ix3 0 i j)) i j := by
  unfold k0_pay5
  pointwise
  rw [mask_apply]
  unfold causal
  by_cases h : j.val / 64 ≤ i.val / 64
  · rw [if_pos h, if_pos h]
    rfl
  · rw [if_neg h, if_neg h]
    rfl

theorem tile_apply (w : Vec Ideal S1x128x128 .f32) (v : Vec Ideal S128x128 .bf16) (b : Vec Ideal S128x128 .f32) (u : Vec Ideal S128x128 .bf16) (i e : Fin 128) :
    tile w v b u (ix2 i e) = u (ix2 i e) * (dot (fun j => causal (w (ix3 0 i j)) i j) (fun j => v (ix2 j e)) + b (ix2 i e)) := by
  unfold tile k0_pay10
  pointwise
  simp only [weight_apply]
  rfl

/-- The gated entry at row `r` and column `d` of a block of 512 rows. -/
def gateAt (ws : Vec Ideal S8x128x128 .f32) (bs : Vec Ideal S128x1024 .f32) (v u : Vec Ideal S512x1024 .bf16) (r : Fin 512) (d : Fin 1024) : EReal :=
  u (ix2 r d) * (dot (fun j : Fin 128 => causal (ws (ix3 (⟨d.val / 128, by omega⟩ : Fin 8) (⟨r.val % 128, by omega⟩ : Fin 128) j)) ⟨r.val % 128, by omega⟩ j)
    (fun j : Fin 128 => v (ix2 (⟨r.val / 128 * 128 + j.val, by omega⟩ : Fin 512) d)) + bs (ix2 (⟨r.val % 128, by omega⟩ : Fin 128) d))

/-- A tile whose operands are the blocks' slabs holds the gated entries. -/
theorem tile_at (ws : Vec Ideal S8x128x128 .f32) (bs : Vec Ideal S128x1024 .f32) (v u : Vec Ideal S512x1024 .bf16) (o p g : ℕ) (hw hv hb hu)
    (x : S128x128.Idx) (r : Fin 512) (d : Fin 1024) (h0 : r.val = o + (x 0).val) (h1 : d.val = p + (x 1).val) (ho : o % 128 = 0) (hp : p = 128 * g) :
    tile (View.ld ws (Rect.unit (s := S8x128x128) ![g, 0, 0] ![1, 128, 128] hw)) (View.ld v (Rect.unit (s := S512x1024) ![o, p] ![128, 128] hv))
      (View.ld bs (Rect.unit (s := S128x1024) ![0, p] ![128, 128] hb)) (View.ld u (Rect.unit (s := S512x1024) ![o, p] ![128, 128] hu)) x
      = gateAt ws bs v u r d := by
  obtain ⟨i, e, rfl⟩ : ∃ (i e : Fin 128), x = (ix2 i e : S128x128.Idx) := ⟨x 0, x 1, eq_ix2 x⟩
  have hi : r.val = o + i.val := h0
  have he : d.val = p + e.val := h1
  have hr : (⟨r.val % 128, by omega⟩ : Fin 128) = i := Fin.ext (by show r.val % 128 = i.val; omega)
  refine (tile_apply _ _ _ _ i e).trans ?_
  unfold gateAt
  rw [hr]
  refine congrArg₂ _ ?_ (congrArg₂ _ (congrArg₂ dot (funext fun j => congrArg (causal · i j) ?_) (funext fun j => ?_)) ?_)
  · exact View.ld_unit_apply_of u _ _ hu _ _ fun a => by
      match a with
      | ⟨0, _⟩ => exact hi
      | ⟨1, _⟩ => exact he
  · exact View.ld_unit_apply_of ws _ _ hw _ _ fun a => by
      match a with
      | ⟨0, _⟩ => exact (by omega : d.val / 128 = g + 0)
      | ⟨1, _⟩ => exact (Nat.zero_add _).symm
      | ⟨2, _⟩ => exact (Nat.zero_add _).symm
  · exact View.ld_unit_apply_of v _ _ hv _ _ fun a => by
      match a with
      | ⟨0, _⟩ => exact (by omega : r.val / 128 * 128 + j.val = o + j.val)
      | ⟨1, _⟩ => exact he
  · exact View.ld_unit_apply_of bs _ _ hb _ _ fun a => by
      match a with
      | ⟨0, _⟩ => exact (Nat.zero_add _).symm
      | ⟨1, _⟩ => exact he

/-- The stored rows, element by element. -/
theorem pay_apply (a : Vec Ideal S512x1024 .bf16) (wo : Vec Ideal S1024x1024 .bf16) (h : Vec Ideal S512x1024 .f32) (g b : Vec Ideal S1x1024 .f32)
    (r : Fin 512) (d : Fin 1024) :
    k0_pay59 (F := Ideal) (k0_pay57 a wo h g) (k0_pay58 b) (ix2 r d)
      = norm (residual (fun e => h (ix2 r e)) fun e => dot (fun q => a (ix2 r q)) fun q => wo (ix2 q e)) (fun e => g (ix2 0 e)) (fun e => b (ix2 0 e)) d := by
  unfold k0_pay59 k0_pay57 k0_pay58
  pointwise
  rfl

end Cert.Kernel8Ideal.Calls

end
-- ==== Proof.Kernel8Ideal.Value.lean ====
/- The spatial gating with its projection: what the run leaves in its first result array. -/
module

public import proofs.«01_k».proof.Proof.Kernel8Ideal.Tiles

@[expose] public section

set_option maxRecDepth 16384

noncomputable section

namespace Cert.Kernel8Ideal.Calls

open Cert.Kernel8Ideal Cert.Kernel8Ideal.Gen Idealize.ShloMosaic Idealize.ShloMosaic.TcCoe Idealize.ShloMosaic.Tactic Idealize.SL.Sem
open Cert.Calls

/-- The gated entry at row `R` and column `d`: the first operand times the chunk's mixture of the second, with its bias. -/
def gated (U V : S16384x1024.Idx → EReal) (WS : S8x128x128.Idx → EReal) (BS : S8x128.Idx → EReal) (R : Fin 16384) (d : Fin 1024) : EReal :=
  U (ix2 R d) * (dot (fun j : Fin 128 => causal (WS (ix3 (⟨d.val / 128, by omega⟩ : Fin 8) (⟨R.val % 128, by omega⟩ : Fin 128) j)) ⟨R.val % 128, by omega⟩ j)
    (fun j : Fin 128 => V (ix2 (⟨R.val / 128 * 128 + j.val, by omega⟩ : Fin 16384) d))
    + BS (ix2 (⟨d.val / 128, by omega⟩ : Fin 8) (⟨R.val % 128, by omega⟩ : Fin 128)))

/-- The projection of the gated rows with the residual and its norm. -/
def layer (U V : S16384x1024.Idx → EReal) (WS : S8x128x128.Idx → EReal) (BS : S8x128.Idx → EReal) (WO : S1024x1024.Idx → EReal)
    (H : S16384x1024.Idx → EReal) (G B : S1024.Idx → EReal) : S16384x1024.Idx → EReal := fun i =>
  norm (residual (fun e => H (ix2 (i 0) e)) fun e => dot (fun q : Fin 1024 => gated U V WS BS (i 0) q) fun q => WO (ix2 q e)) (fun e => G (ix1 e))
    (fun e => B (ix1 e)) (i 1)

variable (m : (ℓ : Loc nD τ sig) → Buf (Elt Ideal) ℓ) (c : Dev nD)

/-- The blocks' places at each grid point. -/
theorem idx : ∀ t : Fin cfg0.N, win0_0.index t = ![t.val, 0] ∧ win0_1.index t = ![t.val, 0] ∧ win0_2.index t = ![0, 0, 0] ∧ win0_3.index t = ![0, 0]
    ∧ win0_4.index t = ![0, 0] ∧ win0_5.index t = ![t.val, 0] ∧ win0_6.index t = ![0, 0] ∧ win0_7.index t = ![0, 0] ∧ win0_9.index t = ![t.val, 0] :=
  (by decide +kernel : ∀ t : Fin grid0.N, win0_0.index t = ![t.val, 0] ∧ win0_1.index t = ![t.val, 0] ∧ win0_2.index t = ![0, 0, 0] ∧ win0_3.index t = ![0, 0]
    ∧ win0_4.index t = ![0, 0] ∧ win0_5.index t = ![t.val, 0] ∧ win0_6.index t = ![0, 0] ∧ win0_7.index t = ![0, 0] ∧ win0_9.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 1024) : iblk m c 0 t (ix2 r q) = m ((c : Thread nD τ).loc main_arg0) (ix2 (row t r) q) := by
  blk_ext [iblk, V, idx t, row]

theorem blk_1 (t : Fin cfg0.N) (r : Fin 512) (q : Fin 1024) : iblk m c 1 t (ix2 r q) = m ((c : Thread nD τ).loc main_arg1) (ix2 (row t r) q) := by
  blk_ext [iblk, V, idx t, row]

theorem blk_2 (t : Fin cfg0.N) (g : Fin 8) (i j : Fin 128) : iblk m c 2 t (ix3 g i j) = m ((c : Thread nD τ).loc main_arg2) (ix3 g i j) := by
  blk_ext [iblk, V, idx t]

/-- The bias as the host spreads it: each group's value in its 128 columns. -/
theorem host : (V m c main_v2 : S128x1024.Idx → EReal) = shapeCast S128x1024 (broadcastInDim S128x8x128 ![0, 1] bcast_S128x8_S128x8x128_0_1
    (transpose S128x8 [1, 0] (m ((c : Thread nD τ).loc main_arg3) : S8x128.Idx → EReal) transposes_S8x128_S128x8_1_0)) shapeCasts_S128x8x128_S128x1024 := by
  unfold V hostOps0
  after_results_simp
  rfl

theorem blk_3 (t : Fin cfg0.N) (i : Fin 128) (d : Fin 1024) :
    iblk m c 3 t (ix2 i d) = m ((c : Thread nD τ).loc main_arg3) (ix2 (⟨d.val / 128, by omega⟩ : Fin 8) i) := by
  have he : ((cfg0.win 3).blk t).view.emb (ix2 i d : S128x1024.Idx) = (ix2 i d : S128x1024.Idx) := by
    blk_ext [idx t]
  refine (congrArg (V m c main_v2) he).trans ((congrFun (host m c) (ix2 i d)).trans ?_)
  pointwise

theorem blk_4 (t : Fin cfg0.N) (q d : Fin 1024) : iblk m c 4 t (ix2 q d) = m ((c : Thread nD τ).loc main_arg4) (ix2 q d) := by
  blk_ext [iblk, V, idx t]

theorem blk_5 (t : Fin cfg0.N) (r : Fin 512) (q : Fin 1024) : iblk m c 5 t (ix2 r q) = m ((c : Thread nD τ).loc main_arg5) (ix2 (row t r) q) := by
  blk_ext [iblk, V, idx t, row]

theorem blk_6 (t : Fin cfg0.N) (d : Fin 1024) : iblk m c 6 t (ix2 0 d) = m ((c : Thread nD τ).loc main_arg6) (ix1 d) := by
  blk_ext! [iblk, V, idx t]

theorem blk_7 (t : Fin cfg0.N) (d : Fin 1024) : iblk m c 7 t (ix2 0 d) = m ((c : Thread nD τ).loc main_arg7) (ix1 d) := by
  blk_ext! [iblk, V, idx t]

/-- A block's gated entries are the array's. -/
theorem gateAt_blk (t : Fin cfg0.N) (r : Fin 512) (d : Fin 1024) :
    gateAt (iblk m c 2 t) (iblk m c 3 t) (iblk m c 1 t) (iblk m c 0 t) r d
      = gated (m ((c : Thread nD τ).loc main_arg0)) (m ((c : Thread nD τ).loc main_arg1)) (m ((c : Thread nD τ).loc main_arg2))
        (m ((c : Thread nD τ).loc main_arg3)) (row t r) d := by
  have hr : (⟨(row t r).val % 128, by omega⟩ : Fin 128) = ⟨r.val % 128, by omega⟩ := Fin.ext (by show (t.val * 512 + r.val) % 128 = r.val % 128; omega)
  unfold gateAt gated
  rw [hr]
  refine congrArg₂ _ (blk_0 m c t r d) (congrArg₂ _ (congrArg₂ dot (funext fun j => congrArg (causal · _ j) (blk_2 m c t _ _ j)) (funext fun j => ?_)) (blk_3 m c t _ d))
  refine (blk_1 m c t _ d).trans (congrArg (fun R => m ((c : Thread nD τ).loc main_arg1) (ix2 R d)) (Fin.ext ?_))
  show t.val * 512 + (r.val / 128 * 128 + j.val) = (t.val * 512 + r.val) / 128 * 128 + j.val
  omega

/-- The arguments' values of `layer` in the launch memory. -/
def out : S16384x1024.Idx → EReal := layer (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7))

/-- What a point stores, element by element, when the scratch buffer holds the gated entries. -/
theorem pay_blk (t : Fin cfg0.N) (a : Vec Ideal S512x1024 .bf16) (r : Fin 512) (d : Fin 1024)
    (ha : ∀ e : Fin 1024, a (ix2 r e) = gateAt (iblk m c 2 t) (iblk m c 3 t) (iblk m c 1 t) (iblk m c 0 t) r e) :
    k0_pay59 (F := Ideal) (k0_pay57 a (iblk m c 4 t) (iblk m c 5 t) (iblk m c 6 t)) (k0_pay58 (iblk m c 7 t)) (ix2 r d) = out m c (ix2 (row t r) d) := by
  refine (pay_apply _ _ _ _ _ r d).trans ?_
  have e0 := funext fun q => (ha q).trans (gateAt_blk m c t r q)
  have e5 := funext fun e => blk_5 m c t r e
  have e6 := funext fun e => blk_6 m c t e
  have e7 := funext fun e => blk_7 m c t e
  exact congrFun (congr (congrArg₂ norm (congrArg₂ residual e5 (funext fun e => congrArg₂ dot e0 (funext fun q => blk_4 m c t q e))) e6) e7) d

/-- The result's array after the run. -/
theorem final : (dats (F := Ideal) m 0 c).arrAt 9 cfg0.N = out m c := by
  refine (dats m 0 c).arrAt_eq_of_covers 9 _ (by decide +kernel) fun t hf y => ?_
  obtain ⟨r, d, rfl⟩ : ∃ (r : Fin 512) (d : Fin 1024), y = (ix2 r d : S512x1024.Idx) := ⟨y 0, y 1, eq_ix2 y⟩
  have he : ((cfg0.win 9).blk t).view.emb (ix2 r d : S512x1024.Idx) = (ix2 (row t r) d : S16384x1024.Idx) := by
    blk_ext [idx t, row]
  blk_simp
  rw [after0_9]
  refine Eq.trans ?_ (congrArg (out m c) he).symm
  have hx : ∀ (e : Fin 1024) h, (Rect.unit (s := S512x1024) ![0, 0] ![512, 1024] h).idx (ix2 r e : S512x1024.Idx) = (ix2 r e : S512x1024.Idx) := fun e h => by
    refine funext fun a => Fin.ext ?_
    match a with
    | ⟨0, _⟩ => exact (Rect.idx_unit_val _ _ _ _ _).trans (Nat.zero_add _)
    | ⟨1, _⟩ => exact (Rect.idx_unit_val _ _ _ _ _).trans (Nat.zero_add _)
  by_cases hz : t.val % 32 = 0
  · rw [outsAt0_A m c t hz]
    frame_out
    refine pay_blk m c t _ r d fun e => ?_
    refine (congrFun (View.readCov_eq_canon' _ _ _) _).trans ?_
    refine Eq.trans (congrArg (View.canon _) (hx e _)) ?_
    canon_tiles x h
    all_goals
      exact tile_at _ _ _ _ _ _ _ _ _ _ _ x r e (by first | exact h0 | exact h0.trans (Nat.zero_add _).symm)
        (by first | exact h1 | exact h1.trans (Nat.zero_add _).symm) (by decide) (by decide)
  · rw [outsAt0_B m c t hz]
    frame_out
    refine pay_blk m c t _ r d fun e => ?_
    refine (congrFun (View.readCov_eq_canon' _ _ _) _).trans ?_
    refine Eq.trans (congrArg (View.canon _) (hx e _)) ?_
    canon_tiles x h
    all_goals
      exact tile_at _ _ _ _ _ _ _ _ _ _ _ x r e (by first | exact h0 | exact h0.trans (Nat.zero_add _).symm)
        (by first | exact h1 | exact h1.trans (Nat.zero_add _).symm) (by decide) (by decide)

end Cert.Kernel8Ideal.Calls

end
-- ==== Proof.Reference8Ideal.Claim.lean ====
/- The spatial gating with its projection: its claims. -/
module

public import proofs.«01_k».proof.Defs
public import proofs.«01_k».proof.Proof.Kernel8Ideal.Value
public import proofs.«01_k».proof.Proof.Gen.Reference8Ideal.Run
public import Idealize.ShloMosaic.Lib.Quiescent

@[expose] public section

set_option maxRecDepth 16384

noncomputable section

namespace Cert.Reference8Ideal.Calls

open Cert.Reference8Ideal Cert.Reference8Ideal.Gen Idealize.ShloMosaic Idealize.ShloMosaic.TcCoe Idealize.ShloMosaic.Tactic Idealize.SL.Sem
open Cert.Calls
open Cert.Kernel8Ideal.Calls (causal gated layer out)

/-- The residual with a branch's result, as an array. -/
def sumA (H M : FVec Ideal S16384x1024 .f32) : FVec Ideal S16384x1024 .f32 :=
  addf (mulf (broadcastInDim S16384x1024 ![] bcast_S_S16384x1024 (constant S_ .f32 0x3FD744FD#32)) H) M

/-- The rows' means, as an array. -/
def meanA (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_))
    (broadcastInDim S16384x1 ![] bcast_S_S16384x1 (constant S_ .f32 0x44800000#32))

/-- The rows less their means, as an array. -/
def centA (Z : FVec Ideal S16384x1024 .f32) : FVec Ideal S16384x1024 .f32 :=
  subf Z (broadcastInDim S16384x1024 ![0, 1] bcast_S16384x1_S16384x1024_0_1 (meanA Z))

/-- The layer norm, as an array. -/
def normA (Z : FVec Ideal S16384x1024 .f32) (G B : FVec Ideal S1024 .f32) : FVec Ideal S16384x1024 .f32 :=
  addf (mulf (mulf (centA Z) (broadcastInDim S16384x1024 ![0, 1] bcast_S16384x1_S16384x1024_0_1
      (Host.rsqrt (addf (meanA (mulf (centA Z) (centA Z))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 G)))
    (broadcastInDim S16384x1024 ![0, 1] bcast_S1x1024_S16384x1024_0_1 (broadcastInDim S1x1024 ![1] bcast_S1024_S1x1024_1 B))

theorem sumA_apply (H M : FVec Ideal S16384x1024 .f32) (R : Fin 16384) (d : Fin 1024) :
    sumA H M (ix2 R d) = residual (fun e => H (ix2 R e)) (fun e => M (ix2 R e)) d := by
  unfold sumA
  pointwise
  rfl

theorem meanA_apply (Z : FVec Ideal S16384x1024 .f32) (R : Fin 16384) : meanA Z (ix2 R 0) = mean fun e => Z (ix2 R e) := by
  unfold meanA
  pointwise
  rfl

theorem centA_apply (Z : FVec Ideal S16384x1024 .f32) (R : Fin 16384) (d : Fin 1024) :
    centA Z (ix2 R d) = Z (ix2 R d) - mean fun e => Z (ix2 R e) := by
  rw [← meanA_apply]
  unfold centA
  pointwise

theorem normA_apply (Z : FVec Ideal S16384x1024 .f32) (G B : FVec Ideal S1024 .f32) (R : Fin 16384) (d : Fin 1024) :
    normA Z G B (ix2 R d) = norm (fun e => Z (ix2 R e)) (fun e => G (ix1 e)) (fun e => B (ix1 e)) d := by
  unfold normA
  pointwise [meanA_apply, centA_apply]
  rfl

/-- The half of a chunk that each place lies in. -/
def halfA : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

/-- The places a place may read from. -/
def maskA : IVec S128x128 1 :=
  cmpi .sle (broadcastInDim S128x128 ![0, 1] bcast_S1x128_S128x128_0_1 (broadcastInDim S1x128 ![1] bcast_S128_S1x128_1 halfA))
    (broadcastInDim S128x128 ![0, 1] bcast_S128x1_S128x128_0_1 (broadcastInDim S128x1 ![0] bcast_S128_S128x1_0 halfA))

/-- The chunk weights with the later half left out, as an array. -/
def weightA (WS : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 maskA)) WS
    (broadcastInDim S8x128x128 ![] bcast_S_S8x128x128 (id (constant S_ .f32 0x00000000#32)))

/-- The mixture of each chunk's rows with its bias, as an array. -/
def mixedA (V : FVec Ideal S16384x1024 .bf16) (WS : FVec Ideal S8x128x128 .f32) (BS : FVec Ideal S8x128 .f32) : FVec Ideal S128x128x8x128 .f32 :=
  addf (transpose S128x128x8x128 [1, 3, 0, 2] (Host.dotGeneral dot_S128x128x8x128_S8x128x128_S8x128x128x128_1_2_03_1_2_0 none
      (shapeCast S128x128x8x128 (extf .f32 V bitsLt_bf16_f32) shapeCasts_S16384x1024_S128x128x8x128) (weightA WS)) transposes_S8x128x128x128_S128x128x8x128_1_3_0_2)
    (broadcastInDim S128x128x8x128 ![0, 1, 2, 3] bcast_S1x128x8x1_S128x128x8x128_0_1_2_3
      (broadcastInDim S1x128x8x1 ![1, 2] bcast_S128x8_S1x128x8x1_1_2 (transpose S128x8 [1, 0] BS transposes_S8x128_S128x8_1_0)))

/-- The gated rows, as an array. -/
def gatedA (U V : FVec Ideal S16384x1024 .bf16) (WS : FVec Ideal S8x128x128 .f32) (BS : FVec Ideal S8x128 .f32) : FVec Ideal S16384x1024 .f32 :=
  mulf (extf .f32 U bitsLt_bf16_f32) (shapeCast S16384x1024 (mixedA V WS BS) shapeCasts_S128x128x8x128_S16384x1024)

/-- Place `a` lies in half `a / 64`: over the 128 places, by evaluation. -/
theorem halfA_apply (a : Fin 128) : halfA (ix1 a) = BitVec.ofNat 32 (a.val / 64) := by
  have hk : ∀ b : Fin 128, Scalar.select
      (IntOp.andi
        (IntOp.cmpi CmpIPredicate.ne (if BitVec.ofNat 32 b.val = 0 then 0#32 else if (BitVec.ofNat 32 b.val).msb = true then -1 else 1)
          (if 64#32 = 0 then 0#32 else if (64#32).msb = true then -1 else 1))
        (IntOp.cmpi CmpIPredicate.ne (IntOp.remsi ArithUnit.host (BitVec.ofNat 32 b.val) 64#32) 0#32))
      (IntOp.subi (IntOp.divsi ArithUnit.host (BitVec.ofNat 32 b.val) 64#32) 1#32)
      (IntOp.divsi ArithUnit.host (BitVec.ofNat 32 b.val) 64#32) = BitVec.ofNat 32 (b.val / 64) := by
    decide +kernel
  unfold halfA
  pointwise
  exact hk a

/-- A place reads from the places of no later half. -/
theorem maskA_apply (i j : Fin 128) : maskA (ix2 i j) = if j.val / 64 ≤ i.val / 64 then 1#1 else 0#1 := by
  have hc : ∀ a b : Fin 2, IntOp.cmpi CmpIPredicate.sle (BitVec.ofNat 32 b.val) (BitVec.ofNat 32 a.val) = if b.val ≤ a.val then 1#1 else 0#1 := by
    decide +kernel
  unfold maskA
  pointwise
  rw [halfA_apply, halfA_apply]
  exact hc ⟨i.val / 64, by omega⟩ ⟨j.val / 64, by omega⟩

/-- A masked weight. -/
theorem weightA_apply (WS : FVec Ideal S8x128x128 .f32) (g : Fin 8) (i j : Fin 128) : weightA WS (ix3 g i j) = causal (WS (ix3 g i j)) i j := by
  unfold weightA
  pointwise
  rw [maskA_apply]
  unfold causal
  by_cases h : j.val / 64 ≤ i.val / 64
  · rw [if_pos h, if_pos h]
    rfl
  · rw [if_neg h, if_neg h]
    exact Ideal.ofBits_zero_f32

/-- A mixture: the sum over a chunk's 128 places, in the kernel's order of factors. -/
theorem mixedA_apply (V : FVec Ideal S16384x1024 .bf16) (WS : FVec Ideal S8x128x128 .f32) (BS : FVec Ideal S8x128 .f32) (k i : Fin 128) (g : Fin 8) (e : Fin 128) :
    mixedA V WS BS (ix4 k i g e)
      = dot (fun j : Fin 128 => causal (WS (ix3 g i j)) i j) (fun j => V (ix2 (⟨k.val * 128 + j.val, by omega⟩ : Fin 16384) (⟨g.val * 128 + e.val, by omega⟩ : Fin 1024)))
        + BS (ix2 g i) := by
  unfold mixedA
  pointwise
  refine congrArg (· + BS (ix2 g i)) (Finset.sum_congr rfl fun x _ => ?_)
  rw [weightA_apply]
  exact mul_comm _ _

/-- A gated entry. -/
theorem gatedA_apply (U V : FVec Ideal S16384x1024 .bf16) (WS : FVec Ideal S8x128x128 .f32) (BS : FVec Ideal S8x128 .f32) (R : Fin 16384) (d : Fin 1024) :
    gatedA U V WS BS (ix2 R d) = gated U V WS BS R d := by
  unfold gatedA
  pointwise
  rw [mixedA_apply]
  have hd : (⟨d.val / 128 * 128 + d.val % 128, by omega⟩ : Fin 1024) = d := Fin.ext (by show d.val / 128 * 128 + d.val % 128 = d.val; omega)
  unfold gated
  rw [hd]

/-- The projection with the residual and its norm, as an array. -/
def layerA (U V : FVec Ideal S16384x1024 .bf16) (WS : FVec Ideal S8x128x128 .f32) (BS : FVec Ideal S8x128 .f32) (WO : FVec Ideal S1024x1024 .f32)
    (H : FVec Ideal S16384x1024 .f32) (G B : FVec Ideal S1024 .f32) : FVec Ideal S16384x1024 .f32 :=
  normA (sumA H (Host.dotGeneral dot_S16384x1024_S1024x1024_S16384x1024_1_0_0_1_n_n none (gatedA U V WS BS) WO)) G B

/-- The reference's array, element by element. -/
theorem value (U V : FVec Ideal S16384x1024 .bf16) (WS : FVec Ideal S8x128x128 .f32) (BS : FVec Ideal S8x128 .f32) (WO : FVec Ideal S1024x1024 .f32)
    (H : FVec Ideal S16384x1024 .f32) (G B : FVec Ideal S1024 .f32) : layerA U V WS BS WO H G B = layer U V WS BS WO H G B := by
  funext i
  obtain ⟨R, d, rfl⟩ : ∃ (R : Fin 16384) (d : Fin 1024), i = (ix2 R d : S16384x1024.Idx) := ⟨i 0, i 1, eq_ix2 i⟩
  unfold layerA layer
  rw [normA_apply]
  refine congrFun (congrFun (congrFun (congrArg norm (funext fun e => (sumA_apply _ _ R e).trans ?_)) _) _) d
  refine congrFun (congrArg (residual _) (funext fun e => ?_)) e
  refine Eq.trans (b := dot (fun q : Fin 1024 => gatedA U V WS BS (ix2 R q)) fun q => WO (ix2 q e)) ?_ ?_
  · pointwise
    rfl
  · exact congrFun (congrArg dot (funext fun q => gatedA_apply U V WS BS R q)) _

/-- The reference's run: the arguments unchanged, every counter zero. -/
theorem frame : Cert.quiescent_Reference8Ideal := fun m g _ =>
  (θ_run defs _ _).mono (fun r h => ⟨fun c => (h c).2, sem_eq_zero_of_no_sems (by decide) r.2⟩) (Value.run (F := Ideal) m g)

/-- Equal arguments give equal arrays. -/
theorem layer_congr {U U' V V' : S16384x1024.Idx → EReal} {WS WS' : S8x128x128.Idx → EReal} {BS BS' : S8x128.Idx → EReal} {WO WO' : S1024x1024.Idx → EReal}
    {H H' : S16384x1024.Idx → EReal} {G G' B B' : S1024.Idx → EReal} (h0 : U = U') (h1 : V = V') (h2 : WS = WS') (h3 : BS = BS') (h4 : WO = WO') (h5 : H = H')
    (h6 : G = G') (h7 : B = B') : layer U V WS BS WO H G B = layer U' V' WS' BS' WO' H' G' B' := by
  subst h0 h1 h2 h3 h4 h5 h6 h7
  rfl

/-- The named result's term is that array. -/
theorem res_eq (m : (ℓ : Loc nD τ sig) → Buf (Elt Ideal) ℓ) (c : Dev nD) :
    Value.res_out0 (F := Ideal) m c = layerA (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

/-- From equal arguments the kernel and the reference end with equal arrays. -/
theorem algebraic : Cert.algebraic_Kernel8Ideal_Reference8Ideal := by
  intro m g m' g' _ hag
  refine ⟨fun c => out m c, ?_, ?_⟩
  · exact (θ_run _ _ _).mono (fun r h c => ⟨(h c).1.trans (Kernel8Ideal.Calls.final m c), (h c).2.2.2⟩)
      (Kernel8Ideal.Value.run_blocks (F := Ideal) m g)
  · refine (θ_run _ _ _).mono (fun r h c => ?_) (Value.run (F := Ideal) m' g')
    obtain ⟨h0, h1, h2, h3, h4, h5, h6, h7, h8⟩ := hag c
    refine ⟨?_, (h c).2⟩
    exact (h c).1.trans ((res_eq m' c).trans ((value _ _ _ _ _ _ _ _).trans (layer_congr h0 h1 h2 h3 h4 h5 h6 h7)))

end Cert.Reference8Ideal.Calls

end
-- ==== Proof.Kernel9Ideal.Value.lean ====
/- The latent attention's keys and values: what the run leaves in its result array. -/
module

public import proofs.«01_k».proof.Proof.Sums
public import proofs.«01_k».proof.Proof.Gen.Kernel9Ideal.Value
public import Idealize.ShloMosaic.Lib.Pipeline.ValueKit
public import Idealize.ShloMosaic.Lib.Pointwise
public import Idealize.ShloMosaic.Lib.IdealHost
public import Idealize.ShloMosaic.PureOps.Ideal

@[expose] public section

set_option maxRecDepth 16384

noncomputable section

namespace Cert.Kernel9Ideal.Calls

open Cert.Kernel9Ideal Cert.Kernel9Ideal.Gen Idealize.ShloMosaic Idealize.ShloMosaic.TcCoe Idealize.ShloMosaic.Tactic Idealize.SL.Sem
open Cert.Calls (dot)

/-- The keys' columns of the weight's first rows: each head's 64 columns, filled up with zeros. -/
def topA (W : FVec Ideal S256x2048 .f32) : FVec Ideal S256x2048 .f32 :=
  shapeCast S256x2048 (concatenate S256x16x128 2 [⟨S256x16x64, extractStridedSlice S256x16x64 ![0, 0, 0] (shapeCast S256x16x128 W shapeCasts_S256x2048_S256x16x128) slices_S256x16x128_S256x16x64_0_0_0⟩,
    ⟨S256x16x64, (broadcastInDim S256x16x64 ![] bcast_S_S256x16x64 (constant S_ .f32 0x00000000#32) : FVec Ideal S256x16x64 .f32)⟩] concatenates_S256x16x64_S256x16x64_S256x16x128_d2) shapeCasts_S256x16x128_S256x2048

/-- The values' columns of the weight's first rows. -/
def valA (W : FVec Ideal S256x2048 .f32) : FVec Ideal S256x1024 .f32 :=
  shapeCast S256x1024 (extractStridedSlice S256x16x64 ![0, 0, 64] (shapeCast S256x16x128 W shapeCasts_S256x2048_S256x16x128) slices_S256x16x128_S256x16x64_0_0_64) shapeCasts_S256x16x64_S256x1024

/-- The identity matrix of 32 rows. -/
def eyeA : FVec Ideal S32x32 .f32 :=
  uitofp .f32 (cmpi .eq (addi (iotaInDim S32x32 32 0) (broadcastInDim S32x32 ![] bcast_S_S32x32 (constantI S_ 32 0#32))) (iotaInDim S32x32 32 1))

/-- The keys' columns of the weight's next 32 rows: for each head the identity, between zeros. -/
def midA : FVec Ideal S32x2048 .f32 :=
  shapeCast S32x2048 (concatenate S32x16x128 2 [⟨S32x16x64, (broadcastInDim S32x16x64 ![] bcast_S_S32x16x64 (constant S_ .f32 0x00000000#32) : FVec Ideal S32x16x64 .f32)⟩,
    ⟨S32x16x32, broadcastInDim S32x16x32 ![0, 1, 2] bcast_S32x1x32_S32x16x32_0_1_2 (broadcastInDim S32x1x32 ![0, 2] bcast_S32x32_S32x1x32_0_2 eyeA)⟩,
    ⟨S32x16x32, (broadcastInDim S32x16x32 ![] bcast_S_S32x16x32 (constant S_ .f32 0x00000000#32) : FVec Ideal S32x16x32 .f32)⟩] concatenates_S32x16x64_S32x16x32_S32x16x32_S32x16x128_d2) shapeCasts_S32x16x128_S32x2048

/-- The weight the call multiplies by. -/
def weightA (W : FVec Ideal S256x2048 .f32) : FVec Ideal S384x3072 .bf16 :=
  truncf .bf16 (concatenate S384x3072 0 [⟨S256x3072, concatenate S256x3072 1 [⟨S256x2048, topA W⟩, ⟨S256x1024, valA W⟩] concatenates_S256x2048_S256x1024_S256x3072_d1⟩,
    ⟨S32x3072, concatenate S32x3072 1 [⟨S32x2048, midA⟩, ⟨S32x1024, (broadcastInDim S32x1024 ![] bcast_S_S32x1024 (constant S_ .f32 0x00000000#32) : FVec Ideal S32x1024 .f32)⟩] concatenates_S32x2048_S32x1024_S32x3072_d1⟩,
    ⟨S96x3072, (broadcastInDim S96x3072 ![] bcast_S_S96x3072 (constant S_ .f32 0x00000000#32) : FVec Ideal S96x3072 .f32)⟩] concatenates_S256x3072_S32x3072_S96x3072_S384x3072_d0) bitsLt_bf16_f32

section
variable (W : FVec Ideal S256x2048 .f32)

theorem topA_apply (q : Fin 256) (d : Fin 2048) : topA W (ix2 q d) = if d.val % 128 < 64 then W (ix2 q d) else (0 : EReal) := by
  unfold topA
  pointwise
  rfl

theorem valA_apply (q : Fin 256) (d : Fin 1024) : valA W (ix2 q d) = W (ix2 q ⟨d.val / 64 * 128 + (64 + d.val % 64), by omega⟩) := by
  unfold valA
  pointwise

theorem eyeA_apply (p q : Fin 32) : eyeA (ix2 p q) = if p = q then (1 : EReal) else 0 := by
  unfold eyeA
  pointwise
  have h : ∀ a b : Fin 32, (IntOp.cmpi CmpIPredicate.eq (IntOp.addi (BitVec.ofNat 32 a.val) 0#32) (BitVec.ofNat 32 b.val)) = if a = b then 1#1 else 0#1 := by
    decide
  rw [h]
  by_cases e : p = q
  · rw [if_pos e, if_pos e]
    show ((((1#1 : BitVec 1).toNat : ℕ) : ℝ) : EReal) = 1
    simp
  · rw [if_neg e, if_neg e]
    show ((((0#1 : BitVec 1).toNat : ℕ) : ℝ) : EReal) = 0
    simp

theorem midA_apply (p : Fin 32) (d : Fin 2048) :
    midA (ix2 p d) = if d.val % 128 < 64 then (0 : EReal) else if h : d.val % 128 - 64 < 32 then eyeA (ix2 p ⟨d.val % 128 - 64, h⟩) else 0 := by
  unfold midA
  pointwise
  rfl

/-- The weight's rows: the first 256, the next 32, the last 96. -/
theorem weightA_top (q : Fin 256) (d : Fin 3072) :
    weightA W (ix2 ⟨q.val, by omega⟩ d) = if h : d.val < 2048 then topA W (ix2 q ⟨d.val, h⟩) else valA W (ix2 q ⟨d.val - 2048, by omega⟩) := by
  unfold weightA
  pointwise

theorem weightA_mid (p : Fin 32) (d : Fin 3072) :
    weightA W (ix2 ⟨256 + p.val, by omega⟩ d) = if h : d.val < 2048 then midA (ix2 p ⟨d.val, h⟩) else (0 : EReal) := by
  unfold weightA
  pointwise

theorem weightA_low (s : Fin 96) (d : Fin 3072) : weightA W (ix2 ⟨288 + s.val, by omega⟩ d) = (0 : EReal) := by
  unfold weightA
  pointwise
  rw [dif_neg (by omega), dif_neg (by omega)]

end

/-- Entry `d` of the row of keys and values whose compressed row is `x`. -/
def entry (x : Fin 384 → EReal) (W : S256x2048.Idx → EReal) (d : Fin 3072) : EReal :=
  if hd : d.val < 2048 then
    if d.val % 128 < 64 then dot (fun q : Fin 256 => x ⟨q.val, by omega⟩) fun q => W (ix2 q ⟨d.val, hd⟩)
    else if h : d.val % 128 - 64 < 32 then x ⟨256 + (d.val % 128 - 64), by omega⟩ else 0
  else dot (fun q : Fin 256 => x ⟨q.val, by omega⟩) fun q => W (ix2 q ⟨(d.val - 2048) / 64 * 128 + (64 + (d.val - 2048) % 64), by omega⟩)

/-- A sum over 384 places, in three parts. -/
theorem sum_parts (f : Fin 384 → EReal) :
    ∑ q, f q = (∑ q : Fin 256, f ⟨q.val, by omega⟩) + ((∑ p : Fin 32, f ⟨256 + p.val, by omega⟩) + ∑ s : Fin 96, f ⟨288 + s.val, by omega⟩) := by
  refine (Fin.sum_univ_add (a := 256) (b := 128) f).trans (congrArg₂ _ rfl ?_)
  refine (Fin.sum_univ_add (a := 32) (b := 96) fun i => f (Fin.natAdd 256 i)).trans (congrArg₂ _ rfl ?_)
  refine Finset.sum_congr rfl fun s _ => congrArg f (Fin.ext ?_)
  show 256 + (32 + s.val) = 288 + s.val
  omega

/-- The product with the assembled weight is that entry. -/
theorem dot_weightA (x : Fin 384 → EReal) (W : S256x2048.Idx → EReal) (d : Fin 3072) : (dot x fun q => weightA W (ix2 q d)) = entry x W d := by
  refine (sum_parts fun q => x q * weightA W (ix2 q d)).trans ?_
  simp only [weightA_top, weightA_mid, weightA_low, mul_zero, Finset.sum_const_zero, add_zero]
  unfold entry
  by_cases hd : d.val < 2048
  · simp only [dif_pos hd, topA_apply, midA_apply]
    by_cases hp : d.val % 128 < 64
    · simp only [if_pos hp, mul_zero, Finset.sum_const_zero, add_zero]
      rfl
    · simp only [if_neg hp, mul_zero, Finset.sum_const_zero, zero_add]
      by_cases hr : d.val % 128 - 64 < 32
      · simp only [dif_pos hr, eyeA_apply]
        rw [Finset.sum_eq_single (⟨d.val % 128 - 64, hr⟩ : Fin 32)]
        · rw [if_pos rfl, mul_one]
        · intro p _ hne
          rw [if_neg hne, mul_zero]
        · intro hn
          exact absurd (Finset.mem_univ _) hn
      · simp only [dif_neg hr, mul_zero, Finset.sum_const_zero]
  · simp only [dif_neg hd, valA_apply, mul_zero, Finset.sum_const_zero, add_zero]
    rfl

/-- The result: each row's keys and values. -/
def table (X : S16384x384.Idx → EReal) (W : S256x2048.Idx → EReal) : S16384x3072.Idx → EReal := fun i =>
  entry (fun q => X (ix2 (i 0) q)) W (i 1)

theorem pay_apply (X : Vec Ideal S512x384 .bf16) (A : Vec Ideal S384x3072 .bf16) (r : Fin 512) (d : Fin 3072) :
    k0_pay1 (F := Ideal) X A (ix2 r d) = dot (fun q => X (ix2 r q)) fun q => A (ix2 q d) := by
  unfold k0_pay1
  pointwise
  rfl

variable (m : (ℓ : Loc nD τ sig) → Buf (Elt Ideal) ℓ) (c : Dev nD)

/-- What the host's operations before the call leave as the weight. -/
theorem host : (V m c main_v24 : S384x3072.Idx → EReal) = weightA (m ((c : Thread nD τ).loc main_arg1)) := by
  unfold V hostOps0
  after_results_simp
  rfl

/-- The blocks' places at each grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The array's row that row `r` of a point's block is. -/
def row (t : Fin cfg0.N) (r : Fin 512) : Fin 16384 := ⟨t.val * 512 + r.val, by have h : t.val < 32 := t.isLt; omega⟩

theorem blk_0 (t : Fin cfg0.N) (r : Fin 512) (q : Fin 384) : iblk m c 0 t (ix2 r q) = m ((c : Thread nD τ).loc main_arg0) (ix2 (row t r) q) := by
  blk_ext [iblk, V, idx t, row]

theorem blk_1 (t : Fin cfg0.N) : (iblk m c 1 t : S384x3072.Idx → EReal) = weightA (m ((c : Thread nD τ).loc main_arg1)) := by
  refine Eq.trans ?_ (host m c)
  funext i
  have he : ((cfg0.win 1).blk t).view.emb i = i := by
    blk_ext [idx t]
  exact congrArg (V m c main_v24) he

/-- The result's array after the run. -/
theorem final : (dats (F := Ideal) m 0 c).arrAt 2 cfg0.N = table (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, d, rfl⟩ : ∃ (r : Fin 512) (d : Fin 3072), y = (ix2 r d : S512x3072.Idx) := ⟨y 0, y 1, eq_ix2 y⟩
  have he : ((cfg0.win 2).blk t).view.emb (ix2 r d : S512x3072.Idx) = (ix2 (row t r) d : S16384x3072.Idx) := by
    blk_ext [idx t, row]
  refine Eq.trans ?_ (congrArg (table _ _) he).symm
  refine (pay_apply _ _ r d).trans ?_
  refine Eq.trans (congrArg₂ dot (funext fun q => blk_0 m c t r q) (funext fun q => congrFun (blk_1 m c t) (ix2 q d))) ?_
  exact dot_weightA _ _ d

end Cert.Kernel9Ideal.Calls

end
-- ==== Proof.Reference9Ideal.Claim.lean ====
/- The latent attention's keys and values: its claims. -/
module

public import proofs.«01_k».proof.Defs
public import proofs.«01_k».proof.Proof.Kernel9Ideal.Value
public import proofs.«01_k».proof.Proof.Gen.Reference9Ideal.Run
public import Idealize.ShloMosaic.Lib.Quiescent

@[expose] public section

set_option maxRecDepth 16384

noncomputable section

namespace Cert.Reference9Ideal.Calls

open Cert.Reference9Ideal Cert.Reference9Ideal.Gen Idealize.ShloMosaic Idealize.ShloMosaic.TcCoe Idealize.ShloMosaic.Tactic Idealize.SL.Sem
open Cert.Calls (dot)
open Cert.Kernel9Ideal.Calls (entry table)

/-- The projection of the compressed part, as an array. -/
def projA (X : FVec Ideal S16384x384 .bf16) (W : FVec Ideal S256x2048 .f32) : FVec Ideal S16384x2048 .f32 :=
  Host.dotGeneral dot_S16384x256_S256x2048_S16384x2048_1_0_0_1_n_n none
    (extf .f32 (extractStridedSlice S16384x256 ![0, 0] X slices_S16384x384_S16384x256_0_0) bitsLt_bf16_f32) W

/-- The part all heads share, as an array. -/
def sharedA (X : FVec Ideal S16384x384 .bf16) : FVec Ideal S16384x16x32 .f32 :=
  broadcastInDim S16384x16x32 ![0, 1, 2] bcast_S16384x1x32_S16384x16x32_0_1_2
    (broadcastInDim S16384x1x32 ![0, 2] bcast_S16384x32_S16384x1x32_0_2
      (extf .f32 (extractStridedSlice S16384x32 ![0, 256] X slices_S16384x384_S16384x32_0_256) bitsLt_bf16_f32))

/-- The keys of all heads, as an array. -/
def keysA (X : FVec Ideal S16384x384 .bf16) (W : FVec Ideal S256x2048 .f32) : FVec Ideal S16384x2048 .f32 :=
  shapeCast S16384x2048 (concatenate S16384x16x128 2
    [⟨S16384x16x64, extractStridedSlice S16384x16x64 ![0, 0, 0] (shapeCast S16384x16x128 (projA X W) shapeCasts_S16384x2048_S16384x16x128) slices_S16384x16x128_S16384x16x64_0_0_0⟩,
      ⟨S16384x16x32, sharedA X⟩,
      ⟨S16384x16x32, (broadcastInDim S16384x16x32 ![] bcast_S_S16384x16x32 (constant S_ .f32 0x00000000#32) : FVec Ideal S16384x16x32 .f32)⟩]
    concatenates_S16384x16x64_S16384x16x32_S16384x16x32_S16384x16x128_d2) shapeCasts_S16384x16x128_S16384x2048

/-- The values of all heads, as an array. -/
def valuesA (X : FVec Ideal S16384x384 .bf16) (W : FVec Ideal S256x2048 .f32) : FVec Ideal S16384x1024 .f32 :=
  shapeCast S16384x1024 (extractStridedSlice S16384x16x64 ![0, 0, 64] (shapeCast S16384x16x128 (projA X W) shapeCasts_S16384x2048_S16384x16x128)
    slices_S16384x16x128_S16384x16x64_0_0_64) shapeCasts_S16384x16x64_S16384x1024

/-- The reference's array. -/
def tableA (X : FVec Ideal S16384x384 .bf16) (W : FVec Ideal S256x2048 .f32) : FVec Ideal S16384x3072 .bf16 :=
  truncf .bf16 (concatenate S16384x3072 1 [⟨S16384x2048, keysA X W⟩, ⟨S16384x1024, valuesA X W⟩] concatenates_S16384x2048_S16384x1024_S16384x3072_d1) bitsLt_bf16_f32

section
variable (X : FVec Ideal S16384x384 .bf16) (W : FVec Ideal S256x2048 .f32) (R : Fin 16384)

theorem projA_apply (d : Fin 2048) : projA X W (ix2 R d) = dot (fun q : Fin 256 => X (ix2 R ⟨q.val, by omega⟩)) fun q => W (ix2 q d) := by
  unfold projA
  pointwise
  rfl

theorem sharedA_apply (h : Fin 16) (p : Fin 32) : sharedA X (ix3 R h p) = X (ix2 R ⟨256 + p.val, by omega⟩) := by
  unfold sharedA
  pointwise

theorem keysA_apply (d : Fin 2048) : keysA X W (ix2 R d) = if d.val % 128 < 64 then projA X W (ix2 R d)
    else if h : d.val % 128 - 64 < 32 then X (ix2 R ⟨256 + (d.val % 128 - 64), by omega⟩) else (0 : EReal) := by
  unfold keysA
  pointwise
  simp only [sharedA_apply]
  rfl

theorem valuesA_apply (d : Fin 1024) : valuesA X W (ix2 R d) = projA X W (ix2 R ⟨d.val / 64 * 128 + (64 + d.val % 64), by omega⟩) := by
  unfold valuesA
  pointwise

theorem tableA_apply (d : Fin 3072) : tableA X W (ix2 R d) = if h : d.val < 2048 then keysA X W (ix2 R ⟨d.val, h⟩) else valuesA X W (ix2 R ⟨d.val - 2048, by omega⟩) := by
  unfold tableA
  pointwise

end

/-- The reference's array, element by element. -/
theorem value (X : FVec Ideal S16384x384 .bf16) (W : FVec Ideal S256x2048 .f32) : tableA X W = table X W := by
  funext i
  obtain ⟨R, d, rfl⟩ : ∃ (R : Fin 16384) (d : Fin 3072), i = (ix2 R d : S16384x3072.Idx) := ⟨i 0, i 1, eq_ix2 i⟩
  refine (tableA_apply X W R d).trans ?_
  simp only [keysA_apply, valuesA_apply, projA_apply]
  rfl

/-- The reference's run: the arguments unchanged, every counter zero. -/
theorem frame : Cert.quiescent_Reference9Ideal := fun m g _ =>
  (θ_run defs _ _).mono (fun r h => ⟨fun c => (h c).2, sem_eq_zero_of_no_sems (by decide) r.2⟩) (Value.run (F := Ideal) m g)

theorem table_congr {X X' : S16384x384.Idx → EReal} {W W' : S256x2048.Idx → EReal} (h0 : X = X') (h1 : W = W') : table X W = table X' W' := by
  subst h0 h1
  rfl

/-- Equal arguments, equal arrays. -/
theorem algebraic : Cert.algebraic_Kernel9Ideal_Reference9Ideal := by
  intro m g m' g' _ hag
  refine ⟨fun c => table (m ((c.tc : Thread Kernel9Ideal.nD Kernel9Ideal.τ).loc Kernel9Ideal.main_arg0)) (m ((c.tc : Thread Kernel9Ideal.nD Kernel9Ideal.τ).loc Kernel9Ideal.main_arg1)), ?_, ?_⟩
  · exact (θ_run _ _ _).mono (fun r h c => ⟨(h c).1.trans (Kernel9Ideal.Calls.final m c), (h c).2⟩)
      (Kernel9Ideal.Value.run_blocks (F := Ideal) m g)
  · refine (θ_run _ _ _).mono (fun r h c => ?_) (Value.run (F := Ideal) m' g')
    obtain ⟨h0, h1⟩ := hag c
    refine ⟨?_, (h c).2⟩
    exact (h c).1.trans ((value (m' ((c.tc : Thread nD τ).loc main_arg0)) (m' ((c.tc : Thread nD τ).loc main_arg1))).trans (table_congr h0 h1))

end Cert.Reference9Ideal.Calls

end
-- ==== Proof.Finite.lean ====
/- Finite entries: what the comparison with infinity says of an extended real, and the product sum with negated weights. -/
module

public import proofs.«01_k».proof.Proof.Sums
public import Idealize.ShloMosaic.Lib.IdealHost
public import Idealize.ShloMosaic.PureOps.Ideal

@[expose] public section

namespace Cert.Calls

open Idealize.ShloMosaic

/-- The word of f32's infinity denotes the top element. -/
theorem inf_eq : Ideal.ofBits .f32 0x7F800000#32 = ⊤ := by
  simp [Ideal.ofBits, Ideal.ieee]

/-- An entry whose magnitude lies below infinity is a real number. -/
theorem real_of_lt (x : EReal) (h : Ideal.cmp CmpFPredicate.olt (max x (-x)) (Ideal.ofBits .f32 0x7F800000#32) = 1#1) : ∃ r : ℝ, x = (r : EReal) := by
  have p (q : Bool) (hq : BitVec.ofBool q = 1#1) : q = true := by revert hq; cases q <;> decide
  have h1 : max x (-x) < Ideal.ofBits .f32 0x7F800000#32 := of_decide_eq_true (p _ h)
  rw [inf_eq, max_lt_iff] at h1
  induction x using EReal.rec with
  | bot => exact absurd h1.2 (by simp)
  | top => exact absurd h1.1 (by simp)
  | coe r => exact ⟨r, rfl⟩

/-- Over real entries the product sum with the negated weights is the negated product sum. -/
theorem dot_neg {n : ℕ} (x w : Fin n → EReal) (hx : ∀ q, ∃ r : ℝ, x q = (r : EReal)) (hw : ∀ q, ∃ r : ℝ, w q = (r : EReal)) :
    (dot x fun q => -(w q)) = -(dot x w) := by
  choose a ha using hx
  choose b hb using hw
  obtain rfl : x = fun q => (a q : EReal) := funext ha
  obtain rfl : w = fun q => (b q : EReal) := funext hb
  have key : ∀ (f : Fin n → ℝ) (s : Finset (Fin n)), (∑ q ∈ s, (f q : EReal)) = ((∑ q ∈ s, f q : ℝ) : EReal) := by
    intro f s
    induction s using Finset.induction_on with
    | empty => simp
    | insert i s hi ih => rw [Finset.sum_insert hi, Finset.sum_insert hi, ih, EReal.coe_add]
  unfold dot
  have e1 : ∀ q : Fin n, (a q : EReal) * -(b q : EReal) = ((-(a q * b q) : ℝ) : EReal) := fun q => by
    rw [EReal.coe_neg, EReal.coe_mul, mul_neg]
  have e2 : ∀ q : Fin n, (a q : EReal) * (b q : EReal) = ((a q * b q : ℝ) : EReal) := fun q => (EReal.coe_mul _ _).symm
  rw [Finset.sum_congr rfl fun q _ => e1 q, Finset.sum_congr rfl fun q _ => e2 q, key, key, Finset.sum_neg_distrib, EReal.coe_neg]

end Cert.Calls
-- ==== Proof.Kernel10Ideal.Value.lean ====
/- The latent attention's compressed rows: what the run leaves in its result array. -/
module

public import proofs.«01_k».proof.Proof.Finite
public import proofs.«01_k».proof.Proof.Gen.Kernel10Ideal.Value
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.PureOps.Ideal

@[expose] public section

set_option maxRecDepth 16384

noncomputable section

namespace Cert.Kernel10Ideal.Calls

open Cert.Kernel10Ideal Cert.Kernel10Ideal.Gen Idealize.ShloMosaic Idealize.ShloMosaic.TcCoe Idealize.ShloMosaic.Tactic Idealize.SL.Sem
open Cert.Calls

/-- The angles: each of the 2048 places times each of the 16 frequencies. -/
def angleA : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- Their cosines and sines. -/
def cosA : FVec Ideal S2048x16 .f32 := Host.cos angleA

def sinA : FVec Ideal S2048x16 .f32 := Host.sin angleA

/-- A table of 16 columns, twice, filled up with zeros to 128 columns. -/
def twice (T : FVec Ideal S2048x16 .f32) : FVec Ideal S2048x128 .f32 :=
  concatenate S2048x128 1 [⟨S2048x16, T⟩, ⟨S2048x16, T⟩,
    ⟨S2048x96, (broadcastInDim S2048x96 ![] bcast_S_S2048x96 (constant S_ .f32 0x00000000#32) : FVec Ideal S2048x96 .f32)⟩] concatenates_S2048x16_S2048x16_S2048x96_S2048x128_d1

/-- The weight the call multiplies by: the 256 compressed columns, the 32 rotary ones in order, and the two halves of these
    exchanged with the sign turned. -/
def weightA (W : FVec Ideal S1024x288 .f32) : FVec Ideal S1024x512 .bf16 :=
  truncf .bf16 (concatenate S1024x512 1 [⟨S1024x256, extractStridedSlice S1024x256 ![0, 0] W slices_S1024x288_S1024x256_0_0⟩,
    ⟨S1024x16, extractStridedSlice S1024x16 ![0, 256] W slices_S1024x288_S1024x16_0_256⟩,
    ⟨S1024x16, extractStridedSlice S1024x16 ![0, 272] W slices_S1024x288_S1024x16_0_272⟩,
    ⟨S1024x96, (broadcastInDim S1024x96 ![] bcast_S_S1024x96 (constant S_ .f32 0x00000000#32) : FVec Ideal S1024x96 .f32)⟩,
    ⟨S1024x16, Host.negf (extractStridedSlice S1024x16 ![0, 272] W slices_S1024x288_S1024x16_0_272)⟩,
    ⟨S1024x16, extractStridedSlice S1024x16 ![0, 256] W slices_S1024x288_S1024x16_0_256⟩,
    ⟨S1024x96, (broadcastInDim S1024x96 ![] bcast_S_S1024x96 (constant S_ .f32 0x00000000#32) : FVec Ideal S1024x96 .f32)⟩]
    concatenates_S1024x256_S1024x16_S1024x16_S1024x96_S1024x16_S1024x16_S1024x96_S1024x512_d1) bitsLt_bf16_f32

theorem twice_apply (T : FVec Ideal S2048x16 .f32) (s : Fin 2048) (j : Fin 128) :
    twice T (ix2 s j) = if h : j.val < 16 then T (ix2 s ⟨j.val, h⟩) else if h : j.val - 16 < 16 then T (ix2 s ⟨j.val - 16, h⟩) else (0 : EReal) := by
  unfold twice
  pointwise

/-- The weight's column `f`. -/
def column (W : S1024x288.Idx → EReal) (f : Fin 512) (q : Fin 1024) : EReal :=
  if h : f.val < 256 then W (ix2 q ⟨f.val, by omega⟩)
  else if h : f.val - 256 < 16 then W (ix2 q ⟨256 + (f.val - 256), by omega⟩)
  else if h : f.val - 256 - 16 < 16 then W (ix2 q ⟨272 + (f.val - 256 - 16), by omega⟩)
  else if h : f.val - 256 - 16 - 16 < 96 then 0
  else if h : f.val - 256 - 16 - 16 - 96 < 16 then -W (ix2 q ⟨272 + (f.val - 256 - 16 - 16 - 96), by omega⟩)
  else if h : f.val - 256 - 16 - 16 - 96 - 16 < 16 then W (ix2 q ⟨256 + (f.val - 256 - 16 - 16 - 96 - 16), by omega⟩)
  else 0

theorem weightA_apply (W : FVec Ideal S1024x288 .f32) (q : Fin 1024) (f : Fin 512) : weightA W (ix2 q f) = column W f q := by
  unfold weightA column
  pointwise

/-- Where every entry is a real number. -/
def Real {s : Shape} (X : s.Idx → EReal) : Prop := ∀ i, ∃ r : ℝ, X i = (r : EReal)

/-- The rotation of 16 pairs, the second half of each pair 16 places behind the first; zeros behind them. -/
def rotate (z : Fin 32 → EReal) (C S : Fin 16 → EReal) (j : Fin 128) : EReal :=
  if h : j.val < 16 then z ⟨j.val, by omega⟩ * C ⟨j.val, h⟩ - z ⟨16 + j.val, by omega⟩ * S ⟨j.val, h⟩
  else if h : j.val - 16 < 16 then z ⟨16 + (j.val - 16), by omega⟩ * C ⟨j.val - 16, h⟩ + z ⟨j.val - 16, by omega⟩ * S ⟨j.val - 16, h⟩
  else 0

/-- The two products with the rotary columns, times the two tables, rotate the row's rotary part. -/
theorem rotate_eq (x : Fin 1024 → EReal) (W : S1024x288.Idx → EReal) (hx : ∀ q, ∃ r : ℝ, x q = (r : EReal)) (hW : Real W)
    (s : Fin 2048) (j : Fin 128) :
    dot x (column W ⟨256 + j.val, by omega⟩) * twice cosA (ix2 s j) + dot x (column W ⟨384 + j.val, by omega⟩) * twice sinA (ix2 s j)
    = rotate (fun e => dot x fun q => W (ix2 q ⟨256 + e.val, by omega⟩)) (fun e => cosA (ix2 s e)) (fun e => sinA (ix2 s e)) j := by
  rw [twice_apply, twice_apply]
  unfold rotate
  by_cases h1 : j.val < 16
  · simp only [dif_pos h1]
    have e1 : column W ⟨256 + j.val, by omega⟩ = fun q => W (ix2 q ⟨256 + j.val, by omega⟩) := by
      funext q
      unfold column
      rw [dif_neg (by show ¬ 256 + j.val < 256; omega), dif_pos (by show 256 + j.val - 256 < 16; omega)]
      exact congrArg (fun e => W (ix2 q e)) (Fin.ext (by show 256 + (256 + j.val - 256) = 256 + j.val; omega))
    have e2 : column W ⟨384 + j.val, by omega⟩ = fun q => -W (ix2 q ⟨256 + (16 + j.val), by omega⟩) := by
      funext q
      unfold column
      rw [dif_neg (by show ¬ 384 + j.val < 256; omega), dif_neg (by show ¬ 384 + j.val - 256 < 16; omega), dif_neg (by show ¬ 384 + j.val - 256 - 16 < 16; omega),
        dif_neg (by show ¬ 384 + j.val - 256 - 16 - 16 < 96; omega), dif_pos (by show 384 + j.val - 256 - 16 - 16 - 96 < 16; omega)]
      exact congrArg (fun e => -W (ix2 q e)) (Fin.ext (by show 272 + (384 + j.val - 256 - 16 - 16 - 96) = 256 + (16 + j.val); omega))
    rw [e1, e2, dot_neg x _ hx (fun q => hW _), neg_mul, ← sub_eq_add_neg]
  · by_cases h2 : j.val - 16 < 16
    · simp only [dif_neg h1, dif_pos h2]
      have e1 : column W ⟨256 + j.val, by omega⟩ = fun q => W (ix2 q ⟨256 + (16 + (j.val - 16)), by omega⟩) := by
        funext q
        unfold column
        rw [dif_neg (by show ¬ 256 + j.val < 256; omega), dif_neg (by show ¬ 256 + j.val - 256 < 16; omega), dif_pos (by show 256 + j.val - 256 - 16 < 16; omega)]
        exact congrArg (fun e => W (ix2 q e)) (Fin.ext (by show 272 + (256 + j.val - 256 - 16) = 256 + (16 + (j.val - 16)); omega))
      have e2 : column W ⟨384 + j.val, by omega⟩ = fun q => W (ix2 q ⟨256 + (j.val - 16), by omega⟩) := by
        funext q
        unfold column
        rw [dif_neg (by show ¬ 384 + j.val < 256; omega), dif_neg (by show ¬ 384 + j.val - 256 < 16; omega), dif_neg (by show ¬ 384 + j.val - 256 - 16 < 16; omega),
          dif_neg (by show ¬ 384 + j.val - 256 - 16 - 16 < 96; omega), dif_neg (by show ¬ 384 + j.val - 256 - 16 - 16 - 96 < 16; omega),
          dif_pos (by show 384 + j.val - 256 - 16 - 16 - 96 - 16 < 16; omega)]
        exact congrArg (fun e => W (ix2 q e)) (Fin.ext (by show 256 + (384 + j.val - 256 - 16 - 16 - 96 - 16) = 256 + (j.val - 16); omega))
      rw [e1, e2]
    · simp only [dif_neg h1, dif_neg h2, mul_zero, add_zero]

/-- The root-mean-square norm of one row of 256 entries, with gain `g`. -/
def rms (z g : Fin 256 → EReal) (d : Fin 256) : EReal :=
  z d * Ideal.rsqrt (Ideal.div (∑ q, z q * z q) (Ideal.ofBits .f32 0x43800000#32) + Ideal.ofBits .f32 0x358637BD#32) * g d

section
variable (x : Vec Ideal S512x1024 .bf16) (w : Vec Ideal S1024x512 .bf16) (g : Vec Ideal S1x256 .f32) (ct st : Vec Ideal S512x128 .f32) (r : Fin 512)

theorem pay1_apply (f : Fin 512) : k0_pay1 (F := Ideal) x w (ix2 r f) = dot (fun q => x (ix2 r q)) fun q => w (ix2 q f) := by
  unfold k0_pay1
  pointwise
  rfl

theorem pay2_apply (d : Fin 256) : k0_pay2 (F := Ideal) x w g (ix2 r d)
    = rms (fun e => dot (fun q => x (ix2 r q)) fun q => w (ix2 q ⟨e.val, by omega⟩)) (fun e => g (ix2 0 e)) d := by
  unfold k0_pay2
  pointwise
  simp only [pay1_apply]
  rfl

theorem pay3_apply (j : Fin 128) : k0_pay3 (F := Ideal) x w ct st (ix2 r j)
    = (dot (fun q => x (ix2 r q)) fun q => w (ix2 q ⟨256 + j.val, by omega⟩)) * ct (ix2 r j)
      + (dot (fun q => x (ix2 r q)) fun q => w (ix2 q ⟨384 + j.val, by omega⟩)) * st (ix2 r j) := by
  unfold k0_pay3
  pointwise
  simp only [pay1_apply]

end

/-- Entry `d` of the compressed row of the row `x` at place `s` of its sequence. -/
def entry (x : Fin 1024 → EReal) (W : S1024x288.Idx → EReal) (g : Fin 256 → EReal) (s : Fin 2048) (d : Fin 384) : EReal :=
  if h : d.val < 256 then rms (fun e => dot x fun q => W (ix2 q ⟨e.val, by omega⟩)) g ⟨d.val, h⟩
  else rotate (fun e => dot x fun q => W (ix2 q ⟨256 + e.val, by omega⟩)) (fun e => cosA (ix2 s e)) (fun e => sinA (ix2 s e)) ⟨d.val - 256, by omega⟩

/-- The result: every row's compressed row, 2048 rows a sequence. -/
def rank (X : S16384x1024.Idx → EReal) (W : S1024x288.Idx → EReal) (G : S256.Idx → EReal) : S16384x384.Idx → EReal := fun i =>
  entry (fun q => X (ix2 (i 0) q)) W (fun e => G (ix1 e)) ⟨(i 0).val % 2048, Nat.mod_lt _ (by decide)⟩ (i 1)

theorem rank_at (X : S16384x1024.Idx → EReal) (W : S1024x288.Idx → EReal) (G : S256.Idx → EReal) (R : Fin 16384) (d : Fin 384) :
    rank X W G (ix2 R d) = entry (fun q => X (ix2 R q)) W (fun e => G (ix1 e)) ⟨R.val % 2048, Nat.mod_lt _ (by decide)⟩ d := rfl

variable (m : (ℓ : Loc nD τ sig) → Buf (Elt Ideal) ℓ) (c : Dev nD)

/-- What the host's operations before the call leave as the weight and as the two tables. -/
theorem host_w : (V m c main_v26 : S1024x512.Idx → EReal) = weightA (m ((c : Thread nD τ).loc main_arg1)) := by
  unfold V hostOps0
  after_results_simp
  rfl

theorem host_c : (V m c main_v16 : S2048x128.Idx → EReal) = twice cosA := by
  unfold V hostOps0
  after_results_simp
  rfl

theorem host_s : (V m c main_v18 : S2048x128.Idx → EReal) = twice sinA := by
  unfold V hostOps0
  after_results_simp
  rfl

/-- The blocks' places at each grid point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0])

/-- The array's row that row `r` of a point's block is, and its place in the sequence. -/
def row (t : Fin cfg0.N) (r : Fin 512) : Fin 16384 := ⟨t.val * 512 + r.val, by have h : t.val < 32 := t.isLt; omega⟩

def place (t : Fin cfg0.N) (r : Fin 512) : Fin 2048 := ⟨t.val % 4 * 512 + r.val, by omega⟩

theorem place_eq (t : Fin cfg0.N) (r : Fin 512) : (row t r).val % 2048 = (place t r).val := by
  show (t.val * 512 + r.val) % 2048 = t.val % 4 * 512 + r.val
  omega

theorem blk_0 (t : Fin cfg0.N) (r : Fin 512) (q : Fin 1024) : iblk m c 0 t (ix2 r q) = m ((c : Thread nD τ).loc main_arg0) (ix2 (row t r) q) := by
  blk_ext [iblk, V, idx t, row]

theorem blk_1 (t : Fin cfg0.N) : (iblk m c 1 t : S1024x512.Idx → EReal) = weightA (m ((c : Thread nD τ).loc main_arg1)) := by
  refine Eq.trans ?_ (host_w m c)
  funext i
  have he : ((cfg0.win 1).blk t).view.emb i = i := by
    blk_ext [idx t]
  exact congrArg (V m c main_v26) he

theorem blk_2 (t : Fin cfg0.N) (d : Fin 256) : iblk m c 2 t (ix2 0 d) = m ((c : Thread nD τ).loc main_arg2) (ix1 d) := by
  blk_ext! [iblk, V, idx t]

theorem blk_3 (t : Fin cfg0.N) (r : Fin 512) (j : Fin 128) : (iblk m c 3 t : S512x128.Idx → EReal) (ix2 r j) = twice cosA (ix2 (place t r) j) := by
  refine Eq.trans ?_ (congrFun (host_c m c) _)
  have he : ((cfg0.win 3).blk t).view.emb (ix2 r j : S512x128.Idx) = (ix2 (place t r) j : S2048x128.Idx) := by
    blk_ext [idx t, place]
  exact congrArg (V m c main_v16) he

theorem blk_4 (t : Fin cfg0.N) (r : Fin 512) (j : Fin 128) : (iblk m c 4 t : S512x128.Idx → EReal) (ix2 r j) = twice sinA (ix2 (place t r) j) := by
  refine Eq.trans ?_ (congrFun (host_s m c) _)
  have he : ((cfg0.win 4).blk t).view.emb (ix2 r j : S512x128.Idx) = (ix2 (place t r) j : S2048x128.Idx) := by
    blk_ext [idx t, place]
  exact congrArg (V m c main_v18) he

/-- A product with a column of the weight's block. -/
theorem dot_blk (t : Fin cfg0.N) (r : Fin 512) (f : Fin 512) :
    (dot (fun q : Fin 1024 => (iblk m c 0 t : S512x1024.Idx → EReal) (ix2 r q)) fun q => (iblk m c 1 t : S1024x512.Idx → EReal) (ix2 q f))
    = dot (fun q => m ((c : Thread nD τ).loc main_arg0) (ix2 (row t r) q)) (column (m ((c : Thread nD τ).loc main_arg1)) f) :=
  congrArg₂ dot (funext fun q => blk_0 m c t r q) (funext fun q => (congrFun (blk_1 m c t) (ix2 q f)).trans (weightA_apply _ q f))

/-- The first store's rows. -/
theorem first (t : Fin cfg0.N) (r : Fin 512) (e : Fin 256) (d : Fin 384) (h : d.val = e.val) :
    k0_pay2 (F := Ideal) (iblk m c 0 t) (iblk m c 1 t) (iblk m c 2 t) (ix2 r e)
    = rank (m ((c : Thread nD τ).loc main_arg0)) (m ((c : Thread nD τ).loc main_arg1)) (m ((c : Thread nD τ).loc main_arg2)) (ix2 (row t r) d) := by
  refine (pay2_apply _ _ _ r e).trans ?_
  have hd : d.val < 256 := by have := e.isLt; omega
  have ed : (⟨d.val, hd⟩ : Fin 256) = e := Fin.ext h
  refine Eq.trans ?_ (rank_at _ _ _ _ _).symm
  unfold entry
  rw [dif_pos hd, ed]
  refine congrFun (congrArg₂ rms (funext fun f => (dot_blk m c t r _).trans (congrArg (dot _) (funext fun q => ?_))) (funext fun f => blk_2 m c t f)) e
  exact dif_pos f.isLt

/-- The second store's rows. -/
theorem second (t : Fin cfg0.N) (r : Fin 512) (j : Fin 128) (d : Fin 384) (h : d.val = 256 + j.val)
    (hX : Real (s := S16384x1024) (m ((c : Thread nD τ).loc main_arg0))) (hW : Real (s := S1024x288) (m ((c : Thread nD τ).loc main_arg1))) :
    k0_pay3 (F := Ideal) (iblk m c 0 t) (iblk m c 1 t) (iblk m c 3 t) (iblk m c 4 t) (ix2 r j)
    = rank (m ((c : Thread nD τ).loc main_arg0)) (m ((c : Thread nD τ).loc main_arg1)) (m ((c : Thread nD τ).loc main_arg2)) (ix2 (row t r) d) := by
  refine (pay3_apply _ _ _ _ r j).trans ?_
  have hd : ¬ d.val < 256 := by omega
  have ej : (⟨d.val - 256, by omega⟩ : Fin 128) = j := Fin.ext (by show d.val - 256 = j.val; omega)
  have es : (⟨(row t r).val % 2048, Nat.mod_lt _ (by decide)⟩ : Fin 2048) = place t r := Fin.ext (place_eq t r)
  refine Eq.trans (congrArg₂ (· + ·) (congrArg₂ (· * ·) (dot_blk m c t r _) (blk_3 m c t r j)) (congrArg₂ (· * ·) (dot_blk m c t r _) (blk_4 m c t r j))) ?_
  refine Eq.trans (rotate_eq _ _ (fun q => hX _) hW (place t r) j) ?_
  refine Eq.trans ?_ (rank_at _ _ _ _ _).symm
  unfold entry
  rw [dif_neg hd, ej, es]

/-- The result's array after the run, of real rows and weights. -/
theorem final (hX : Real (s := S16384x1024) (m ((c : Thread nD τ).loc main_arg0))) (hW : Real (s := S1024x288) (m ((c : Thread nD τ).loc main_arg1))) :
    (dats (F := Ideal) m 0 c).arrAt 5 cfg0.N
    = rank (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨r, d, rfl⟩ : ∃ (r : Fin 512) (d : Fin 384), y = (ix2 r d : S512x384.Idx) := ⟨y 0, y 1, eq_ix2 y⟩
  have he : ((cfg0.win 5).blk t).view.emb (ix2 r d : S512x384.Idx) = (ix2 (row t r) d : S16384x384.Idx) := by
    blk_ext [idx t, row]
  blk_simp
  rw [after0_5]
  refine Eq.trans ?_ (congrArg (rank _ _ _) he).symm
  simp only [outsAt0]
  frame_out
  canon_tiles x h using (by
    by_cases hd : d.val < 256
    · refine ⟨_, List.mem_cons_of_mem _ (List.mem_singleton_self _), (Rect.mem_set_unit (inb := inb_S512x384_S512x256_0_0)).2 fun a => ?_⟩
      match a with
      | ⟨0, _⟩ => exact ⟨Nat.zero_le _, by show r.val < 0 + 512; omega⟩
      | ⟨1, _⟩ => exact ⟨Nat.zero_le _, by show d.val < 0 + 256; omega⟩
    · refine ⟨_, List.mem_cons_self, (Rect.mem_set_unit (inb := inb_S512x384_S512x128_0_256)).2 fun a => ?_⟩
      match a with
      | ⟨0, _⟩ => exact ⟨Nat.zero_le _, by show r.val < 0 + 512; omega⟩
      | ⟨1, _⟩ => exact ⟨by show 256 ≤ d.val; omega, by show d.val < 256 + 128; omega⟩)
  · obtain ⟨r', j, rfl⟩ : ∃ (r' : Fin 512) (j : Fin 128), x = (ix2 r' j : S512x128.Idx) := ⟨x 0, x 1, eq_ix2 x⟩
    obtain rfl : r = r' := Fin.ext h0
    exact second m c t r j d h1 hX hW
  · obtain ⟨r', j, rfl⟩ : ∃ (r' : Fin 512) (j : Fin 256), x = (ix2 r' j : S512x256.Idx) := ⟨x 0, x 1, eq_ix2 x⟩
    obtain rfl : r = r' := Fin.ext h0
    exact first m c t r j d h1

end Cert.Kernel10Ideal.Calls

end
-- ==== Proof.Reference10Ideal.Claim.lean ====
/- The latent attention's compressed rows: their claims. -/
module

public import proofs.«01_k».proof.Defs
public import proofs.«01_k».proof.Proof.Kernel10Ideal.Value
public import proofs.«01_k».proof.Proof.Gen.Reference10Ideal.Run
public import proofs.«01_k».proof.Proof.Gen.Pre_finite10
public import Idealize.ShloMosaic.Lib.Quiescent
public import Idealize.ShloMosaic.Lib.ReduceAll
public import Idealize.ShloMosaic.Init

@[expose] public section

set_option maxRecDepth 16384

noncomputable section

namespace Cert.Reference10Ideal.Calls

open Cert.Reference10Ideal Cert.Reference10Ideal.Gen Idealize.ShloMosaic Idealize.ShloMosaic.TcCoe Idealize.ShloMosaic.Tactic Idealize.SL.Sem
open Cert.Calls (dot real_of_lt)
open Cert.Kernel10Ideal.Calls (rms rotate rank rank_at entry Real cosA sinA)

/-- The projection, sequence by sequence. -/
def projA (X : FVec Ideal S16384x1024 .bf16) (W : FVec Ideal S1024x288 .f32) : FVec Ideal S8x2048x288 .f32 :=
  Host.dotGeneral dot_S8x2048x1024_S1024x288_S8x2048x288_2_0_01_1_n_n none (shapeCast _ (extf .f32 X bitsLt_bf16_f32) shapeCasts_S16384x1024_S8x2048x1024) W

/-- The norm of an array's rows, as an array. -/
def normA (Y : FVec Ideal S8x2048x256 .f32) (G : FVec Ideal S256 .f32) : FVec Ideal S8x2048x256 .f32 :=
  mulf (mulf Y (broadcastInDim S8x2048x256 ![0, 1, 2] bcast_S8x2048x1_S8x2048x256_0_1_2
      (Host.rsqrt (addf (Host.divf (broadcastInDim S8x2048x1 ![0, 1] bcast_S8x2048_S8x2048x1_0_1
          (Host.reduceAdd (mulf Y Y) (constant S_ .f32 0x00000000#32) reducesTo_S8x2048x256_S8x2048_d2 h_S_))
        (broadcastInDim S8x2048x1 ![] bcast_S_S8x2048x1 (constant S_ .f32 0x43800000#32)))
        (broadcastInDim S8x2048x1 ![] bcast_S_S8x2048x1 (constant S_ .f32 0x358637BD#32))))))
    (broadcastInDim S8x2048x256 ![0, 1, 2] bcast_S1x1x256_S8x2048x256_0_1_2 (broadcastInDim S1x1x256 ![2] bcast_S256_S1x1x256_2 G))

/-- A table of angles' functions, laid out for the rows of one head. -/
def spread (T : FVec Ideal S2048x16 .f32) : FVec Ideal S8x2048x1x16 .f32 :=
  broadcastInDim S8x2048x1x16 ![0, 1, 2, 3] bcast_S1x2048x1x16_S8x2048x1x16_0_1_2_3
    (broadcastInDim S1x2048x1x16 ![1, 2, 3] bcast_S2048x1x16_S1x2048x1x16_1_2_3 (broadcastInDim S2048x1x16 ![0, 2] bcast_S2048x16_S2048x1x16_0_2 T))

/-- The two halves of the rotary columns. -/
def leftA (Y : FVec Ideal S8x2048x1x32 .f32) : FVec Ideal S8x2048x1x16 .f32 :=
  extractStridedSlice S8x2048x1x16 ![0, 0, 0, 0] Y slices_S8x2048x1x32_S8x2048x1x16_0_0_0_0

def rightA (Y : FVec Ideal S8x2048x1x32 .f32) : FVec Ideal S8x2048x1x16 .f32 :=
  extractStridedSlice S8x2048x1x16 ![0, 0, 0, 16] Y slices_S8x2048x1x32_S8x2048x1x16_0_0_0_16

/-- The rotation, as an array. -/
def rotA (Y : FVec Ideal S8x2048x32 .f32) (C S : FVec Ideal S2048x16 .f32) : FVec Ideal S8x2048x32 .f32 :=
  shapeCast _ (concatenate S8x2048x1x32 3
    [⟨S8x2048x1x16, subf (mulf (leftA (broadcastInDim S8x2048x1x32 ![0, 1, 3] bcast_S8x2048x32_S8x2048x1x32_0_1_3 Y)) (spread C))
        (mulf (rightA (broadcastInDim S8x2048x1x32 ![0, 1, 3] bcast_S8x2048x32_S8x2048x1x32_0_1_3 Y)) (spread S))⟩,
     ⟨S8x2048x1x16, addf (mulf (rightA (broadcastInDim S8x2048x1x32 ![0, 1, 3] bcast_S8x2048x32_S8x2048x1x32_0_1_3 Y)) (spread C))
        (mulf (leftA (broadcastInDim S8x2048x1x32 ![0, 1, 3] bcast_S8x2048x32_S8x2048x1x32_0_1_3 Y)) (spread S))⟩]
    concatenates_S8x2048x1x16_S8x2048x1x16_S8x2048x1x32_d3) shapeCasts_S8x2048x1x32_S8x2048x32

/-- The compressed rows, as an array. -/
def rankA (X : FVec Ideal S16384x1024 .bf16) (W : FVec Ideal S1024x288 .f32) (G : FVec Ideal S256 .f32) : FVec Ideal S16384x384 .bf16 :=
  truncf .bf16 (shapeCast _ (concatenate S8x2048x384 2
    [⟨S8x2048x256, normA (extractStridedSlice S8x2048x256 ![0, 0, 0] (projA X W) slices_S8x2048x288_S8x2048x256_0_0_0) G⟩,
     ⟨S8x2048x32, rotA (extractStridedSlice S8x2048x32 ![0, 0, 256] (projA X W) slices_S8x2048x288_S8x2048x32_0_0_256) cosA sinA⟩,
     ⟨S8x2048x96, (broadcastInDim S8x2048x96 ![] bcast_S_S8x2048x96 (constant S_ .f32 0x00000000#32) : FVec Ideal S8x2048x96 .f32)⟩]
    concatenates_S8x2048x256_S8x2048x32_S8x2048x96_S8x2048x384_d2) shapeCasts_S8x2048x384_S16384x384) bitsLt_bf16_f32

theorem projA_apply (X : FVec Ideal S16384x1024 .bf16) (W : FVec Ideal S1024x288 .f32) (b : Fin 8) (s : Fin 2048) (e : Fin 288) :
    projA X W (ix3 b s e) = dot (fun q : Fin 1024 => X (ix2 ⟨b.val * 2048 + s.val, by omega⟩ q)) fun q => W (ix2 q e) := by
  unfold projA
  pointwise
  rfl

theorem normA_apply (Y : FVec Ideal S8x2048x256 .f32) (G : FVec Ideal S256 .f32) (b : Fin 8) (s : Fin 2048) (d : Fin 256) :
    normA Y G (ix3 b s d) = rms (fun e => Y (ix3 b s e)) (fun e => G (ix1 e)) d := by
  unfold normA
  pointwise
  rfl

theorem rotA_apply (Y : FVec Ideal S8x2048x32 .f32) (C S : FVec Ideal S2048x16 .f32) (b : Fin 8) (s : Fin 2048) (j : Fin 32) :
    rotA Y C S (ix3 b s j) = rotate (fun e => Y (ix3 b s e)) (fun e => C (ix2 s e)) (fun e => S (ix2 s e)) ⟨j.val, by omega⟩ := by
  unfold rotA rotate leftA rightA spread
  pointwise
  by_cases h : j.val < 16
  · rw [dif_pos h, dif_pos h]
  · rw [dif_neg h, dif_neg h, dif_pos (by omega)]

/-- The projection at row `R`, column `e`. -/
theorem projA_row (X : FVec Ideal S16384x1024 .bf16) (W : FVec Ideal S1024x288 .f32) (R : Fin 16384) (e : Fin 288) :
    projA X W (ix3 ⟨R.val / 2048, by omega⟩ ⟨R.val % 2048, Nat.mod_lt _ (by decide)⟩ e) = dot (fun q : Fin 1024 => X (ix2 R q)) fun q => W (ix2 q e) := by
  rw [projA_apply]
  have h : (⟨R.val / 2048 * 2048 + R.val % 2048, by omega⟩ : Fin 16384) = R := Fin.ext (by show R.val / 2048 * 2048 + R.val % 2048 = R.val; omega)
  exact congrArg (fun r => dot (fun q : Fin 1024 => X (ix2 r q)) fun q => W (ix2 q e)) h

/-- The reference's array, element by element. -/
theorem value (X : FVec Ideal S16384x1024 .bf16) (W : FVec Ideal S1024x288 .f32) (G : FVec Ideal S256 .f32) : rankA X W G = rank X W G := by
  funext i
  obtain ⟨R, d, rfl⟩ : ∃ (R : Fin 16384) (d : Fin 384), i = (ix2 R d : S16384x384.Idx) := ⟨i 0, i 1, eq_ix2 i⟩
  rw [rank_at]
  unfold rankA entry
  pointwise
  by_cases h : d.val < 256
  · rw [dif_pos h, dif_pos h, normA_apply]
    refine congrFun (congrArg (fun z => rms z _) (funext fun e => ?_)) _
    refine Eq.trans ?_ (projA_row X W R ⟨e.val, by omega⟩)
    pointwise
  · rw [dif_neg h, dif_neg h]
    by_cases h2 : d.val - 256 < 32
    · rw [dif_pos h2, rotA_apply]
      refine congrFun (congrArg (fun z => rotate z _ _) (funext fun e => ?_)) _
      refine Eq.trans ?_ (projA_row X W R ⟨256 + e.val, by omega⟩)
      pointwise
    · rw [dif_neg h2]
      unfold rotate
      rw [dif_neg (by show ¬ d.val - 256 < 16; omega), dif_neg (by show ¬ d.val - 256 - 16 < 16; omega)]

/-- The reference's run: the arguments unchanged, every counter zero. -/
theorem frame : Cert.quiescent_Reference10Ideal := fun m g _ =>
  (θ_run defs _ _).mono (fun r h => ⟨fun c => (h c).2, sem_eq_zero_of_no_sems (by decide) r.2⟩) (Value.run (F := Ideal) m g)

/-- The precondition: every row and weight is a real number. -/
theorem finite_iff (X : FVec Ideal S16384x1024 .bf16) (W : FVec Ideal S1024x288 .f32) (G : FVec Ideal S256 .f32)
    (h : Cert.Pre_finite10.fn (F := Ideal) X W G = fun _ => 1#1) : Real (s := S16384x1024) X ∧ Real (s := S1024x288) W := by
  have : Subsingleton Cert.Pre_finite10.S_.Idx := ⟨fun y z => funext fun i => i.elim0⟩
  obtain ⟨e1, e2⟩ := IntOp.andi_eq_one.1 (congrFun h (fun i => i.elim0))
  exact ⟨fun i => real_of_lt _ (Host.reduce_andi_all _ _ _ _ _ e1 i), fun i => real_of_lt _ (Host.reduce_andi_all _ _ _ _ _ e2 i)⟩

theorem rank_congr {X X' : S16384x1024.Idx → EReal} {W W' : S1024x288.Idx → EReal} {G G' : S256.Idx → EReal} (h0 : X = X') (h1 : W = W')
    (h2 : G = G') : rank X W G = rank X' W' G' := by
  subst h0 h1 h2
  rfl

theorem term (m : (ℓ : Loc nD τ sig) → Buf (Elt Ideal) ℓ) (c : Dev nD) :
    Value.res_out0 (F := Ideal) m c = rankA (m ((c : Thread nD τ).loc main_arg0)) (m ((c : Thread nD τ).loc main_arg1)) (m ((c : Thread nD τ).loc main_arg2)) := rfl

/-- Equal arguments, equal arrays. -/
theorem algebraic : Cert.algebraic_Kernel10Ideal_Reference10Ideal_pre_finite10 := by
  intro m g m' g' hp hag
  refine ⟨fun c => rank (m ((c.tc : Thread Kernel10Ideal.nD Kernel10Ideal.τ).loc Kernel10Ideal.main_arg0)) (m ((c.tc : Thread Kernel10Ideal.nD Kernel10Ideal.τ).loc Kernel10Ideal.main_arg1))
    (m ((c.tc : Thread Kernel10Ideal.nD Kernel10Ideal.τ).loc Kernel10Ideal.main_arg2)), ?_, ?_⟩
  · exact (θ_run _ _ _).mono (fun r h c => ⟨(h c).1.trans (Kernel10Ideal.Calls.final m c (finite_iff _ _ _ (hp c)).1 (finite_iff _ _ _ (hp c)).2), (h c).2⟩)
      (Kernel10Ideal.Value.run_blocks (F := Ideal) m g)
  · refine (θ_run _ _ _).mono (fun r h c => ?_) (Value.run (F := Ideal) m' g')
    obtain ⟨h0, h1, h2⟩ := hag c
    refine ⟨?_, (h c).2⟩
    exact (h c).1.trans ((term m' c).trans ((value (m' ((c.tc : Thread nD τ).loc main_arg0)) (m' ((c.tc : Thread nD τ).loc main_arg1)) (m' ((c.tc : Thread nD τ).loc main_arg2))).trans (rank_congr h0 h1 h2)))

end Cert.Reference10Ideal.Calls

end
-- ==== Proof.Kernel11Ideal.Value.lean ====
/- The latent attention's queries: what the run leaves in its result array. -/
module

public import proofs.«01_k».proof.Proof.Finite
public import proofs.«01_k».proof.Proof.Gen.Kernel11Ideal.Value
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.PureOps.Ideal

@[expose] public section

set_option maxRecDepth 16384

noncomputable section

namespace Cert.Kernel11Ideal.Calls

open Cert.Kernel11Ideal Cert.Kernel11Ideal.Gen Idealize.ShloMosaic Idealize.ShloMosaic.TcCoe Idealize.ShloMosaic.Tactic Idealize.SL.Sem
open Cert.Calls

/-- The angles: each of the 2048 places times each of the 16 frequencies. -/
def angleA : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- Their cosines and sines. -/
def cosA : FVec Ideal S2048x16 .f32 := Host.cos angleA

def sinA : FVec Ideal S2048x16 .f32 := Host.sin angleA

/-- The two tables of 128 columns: ones or zeros for the 64 columns that are not rotated, the 16 cosines or sines twice,
    zeros to the end. -/
def cosQ : FVec Ideal S2048x128 .f32 :=
  concatenate S2048x128 1 [⟨S2048x64, (broadcastInDim S2048x64 ![] bcast_S_S2048x64 (constant S_ .f32 0x3F800000#32) : FVec Ideal S2048x64 .f32)⟩,
    ⟨S2048x16, cosA⟩, ⟨S2048x16, cosA⟩,
    ⟨S2048x32, (broadcastInDim S2048x32 ![] bcast_S_S2048x32 (constant S_ .f32 0x00000000#32) : FVec Ideal S2048x32 .f32)⟩] concatenates_S2048x64_S2048x16_S2048x16_S2048x32_S2048x128_d1

def sinQ : FVec Ideal S2048x128 .f32 :=
  concatenate S2048x128 1 [⟨S2048x64, (broadcastInDim S2048x64 ![] bcast_S_S2048x64 (constant S_ .f32 0x00000000#32) : FVec Ideal S2048x64 .f32)⟩,
    ⟨S2048x16, sinA⟩, ⟨S2048x16, sinA⟩,
    ⟨S2048x32, (broadcastInDim S2048x32 ![] bcast_S_S2048x32 (constant S_ .f32 0x00000000#32) : FVec Ideal S2048x32 .f32)⟩] concatenates_S2048x64_S2048x16_S2048x16_S2048x32_S2048x128_d1

/-- The weight, head by head. -/
def headsA (W : FVec Ideal S384x1536 .f32) : FVec Ideal S384x16x96 .f32 := shapeCast S384x16x96 W shapeCasts_S384x1536_S384x16x96

/-- Each head's columns, filled up with zeros to 128. -/
def straightA (W : FVec Ideal S384x1536 .f32) : FVec Ideal S384x2048 .bf16 :=
  truncf .bf16 (shapeCast S384x2048 (concatenate S384x16x128 2
    [⟨S384x16x64, extractStridedSlice S384x16x64 ![0, 0, 0] (headsA W) slices_S384x16x96_S384x16x64_0_0_0⟩,
     ⟨S384x16x16, extractStridedSlice S384x16x16 ![0, 0, 64] (headsA W) slices_S384x16x96_S384x16x16_0_0_64⟩,
     ⟨S384x16x16, extractStridedSlice S384x16x16 ![0, 0, 80] (headsA W) slices_S384x16x96_S384x16x16_0_0_80⟩,
     ⟨S384x16x32, (broadcastInDim S384x16x32 ![] bcast_S_S384x16x32 (constant S_ .f32 0x00000000#32) : FVec Ideal S384x16x32 .f32)⟩]
    concatenates_S384x16x64_S384x16x16_S384x16x16_S384x16x32_S384x16x128_d2) shapeCasts_S384x16x128_S384x2048) bitsLt_bf16_f32

/-- Each head's rotary halves exchanged with the sign turned, zeros elsewhere. -/
def turnedA (W : FVec Ideal S384x1536 .f32) : FVec Ideal S384x2048 .bf16 :=
  truncf .bf16 (shapeCast S384x2048 (concatenate S384x16x128 2
    [⟨S384x16x64, (broadcastInDim S384x16x64 ![] bcast_S_S384x16x64 (constant S_ .f32 0x00000000#32) : FVec Ideal S384x16x64 .f32)⟩,
     ⟨S384x16x16, Host.negf (extractStridedSlice S384x16x16 ![0, 0, 80] (headsA W) slices_S384x16x96_S384x16x16_0_0_80)⟩,
     ⟨S384x16x16, extractStridedSlice S384x16x16 ![0, 0, 64] (headsA W) slices_S384x16x96_S384x16x16_0_0_64⟩,
     ⟨S384x16x32, (broadcastInDim S384x16x32 ![] bcast_S_S384x16x32 (constant S_ .f32 0x00000000#32) : FVec Ideal S384x16x32 .f32)⟩]
    concatenates_S384x16x64_S384x16x16_S384x16x16_S384x16x32_S384x16x128_d2) shapeCasts_S384x16x128_S384x2048) bitsLt_bf16_f32

theorem cosQ_apply (s : Fin 2048) (j : Fin 128) :
    cosQ (ix2 s j) = if h : j.val < 64 then (1 : EReal) else if h : j.val - 64 < 16 then cosA (ix2 s ⟨j.val - 64, h⟩)
      else if h : j.val - 64 - 16 < 16 then cosA (ix2 s ⟨j.val - 64 - 16, h⟩) else 0 := by
  unfold cosQ
  pointwise

theorem sinQ_apply (s : Fin 2048) (j : Fin 128) :
    sinQ (ix2 s j) = if h : j.val < 64 then (0 : EReal) else if h : j.val - 64 < 16 then sinA (ix2 s ⟨j.val - 64, h⟩)
      else if h : j.val - 64 - 16 < 16 then sinA (ix2 s ⟨j.val - 64 - 16, h⟩) else 0 := by
  unfold sinQ
  pointwise

/-- Column `f` of either weight. -/
def straight (W : S384x1536.Idx → EReal) (f : Fin 2048) (q : Fin 384) : EReal :=
  if h : f.val % 128 < 64 then W (ix2 q ⟨f.val / 128 * 96 + f.val % 128, by omega⟩)
  else if h : f.val % 128 - 64 < 16 then W (ix2 q ⟨f.val / 128 * 96 + (64 + (f.val % 128 - 64)), by omega⟩)
  else if h : f.val % 128 - 64 - 16 < 16 then W (ix2 q ⟨f.val / 128 * 96 + (80 + (f.val % 128 - 64 - 16)), by omega⟩) else 0

def turned (W : S384x1536.Idx → EReal) (f : Fin 2048) (q : Fin 384) : EReal :=
  if h : f.val % 128 < 64 then 0
  else if h : f.val % 128 - 64 < 16 then -W (ix2 q ⟨f.val / 128 * 96 + (80 + (f.val % 128 - 64)), by omega⟩)
  else if h : f.val % 128 - 64 - 16 < 16 then W (ix2 q ⟨f.val / 128 * 96 + (64 + (f.val % 128 - 64 - 16)), by omega⟩) else 0

theorem straightA_apply (W : FVec Ideal S384x1536 .f32) (q : Fin 384) (f : Fin 2048) : straightA W (ix2 q f) = straight W f q := by
  unfold straightA headsA straight
  pointwise

theorem turnedA_apply (W : FVec Ideal S384x1536 .f32) (q : Fin 384) (f : Fin 2048) : turnedA W (ix2 q f) = turned W f q := by
  unfold turnedA headsA turned
  pointwise

/-- The softmax's scale: a real number, not negative. -/
def scale : EReal := Ideal.ofBits .f32 0x3DD105EC#32

theorem scale_real : ∃ r : ℝ, 0 ≤ r ∧ scale = (r : EReal) := by
  have e : scale = ((13698540 : ℝ) : EReal) * (((2 ^ 27 : ℝ)⁻¹ : ℝ) : EReal) := by
    unfold scale
    simp [Ideal.ofBits, Ideal.ieee]
  exact ⟨13698540 * (2 ^ 27)⁻¹, by positivity, e.trans (EReal.coe_mul _ _).symm⟩

theorem scale_add (a b : EReal) : (a + b) * scale = a * scale + b * scale := by
  obtain ⟨r, hr, e⟩ := scale_real
  rw [e]
  exact EReal.right_distrib_of_nonneg_of_ne_top (EReal.coe_nonneg.2 hr) (EReal.coe_ne_top r) a b

/-- Where every entry is a real number. -/
def Real {s : Shape} (X : s.Idx → EReal) : Prop := ∀ i, ∃ r : ℝ, X i = (r : EReal)

/-- Column `j` of a head's query, from its 96 columns `z`: 64 kept, 16 pairs rotated, all scaled, zeros behind them. -/
def query (z : Fin 96 → EReal) (C S : Fin 16 → EReal) (j : Fin 128) : EReal :=
  if h : j.val < 64 then z ⟨j.val, by omega⟩ * scale
  else if h : j.val - 64 < 16 then (z ⟨64 + (j.val - 64), by omega⟩ * C ⟨j.val - 64, h⟩ - z ⟨80 + (j.val - 64), by omega⟩ * S ⟨j.val - 64, h⟩) * scale
  else if h : j.val - 64 - 16 < 16 then
    (z ⟨80 + (j.val - 64 - 16), by omega⟩ * C ⟨j.val - 64 - 16, h⟩ + z ⟨64 + (j.val - 64 - 16), by omega⟩ * S ⟨j.val - 64 - 16, h⟩) * scale
  else 0

theorem dot_zero {n : ℕ} (x : Fin n → EReal) : (dot x fun _ => (0 : EReal)) = 0 := by
  unfold dot
  simp only [mul_zero, Finset.sum_const_zero]

/-- The two products, times the two scaled tables, make the query. -/
theorem query_eq (x : Fin 384 → EReal) (W : S384x1536.Idx → EReal) (hx : ∀ q, ∃ r : ℝ, x q = (r : EReal)) (hW : Real W)
    (s : Fin 2048) (d : Fin 2048) :
    dot x (straight W d) * (cosQ (ix2 s ⟨d.val % 128, Nat.mod_lt _ (by decide)⟩) * scale)
      + dot x (turned W d) * (sinQ (ix2 s ⟨d.val % 128, Nat.mod_lt _ (by decide)⟩) * scale)
    = query (fun e => dot x fun q => W (ix2 q ⟨d.val / 128 * 96 + e.val, by omega⟩)) (fun e => cosA (ix2 s e)) (fun e => sinA (ix2 s e))
      ⟨d.val % 128, Nat.mod_lt _ (by decide)⟩ := by
  rw [cosQ_apply, sinQ_apply]
  unfold query
  dsimp only
  by_cases h1 : d.val % 128 < 64
  · have e1 : straight W d = fun q => W (ix2 q ⟨d.val / 128 * 96 + d.val % 128, by omega⟩) := funext fun q => dif_pos h1
    have e2 : turned W d = fun _ => 0 := funext fun q => dif_pos h1
    rw [dif_pos h1, dif_pos h1, dif_pos h1, e1, e2, dot_zero, one_mul, zero_mul, add_zero]
  · rw [dif_neg h1, dif_neg h1, dif_neg h1]
    by_cases h2 : d.val % 128 - 64 < 16
    · have e1 : straight W d = fun q => W (ix2 q ⟨d.val / 128 * 96 + (64 + (d.val % 128 - 64)), by omega⟩) := funext fun q => (dif_neg h1).trans (dif_pos h2)
      have e2 : turned W d = fun q => -W (ix2 q ⟨d.val / 128 * 96 + (80 + (d.val % 128 - 64)), by omega⟩) := funext fun q => (dif_neg h1).trans (dif_pos h2)
      rw [dif_pos h2, dif_pos h2, dif_pos h2, e1, e2, dot_neg x _ hx (fun q => hW _), sub_eq_add_neg, scale_add, ← mul_assoc, ← mul_assoc, neg_mul]
    · rw [dif_neg h2, dif_neg h2, dif_neg h2]
      by_cases h3 : d.val % 128 - 64 - 16 < 16
      · have e1 : straight W d = fun q => W (ix2 q ⟨d.val / 128 * 96 + (80 + (d.val % 128 - 64 - 16)), by omega⟩) :=
          funext fun q => (dif_neg h1).trans ((dif_neg h2).trans (dif_pos h3))
        have e2 : turned W d = fun q => W (ix2 q ⟨d.val / 128 * 96 + (64 + (d.val % 128 - 64 - 16)), by omega⟩) :=
          funext fun q => (dif_neg h1).trans ((dif_neg h2).trans (dif_pos h3))
        rw [dif_pos h3, dif_pos h3, dif_pos h3, e1, e2, scale_add, ← mul_assoc, ← mul_assoc]
      · rw [dif_neg h3, dif_neg h3, dif_neg h3, zero_mul, mul_zero, mul_zero, add_zero]

section
variable (x : Vec Ideal S512x384 .bf16) (a b : Vec Ideal S384x2048 .bf16) (ct st : Vec Ideal S512x128 .f32) (r : Fin 512)

/-- One store's rows: 128 columns of the two products, each times its table. -/
def mix (o : ℕ) (hs : S512x2048.Slices ![0, o] S512x128) (p q : FVec Ideal S512x2048 .f32) (u v : FVec Ideal S512x128 .f32) : FVec Ideal S512x128 .bf16 :=
  truncf .bf16 (addf (mulf (extractStridedSlice S512x128 ![0, o] p hs) u) (mulf (extractStridedSlice S512x128 ![0, o] q hs) v)) bitsLt_bf16_f32

theorem mix_apply (o : ℕ) (hs : S512x2048.Slices ![0, o] S512x128) (p q : FVec Ideal S512x2048 .f32) (u v : FVec Ideal S512x128 .f32) (j : Fin 128)
    (d : Fin 2048) (hd : d.val = o + j.val) : mix o hs p q u v (ix2 r j) = p (ix2 r d) * u (ix2 r j) + q (ix2 r d) * v (ix2 r j) := by
  have e : d = ⟨o + j.val, hd ▸ d.isLt⟩ := Fin.ext hd
  rw [e]
  unfold mix
  pointwise

theorem pay2_apply (d : Fin 2048) : k0_pay2 (F := Ideal) x a (ix2 r d) = dot (fun q => x (ix2 r q)) fun q => a (ix2 q d) := by
  unfold k0_pay2
  pointwise
  rfl

theorem pay3_apply (d : Fin 2048) : k0_pay3 (F := Ideal) x b (ix2 r d) = dot (fun q => x (ix2 r q)) fun q => b (ix2 q d) := by
  unfold k0_pay3
  pointwise
  rfl

theorem pay4_apply (j : Fin 128) : k0_pay4 (F := Ideal) ct (ix2 r j) = ct (ix2 r j) * scale := by
  unfold k0_pay4
  pointwise
  rfl

theorem pay5_apply (j : Fin 128) : k0_pay5 (F := Ideal) st (ix2 r j) = st (ix2 r j) * scale := by
  unfold k0_pay5
  pointwise
  rfl

end

variable (m : (ℓ : Loc nD τ sig) → Buf (Elt Ideal) ℓ) (c : Dev nD)

/-- What the host's operations before the call leave as the weights and as the two tables. -/
theorem host_a : (V m c main_v33 : S384x2048.Idx → EReal) = straightA (m ((c : Thread nD τ).loc main_arg1)) := by
  unfold V hostOps0
  after_results_simp
  rfl

theorem host_b : (V m c main_v34 : S384x2048.Idx → EReal) = turnedA (m ((c : Thread nD τ).loc main_arg1)) := by
  unfold V hostOps0
  after_results_simp
  rfl

theorem host_c : (V m c main_v17 : S2048x128.Idx → EReal) = cosQ := by
  unfold V hostOps0
  after_results_simp
  rfl

theorem host_s : (V m c main_v20 : S2048x128.Idx → EReal) = sinQ := by
  unfold V hostOps0
  after_results_simp
  rfl

/-- The blocks' places at each grid point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0])

/-- The array's row that row `r` of a point's block is, and its place in the sequence. -/
def row (t : Fin cfg0.N) (r : Fin 512) : Fin 16384 := ⟨t.val * 512 + r.val, by have h : t.val < 32 := t.isLt; omega⟩

def place (t : Fin cfg0.N) (r : Fin 512) : Fin 2048 := ⟨t.val % 4 * 512 + r.val, by omega⟩

theorem place_eq (t : Fin cfg0.N) (r : Fin 512) : (row t r).val % 2048 = (place t r).val := by
  show (t.val * 512 + r.val) % 2048 = t.val % 4 * 512 + r.val
  omega

theorem blk_0 (t : Fin cfg0.N) (r : Fin 512) (q : Fin 384) : iblk m c 0 t (ix2 r q) = m ((c : Thread nD τ).loc main_arg0) (ix2 (row t r) q) := by
  blk_ext [iblk, V, idx t, row]

theorem blk_1 (t : Fin cfg0.N) : (iblk m c 1 t : S384x2048.Idx → EReal) = straightA (m ((c : Thread nD τ).loc main_arg1)) := by
  refine Eq.trans ?_ (host_a m c)
  funext i
  have he : ((cfg0.win 1).blk t).view.emb i = i := by
    blk_ext [idx t]
  exact congrArg (V m c main_v33) he

theorem blk_2 (t : Fin cfg0.N) : (iblk m c 2 t : S384x2048.Idx → EReal) = turnedA (m ((c : Thread nD τ).loc main_arg1)) := by
  refine Eq.trans ?_ (host_b m c)
  funext i
  have he : ((cfg0.win 2).blk t).view.emb i = i := by
    blk_ext [idx t]
  exact congrArg (V m c main_v34) he

theorem blk_3 (t : Fin cfg0.N) (r : Fin 512) (j : Fin 128) : (iblk m c 3 t : S512x128.Idx → EReal) (ix2 r j) = cosQ (ix2 (place t r) j) := by
  refine Eq.trans ?_ (congrFun (host_c m c) _)
  have he : ((cfg0.win 3).blk t).view.emb (ix2 r j : S512x128.Idx) = (ix2 (place t r) j : S2048x128.Idx) := by
    blk_ext [idx t, place]
  exact congrArg (V m c main_v17) he

theorem blk_4 (t : Fin cfg0.N) (r : Fin 512) (j : Fin 128) : (iblk m c 4 t : S512x128.Idx → EReal) (ix2 r j) = sinQ (ix2 (place t r) j) := by
  refine Eq.trans ?_ (congrFun (host_s m c) _)
  have he : ((cfg0.win 4).blk t).view.emb (ix2 r j : S512x128.Idx) = (ix2 (place t r) j : S2048x128.Idx) := by
    blk_ext [idx t, place]
  exact congrArg (V m c main_v20) he

/-- The result: every row's queries, 2048 rows a sequence. -/
def queries (X : S16384x384.Idx → EReal) (W : S384x1536.Idx → EReal) : S16384x2048.Idx → EReal := fun i =>
  query (fun e => dot (fun q : Fin 384 => X (ix2 (i 0) q)) fun q => W (ix2 q ⟨(i 1).val / 128 * 96 + e.val, by have h : (i 1).val < 2048 := (i 1).isLt; omega⟩))
    (fun e => cosA (ix2 ⟨(i 0).val % 2048, Nat.mod_lt _ (by decide)⟩ e)) (fun e => sinA (ix2 ⟨(i 0).val % 2048, Nat.mod_lt _ (by decide)⟩ e))
    ⟨(i 1).val % 128, Nat.mod_lt _ (by decide)⟩

theorem queries_at (X : S16384x384.Idx → EReal) (W : S384x1536.Idx → EReal) (R : Fin 16384) (d : Fin 2048) :
    queries X W (ix2 R d) = query (fun e => dot (fun q : Fin 384 => X (ix2 R q)) fun q => W (ix2 q ⟨d.val / 128 * 96 + e.val, by omega⟩))
      (fun e => cosA (ix2 ⟨R.val % 2048, Nat.mod_lt _ (by decide)⟩ e)) (fun e => sinA (ix2 ⟨R.val % 2048, Nat.mod_lt _ (by decide)⟩ e))
      ⟨d.val % 128, Nat.mod_lt _ (by decide)⟩ := rfl

/-- One store's rows, at its place in the block. -/
theorem piece (hX : Real (s := S16384x384) (m ((c : Thread nD τ).loc main_arg0))) (hW : Real (s := S384x1536) (m ((c : Thread nD τ).loc main_arg1)))
    (t : Fin cfg0.N) (o : ℕ) (hs : S512x2048.Slices ![0, o] S512x128) (x : S512x128.Idx) (r : Fin 512) (d : Fin 2048)
    (h0 : r.val = (x 0).val) (h1 : d.val = o + (x 1).val) (ho : o % 128 = 0) :
    mix o hs (k0_pay2 (iblk m c 0 t) (iblk m c 1 t)) (k0_pay3 (iblk m c 0 t) (iblk m c 2 t)) (k0_pay4 (iblk m c 3 t)) (k0_pay5 (iblk m c 4 t)) x
    = queries (m ((c : Thread nD τ).loc main_arg0)) (m ((c : Thread nD τ).loc main_arg1)) (ix2 (row t r) d) := by
  obtain ⟨r', j, rfl⟩ : ∃ (r' : Fin 512) (j : Fin 128), x = (ix2 r' j : S512x128.Idx) := ⟨x 0, x 1, eq_ix2 x⟩
  obtain rfl : r = r' := Fin.ext h0
  have hd : d.val = o + j.val := h1
  have hj : d.val % 128 = j.val := by omega
  have ej : (⟨d.val % 128, Nat.mod_lt _ (by decide)⟩ : Fin 128) = j := Fin.ext hj
  have es : (⟨(row t r).val % 2048, Nat.mod_lt _ (by decide)⟩ : Fin 2048) = place t r := Fin.ext (place_eq t r)
  have ea : k0_pay2 (F := Ideal) (iblk m c 0 t) (iblk m c 1 t) (ix2 r d)
      = dot (fun q => m ((c : Thread nD τ).loc main_arg0) (ix2 (row t r) q)) (straight (m ((c : Thread nD τ).loc main_arg1)) d) :=
    (pay2_apply _ _ r d).trans (congrArg₂ dot (funext fun q => blk_0 m c t r q) (funext fun q => (congrFun (blk_1 m c t) (ix2 q d)).trans (straightA_apply _ q d)))
  have eb : k0_pay3 (F := Ideal) (iblk m c 0 t) (iblk m c 2 t) (ix2 r d)
      = dot (fun q => m ((c : Thread nD τ).loc main_arg0) (ix2 (row t r) q)) (turned (m ((c : Thread nD τ).loc main_arg1)) d) :=
    (pay3_apply _ _ r d).trans (congrArg₂ dot (funext fun q => blk_0 m c t r q) (funext fun q => (congrFun (blk_2 m c t) (ix2 q d)).trans (turnedA_apply _ q d)))
  have ec : k0_pay4 (F := Ideal) (iblk m c 3 t) (ix2 r j) = cosQ (ix2 (place t r) ⟨d.val % 128, Nat.mod_lt _ (by decide)⟩) * scale := by
    rw [ej]
    exact (pay4_apply _ r j).trans (congrArg (· * scale) (blk_3 m c t r j))
  have ed : k0_pay5 (F := Ideal) (iblk m c 4 t) (ix2 r j) = sinQ (ix2 (place t r) ⟨d.val % 128, Nat.mod_lt _ (by decide)⟩) * scale := by
    rw [ej]
    exact (pay5_apply _ r j).trans (congrArg (· * scale) (blk_4 m c t r j))
  refine (mix_apply r o hs _ _ _ _ j d hd).trans ?_
  refine Eq.trans (congrArg₂ (· + ·) (congrArg₂ (· * ·) ea ec) (congrArg₂ (· * ·) eb ed)) ?_
  refine Eq.trans (query_eq _ _ (fun q => hX _) hW (place t r) d) ?_
  rw [queries_at, es]

/-- The result's array after the run, of real rows and weights. -/
theorem final (hX : Real (s := S16384x384) (m ((c : Thread nD τ).loc main_arg0))) (hW : Real (s := S384x1536) (m ((c : Thread nD τ).loc main_arg1))) :
    (dats (F := Ideal) m 0 c).arrAt 5 cfg0.N = queries (m ((c : Thread nD τ).loc main_arg0)) (m ((c : Thread nD τ).loc main_arg1)) := by
  refine (dats m 0 c).arrAt_eq_of_covers 5 _ (by decide +kernel) fun t hf y => ?_
  obtain ⟨r, d, rfl⟩ : ∃ (r : Fin 512) (d : Fin 2048), y = (ix2 r d : S512x2048.Idx) := ⟨y 0, y 1, eq_ix2 y⟩
  have he : ((cfg0.win 5).blk t).view.emb (ix2 r d : S512x2048.Idx) = (ix2 (row t r) d : S16384x2048.Idx) := by
    blk_ext [idx t, row]
  blk_simp
  rw [after0_5]
  refine Eq.trans ?_ (congrArg (queries _ _) he).symm
  unfold_out out0_5
  frame_out
  canon_tiles x h
  all_goals
    exact piece m c hX hW t _ _ x r d h0 (by first | exact h1 | exact h1.trans (Nat.zero_add _).symm) (by decide)

end Cert.Kernel11Ideal.Calls

end
-- ==== Proof.Reference11Ideal.Claim.lean ====
/- The latent attention's queries: their claims. -/
module

public import proofs.«01_k».proof.Defs
public import proofs.«01_k».proof.Proof.Kernel11Ideal.Value
public import proofs.«01_k».proof.Proof.Gen.Reference11Ideal.Run
public import proofs.«01_k».proof.Proof.Gen.Pre_finite11
public import Idealize.ShloMosaic.Lib.Quiescent
public import Idealize.ShloMosaic.Lib.ReduceAll
public import Idealize.ShloMosaic.Init

@[expose] public section

set_option maxRecDepth 16384

noncomputable section

namespace Cert.Reference11Ideal.Calls

open Cert.Reference11Ideal Cert.Reference11Ideal.Gen Idealize.ShloMosaic Idealize.ShloMosaic.TcCoe Idealize.ShloMosaic.Tactic Idealize.SL.Sem
open Cert.Calls (dot real_of_lt)
open Cert.Kernel11Ideal.Calls (query queries queries_at scale Real cosA sinA)

/-- The projection, sequence by sequence and head by head. -/
def projA (X : FVec Ideal S16384x384 .bf16) (W : FVec Ideal S384x1536 .f32) : FVec Ideal S8x2048x16x96 .f32 :=
  shapeCast _ (Host.dotGeneral dot_S8x2048x384_S384x1536_S8x2048x1536_2_0_01_1_n_n none (shapeCast _ (extf .f32 X bitsLt_bf16_f32) shapeCasts_S16384x384_S8x2048x384) W)
    shapeCasts_S8x2048x1536_S8x2048x16x96

/-- A table of angles' functions, laid out for the rows of 16 heads. -/
def spread (T : FVec Ideal S2048x16 .f32) : FVec Ideal S8x2048x16x16 .f32 :=
  broadcastInDim S8x2048x16x16 ![0, 1, 2, 3] bcast_S1x2048x1x16_S8x2048x16x16_0_1_2_3
    (broadcastInDim S1x2048x1x16 ![1, 2, 3] bcast_S2048x1x16_S1x2048x1x16_1_2_3 (broadcastInDim S2048x1x16 ![0, 2] bcast_S2048x16_S2048x1x16_0_2 T))

/-- The two halves of a head's rotary columns. -/
def leftA (Y : FVec Ideal S8x2048x16x96 .f32) : FVec Ideal S8x2048x16x16 .f32 :=
  extractStridedSlice S8x2048x16x16 ![0, 0, 0, 0] (extractStridedSlice S8x2048x16x32 ![0, 0, 0, 64] Y slices_S8x2048x16x96_S8x2048x16x32_0_0_0_64)
    slices_S8x2048x16x32_S8x2048x16x16_0_0_0_0

def rightA (Y : FVec Ideal S8x2048x16x96 .f32) : FVec Ideal S8x2048x16x16 .f32 :=
  extractStridedSlice S8x2048x16x16 ![0, 0, 0, 16] (extractStridedSlice S8x2048x16x32 ![0, 0, 0, 64] Y slices_S8x2048x16x96_S8x2048x16x32_0_0_0_64)
    slices_S8x2048x16x32_S8x2048x16x16_0_0_0_16

/-- A head's columns with its rotary ones rotated. -/
def turnA (Y : FVec Ideal S8x2048x16x96 .f32) (C S : FVec Ideal S2048x16 .f32) : FVec Ideal S8x2048x16x96 .f32 :=
  concatenate S8x2048x16x96 3 [⟨S8x2048x16x64, extractStridedSlice S8x2048x16x64 ![0, 0, 0, 0] Y slices_S8x2048x16x96_S8x2048x16x64_0_0_0_0⟩,
    ⟨S8x2048x16x32, concatenate S8x2048x16x32 3 [⟨S8x2048x16x16, subf (mulf (leftA Y) (spread C)) (mulf (rightA Y) (spread S))⟩,
      ⟨S8x2048x16x16, addf (mulf (rightA Y) (spread C)) (mulf (leftA Y) (spread S))⟩] concatenates_S8x2048x16x16_S8x2048x16x16_S8x2048x16x32_d3⟩]
    concatenates_S8x2048x16x64_S8x2048x16x32_S8x2048x16x96_d3

/-- The queries, as an array. -/
def queriesA (X : FVec Ideal S16384x384 .bf16) (W : FVec Ideal S384x1536 .f32) : FVec Ideal S16384x2048 .bf16 :=
  truncf .bf16 (shapeCast _ (concatenate S8x2048x16x128 3
    [⟨S8x2048x16x96, mulf (turnA (projA X W) cosA sinA) (broadcastInDim S8x2048x16x96 ![] bcast_S_S8x2048x16x96 (constant S_ .f32 0x3DD105EC#32))⟩,
     ⟨S8x2048x16x32, (broadcastInDim S8x2048x16x32 ![] bcast_S_S8x2048x16x32 (constant S_ .f32 0x00000000#32) : FVec Ideal S8x2048x16x32 .f32)⟩]
    concatenates_S8x2048x16x96_S8x2048x16x32_S8x2048x16x128_d3) shapeCasts_S8x2048x16x128_S16384x2048) bitsLt_bf16_f32

theorem projA_apply (X : FVec Ideal S16384x384 .bf16) (W : FVec Ideal S384x1536 .f32) (b : Fin 8) (s : Fin 2048) (h : Fin 16) (e : Fin 96) :
    projA X W (ix4 b s h e) = dot (fun q : Fin 384 => X (ix2 ⟨b.val * 2048 + s.val, by omega⟩ q)) fun q => W (ix2 q ⟨h.val * 96 + e.val, by omega⟩) := by
  unfold projA
  pointwise
  rfl

theorem turnA_apply (Y : FVec Ideal S8x2048x16x96 .f32) (C S : FVec Ideal S2048x16 .f32) (b : Fin 8) (s : Fin 2048) (h : Fin 16) (e : Fin 96) :
    turnA Y C S (ix4 b s h e) = if h1 : e.val < 64 then Y (ix4 b s h e)
      else if h2 : e.val - 64 < 16 then Y (ix4 b s h ⟨64 + (e.val - 64), by omega⟩) * C (ix2 s ⟨e.val - 64, h2⟩)
        - Y (ix4 b s h ⟨80 + (e.val - 64), by omega⟩) * S (ix2 s ⟨e.val - 64, h2⟩)
      else Y (ix4 b s h ⟨80 + (e.val - 64 - 16), by omega⟩) * C (ix2 s ⟨e.val - 64 - 16, by omega⟩)
        + Y (ix4 b s h ⟨64 + (e.val - 64 - 16), by omega⟩) * S (ix2 s ⟨e.val - 64 - 16, by omega⟩) := by
  unfold turnA leftA rightA spread
  pointwise
  simp only [← Nat.add_assoc, Nat.reduceAdd]

/-- The projection at row `R`, head `h`, column `e`. -/
theorem projA_row (X : FVec Ideal S16384x384 .bf16) (W : FVec Ideal S384x1536 .f32) (R : Fin 16384) (h : Fin 16) (e : Fin 96) :
    projA X W (ix4 ⟨R.val / 2048, by omega⟩ ⟨R.val % 2048, Nat.mod_lt _ (by decide)⟩ h e)
      = dot (fun q : Fin 384 => X (ix2 R q)) fun q => W (ix2 q ⟨h.val * 96 + e.val, by omega⟩) := by
  rw [projA_apply]
  have hr : (⟨R.val / 2048 * 2048 + R.val % 2048, by omega⟩ : Fin 16384) = R := Fin.ext (by show R.val / 2048 * 2048 + R.val % 2048 = R.val; omega)
  exact congrArg (fun r => dot (fun q : Fin 384 => X (ix2 r q)) fun q => W (ix2 q ⟨h.val * 96 + e.val, by omega⟩)) hr

/-- The reference's array, element by element. -/
theorem value (X : FVec Ideal S16384x384 .bf16) (W : FVec Ideal S384x1536 .f32) : queriesA X W = queries X W := by
  funext i
  obtain ⟨R, d, rfl⟩ : ∃ (R : Fin 16384) (d : Fin 2048), i = (ix2 R d : S16384x2048.Idx) := ⟨i 0, i 1, eq_ix2 i⟩
  rw [queries_at]
  unfold queriesA query
  pointwise
  by_cases h1 : d.val % 128 < 64
  · rw [dif_pos (by omega : d.val % 128 < 96), dif_pos h1, turnA_apply, dif_pos h1, projA_row]
    rfl
  · rw [dif_neg h1]
    by_cases h2 : d.val % 128 - 64 < 16
    · rw [dif_pos (by omega : d.val % 128 < 96), dif_pos h2, turnA_apply, dif_neg h1, dif_pos h2, projA_row, projA_row]
      rfl
    · rw [dif_neg h2]
      by_cases h3 : d.val % 128 - 64 - 16 < 16
      · rw [dif_pos (by omega : d.val % 128 < 96), dif_pos h3, turnA_apply, dif_neg h1, dif_neg h2, projA_row, projA_row]
        rfl
      · rw [dif_neg (by omega : ¬ d.val % 128 < 96), dif_neg h3]

/-- The reference's run: the arguments unchanged, every counter zero. -/
theorem frame : Cert.quiescent_Reference11Ideal := fun m g _ =>
  (θ_run defs _ _).mono (fun r h => ⟨fun c => (h c).2, sem_eq_zero_of_no_sems (by decide) r.2⟩) (Value.run (F := Ideal) m g)

/-- The precondition: every row and weight is a real number. -/
theorem finite_iff (X : FVec Ideal S16384x384 .bf16) (W : FVec Ideal S384x1536 .f32)
    (h : Cert.Pre_finite11.fn (F := Ideal) X W = fun _ => 1#1) : Real (s := S16384x384) X ∧ Real (s := S384x1536) W := by
  have : Subsingleton Cert.Pre_finite11.S_.Idx := ⟨fun y z => funext fun i => i.elim0⟩
  obtain ⟨e1, e2⟩ := IntOp.andi_eq_one.1 (congrFun h (fun i => i.elim0))
  exact ⟨fun i => real_of_lt _ (Host.reduce_andi_all _ _ _ _ _ e1 i), fun i => real_of_lt _ (Host.reduce_andi_all _ _ _ _ _ e2 i)⟩

theorem queries_congr {X X' : S16384x384.Idx → EReal} {W W' : S384x1536.Idx → EReal} (h0 : X = X') (h1 : W = W') : queries X W = queries X' W' := by
  subst h0 h1
  rfl

theorem term (m : (ℓ : Loc nD τ sig) → Buf (Elt Ideal) ℓ) (c : Dev nD) :
    Value.res_out0 (F := Ideal) m c = queriesA (m ((c : Thread nD τ).loc main_arg0)) (m ((c : Thread nD τ).loc main_arg1)) := rfl

/-- Equal arguments, equal arrays. -/
theorem algebraic : Cert.algebraic_Kernel11Ideal_Reference11Ideal_pre_finite11 := by
  intro m g m' g' hp hag
  refine ⟨fun c => queries (m ((c.tc : Thread Kernel11Ideal.nD Kernel11Ideal.τ).loc Kernel11Ideal.main_arg0)) (m ((c.tc : Thread Kernel11Ideal.nD Kernel11Ideal.τ).loc Kernel11Ideal.main_arg1)), ?_, ?_⟩
  · exact (θ_run _ _ _).mono (fun r h c => ⟨(h c).1.trans (Kernel11Ideal.Calls.final m c (finite_iff _ _ (hp c)).1 (finite_iff _ _ (hp c)).2), (h c).2⟩)
      (Kernel11Ideal.Value.run_blocks (F := Ideal) m g)
  · refine (θ_run _ _ _).mono (fun r h c => ?_) (Value.run (F := Ideal) m' g')
    obtain ⟨h0, h1⟩ := hag c
    refine ⟨?_, (h c).2⟩
    exact (h c).1.trans ((term m' c).trans ((value (m' ((c.tc : Thread nD τ).loc main_arg0)) (m' ((c.tc : Thread nD τ).loc main_arg1))).trans (queries_congr h0 h1)))

end Cert.Reference11Ideal.Calls

end
-- ==== Proof.Kernel12.Frame.lean ====
/- The frame of the routed experts' pipeline at any admissible tables: what the output block and the staged x block hold
   after every grid point, the body's obligation along its four paths (a tile's first point or a later one, of a used
   tile or not), and the launch: every execution ends, the arguments unchanged and every semaphore at zero. -/
module

public import proofs.«01_k».proof.Proof.Kernel12.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel12.Experts

open Cert.Kernel12 Cert.Kernel12.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Bits) ℓ) (ρ : Dev nD → PrngReg)

/-- The launch memory's tables are the ones the pipeline is stated at. -/
def Pinned (T : Tabs) (m : (ℓ : Loc nD τ sig) → Buf (Elt Bits) ℓ) : Prop :=
  (∀ c : Dev nD, m ((c : Thread nD τ).loc main_arg0) = T.te)
  ∧ (∀ c : Dev nD, m ((c : Thread nD τ).loc main_arg1) = T.nu)

/-! ## What the outputs and scratches hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA T).N) (prev : (S1024x1024.Idx → Elt Bits .f32) × Buf (Elt Bits) ((c : Thread nD τ).loc cc0_scratch0)) : (S1024x1024.Idx → Elt Bits .f32) × Buf (Elt Bits) ((c : Thread nD τ).loc cc0_scratch0) :=
  if q0 : P0_0 T t then
    if q1 : P0_1 T t then
      (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
    else
      (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
  else
    if q1 : P0_1 T t then
      (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1)
    else
      ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1)

/-- THE TRAJECTORY: after position `n`. -/
def traj0 (c : Dev nD) : (n : ℕ) → n < (cfgA T).N → (S1024x1024.Idx → Elt Bits .f32) × Buf (Elt Bits) ((c : Thread nD τ).loc cc0_scratch0)
  | 0, h => step0 T m ρ c ⟨0, h⟩ (default, default)
  | n + 1, h => step0 T m ρ c ⟨n + 1, h⟩ (traj0 c n (Nat.lt_of_succ_lt h))

/-- What they held BEFORE point `t` (junk before the first). -/
def prev0 (c : Dev nD) (t : Fin (cfgA T).N) : (S1024x1024.Idx → Elt Bits .f32) × Buf (Elt Bits) ((c : Thread nD τ).loc cc0_scratch0) :=
  if h : t.val = 0 then (default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S1024x1024.Idx → Elt Bits .f32) × Buf (Elt Bits) ((c : Thread nD τ).loc cc0_scratch0)) (q0 : P0_0 T t) (q1 : P0_1 T t) :
    step0 T m ρ c t prev = (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_pos q1]

/-- `step0` at a point of path B. -/
theorem step0_B (c : Dev nD) (t : Fin (cfgA T).N) (prev : (S1024x1024.Idx → Elt Bits .f32) × Buf (Elt Bits) ((c : Thread nD τ).loc cc0_scratch0)) (q0 : ¬P0_0 T t) (q1 : P0_1 T t) :
    step0 T m ρ c t prev = (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1) := by
  unfold step0; simp only [dif_neg q0, dif_pos q1]

/-- `step0` at a point of path C. -/
theorem step0_C (c : Dev nD) (t : Fin (cfgA T).N) (prev : (S1024x1024.Idx → Elt Bits .f32) × Buf (Elt Bits) ((c : Thread nD τ).loc cc0_scratch0)) (q0 : P0_0 T t) (q1 : ¬P0_1 T t) :
    step0 T m ρ c t prev = (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_neg q1]

/-- `step0` at a point of path D. -/
theorem step0_D (c : Dev nD) (t : Fin (cfgA T).N) (prev : (S1024x1024.Idx → Elt Bits .f32) × Buf (Elt Bits) ((c : Thread nD τ).loc cc0_scratch0)) (q0 : ¬P0_0 T t) (q1 : ¬P0_1 T t) :
    step0 T m ρ c t prev = ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1) := by
  unfold step0; simp only [dif_neg q0, dif_neg q1]

/-! ## The pipeline's proof data -/

/-- What the tracked buffers held before position `t` of `Fin (N+1)` (the invariant's index). -/
def prev0T (c : Dev nD) (t : Fin ((cfgA T).N + 1)) : (S1024x1024.Idx → Elt Bits .f32) × Buf (Elt Bits) ((c : Thread nD τ).loc cc0_scratch0) :=
  if h : t.val = 0 then (default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA T).N + 1)) : sProp 𝕄 :=
  iprop((∃ a, ⌜sfresh0_0 T t.val = false → a = (prev0T T m ρ c t).2⌝ ∗ (scM0_0.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Bits) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt).1
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA T).N) (ht : t.val ≠ 0), (cfgA T).idle (4 : Fin 5) ((cfgA T).grid.coords t) = true → (cfgA T).fresh (4 : Fin 5) t.val = false →
    (dats T m ρ 0 c).after (4 : Fin 5) t = (dats T m ρ 0 c).after (4 : Fin 5) ⟨t.val - 1, by omega⟩ := by
  intro t ht hi hf
  rw [after0_4, after0_4, traj0_eq]
  by_cases q0 : P0_0 T t
  · by_cases q1 : P0_1 T t
    · obtain ⟨i4, -, -, -⟩ := sched0_A T t q0 q1
      rw [i4] at hi; exact absurd hi (by decide)
    · obtain ⟨i4, -, -, -⟩ := sched0_C T t q0 q1
      rw [i4] at hi; exact absurd hi (by decide)
  · by_cases q1 : P0_1 T t
    · obtain ⟨i4, -, -, -⟩ := sched0_B T t q0 q1
      rw [i4] at hi; exact absurd hi (by decide)
    · rw [step0_D T m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA T).N) (d) :
    (dats T m ρ 0 c).before (4 : Fin 5) t d = if (cfgA T).fresh (4 : Fin 5) t.val then d else (prev0 T m ρ c t).1 := by
  rw [(dats T m ρ 0 c).before_out_traj (4 : Fin 5) rfl (fun _ _ => rfl) (hcarry0_4 T m ρ c) t.val t rfl d]
  by_cases hf : (cfgA T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA T).N) : Prog (TpuEff nD τ sig (Elt Bits) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Bits)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i4, f4, fr4, sfn0⟩ := sched0_A T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4, sfn0⟩ := sched0_C T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 T t
    · obtain ⟨i4, fr4, sf0, sfn0⟩ := sched0_B T t q0 q1
      have k0_h1 := q0; have k0_h2 := q1
      rewrite [i4]
      simp only [before0_0, before0_1, before0_2, before0_3, before0_4, after0_0, after0_1, after0_2, after0_3, after0_4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ _ k0_h1 k0_h2).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _)
    · obtain ⟨i4, fr4, sf0, sfn0⟩ := sched0_D T t q0 q1
      have k0_h1 := q0; have k0_h2 := q1
      cases f4 : ((cfgA T).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ, fr4, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned T m) (c : Dev nD) : BodyObligation (dats T m ρ 0 c) (defs₀ (F := Bits)) Variants.none () Set.univ := fun t => by
  rw [bigSep_W0]
  exact sound_body T m ρ hp c t

/-! ## The launch -/

/-- The rounds library's launch element. -/
def u₀ : UR sig nD τ :=
  initOf (Pipeline.cells (pcs T) ((launch0 (F := Bits)).cellOf_inj fun _ => adm T))
    (Pipeline.launchToks (pcs T) ((launch0 (F := Bits)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the tables: every weakly
    fair execution of @main on the TensorCores terminates, and every final state has each array at the computed contents,
    and every semaphore counter of the machine at zero. -/
theorem run_main_quiescent (hp : Pinned T m) : θ_run (defs (F := Bits)) (onTc (τ := τ) (main (F := Bits))) (s₀ m ρ) (fun r => QC T m ρ r ∧ r.2.sem = fun _ => 0) :=
  Pipeline.θ_run_region_noSem_pf_quiescent pcfgs (fun _ => adm T) (dats T m ρ) () ((launch0 (F := Bits)).cellOf_inj fun _ => adm T) (0 : Fin 1)
    (launch0 (F := Bits)).win.to₀ (launch0 (F := Bits)).pre EP defs₀ Variants.none m ρ main
    (hbody := fun c => (body_obligation T m ρ hp c).loose) (hne := (launch0 (F := Bits)).block_pos)
    (harr := (launch0 (F := Bits)).arr_whole) (hstage := (launch0 (F := Bits)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Bits)).win.arr_inj c (launch0 (F := Bits)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Bits)) (onTc (τ := τ) (main (F := Bits))) (s₀ m ρ) (QC T m ρ) :=
  (θ_run defs _ _).mono (fun _ h => h.1) (run_main_quiescent T m ρ hp)

/-- `frame` without the counters: the argument arrays end unchanged. -/
theorem unchanged (hp : Pinned T m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- THE FRAME under the pinning: from a launch memory whose tables and steering words are the tables, every weakly fair
    execution terminates, nothing faults, every argument array ends unchanged and every semaphore counter of the machine reads
    zero at every final state — `Cert.quiescent_Kernel`'s post. -/
theorem frame (hp : Pinned T m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.Kernel12.Experts

end
-- ==== Proof.Kernel12.Pre.lean ====
/- The precondition gives the two tables: every memory it admits holds tables the run can be stated over. -/
module

public import proofs.«01_k».proof.Defs
public import proofs.«01_k».proof.Proof.Decode
public import proofs.«01_k».proof.Proof.Kernel12.Frame

@[expose] public section

namespace Cert.Kernel12.Experts

open Cert.Kernel12 Cert.Kernel12.Gen Idealize.ShloMosaic Idealize.ShloMosaic.TcCoe Idealize.SL.Sem

/-- There is one device. -/
theorem dev_eq (c d : Dev nD) : c = d := Subsingleton.elim (α := Fin 1) c d

/-- A memory the precondition admits holds, on its one device, tables of the kind the run is stated over. -/
theorem pinned [Cert.Pre_tables.Facts] (m : (ℓ : Loc nD τ sig) → Buf (Elt Bits) ℓ) (h : Cert.Pre_Kernel12 m) : ∃ T : Tabs, Pinned T m := by
  let c0 : Dev nD := (0 : Fin 1)
  obtain ⟨h1, h2⟩ := Cert.Decode.tables_iff _ _ _ _ _ _ (h c0)
  refine ⟨⟨m ((c0 : Thread nD τ).loc main_arg0), m ((c0 : Thread nD τ).loc main_arg1), h1, h2⟩, fun c => ?_, fun c => ?_⟩
  · rw [dev_eq c c0]
  · rw [dev_eq c c0]

end Cert.Kernel12.Experts

end
-- ==== Proof.Kernel12Ideal.Tables.lean ====
/- The routed experts' pipeline at ANY admissible tables: every tile given to one of the 8 experts and at least one
   tile used. The block of every window is then inside its array, and which grid points start a tile, skip their work
   or write the tile back depends on the grid and on the count of used tiles only. -/
module

public import proofs.«01_k».proof.Proof.Gen.Kernel12Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel12Ideal.Experts

open Cert.Kernel12Ideal Cert.Kernel12Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The two prefetched tables, at contents the precondition admits: each tile's expert and the count of used tiles. -/
structure Tabs where
  te : S40.Idx → BitVec 32
  nu : S1.Idx → BitVec 32
  te_lt : ∀ x, (te x).toNat < 8
  nu_pos : ∀ x, 1 ≤ (nu x).toInt

variable (T : Tabs)

/-- The one word of the second table: how many tiles are used. -/
def Tabs.used : BitVec 32 := T.nu (Shape.Idx.first (numel1_S1.symm ▸ Nat.one_pos))

theorem S1_eq (x y : S1.Idx) : x = y := by
  funext a
  match a with
  | ⟨0, _⟩ => exact Subsingleton.elim (α := Fin 1) _ _

theorem Tabs.nu_eq (x : S1.Idx) : T.nu x = T.used := by unfold Tabs.used; exact congrArg T.nu (S1_eq _ _)

/-- A used tile's x block is its own, an unused one's the last used tile's: in either case a tile that exists. -/
theorem x_row_le {i : ℕ} (hi : i < 40) (w : BitVec 32) (hw : 1 ≤ w.toInt) :
    (Scalar.minsi (BitVec.ofNat 32 i) (Scalar.subi w 1#32)).toNat ≤ i := by
  have e : (Scalar.minsi (BitVec.ofNat 32 i) (Scalar.subi w 1#32))
      = if (BitVec.ofNat 32 i).slt (w - 1#32) then BitVec.ofNat 32 i else w - 1#32 := rfl
  have h1 : (BitVec.ofNat 32 i).toNat = i := by simp; omega
  have h2 : w.toNat < 2 ^ 31 ∧ 1 ≤ w.toNat := by
    rw [BitVec.toInt_eq_toNat_cond] at hw; have := w.isLt; split at hw <;> omega
  have h3 : (w - 1#32).toNat = w.toNat - 1 := by rw [BitVec.toNat_sub]; simp; omega
  rw [e]
  split
  · omega
  · rename_i h
    rw [BitVec.slt_eq_decide, decide_eq_true_eq, BitVec.toInt_eq_toNat_cond, BitVec.toInt_eq_toNat_cond, h1, h3, if_pos (by omega), if_pos (by omega)] at h
    omega

/-- A used tile's x block is its own. -/
theorem x_row_used {i : ℕ} (hi : i < 40) (w : BitVec 32) (hw : 1 ≤ w.toInt) (h : (i : ℤ) < w.toInt) :
    (Scalar.minsi (BitVec.ofNat 32 i) (Scalar.subi w 1#32)).toNat = i := by
  have e : (Scalar.minsi (BitVec.ofNat 32 i) (Scalar.subi w 1#32))
      = if (BitVec.ofNat 32 i).slt (w - 1#32) then BitVec.ofNat 32 i else w - 1#32 := rfl
  have h1 : (BitVec.ofNat 32 i).toNat = i := by simp; omega
  have h2 : w.toNat < 2 ^ 31 ∧ 1 ≤ w.toNat := by
    rw [BitVec.toInt_eq_toNat_cond] at hw; have := w.isLt; split at hw <;> omega
  have h3 : (w - 1#32).toNat = w.toNat - 1 := by rw [BitVec.toNat_sub]; simp; omega
  have h4 : (i : ℤ) < w.toNat := by rw [BitVec.toInt_eq_toNat_cond, if_pos (by omega)] at h; exact h
  rw [e]
  split
  · exact h1
  · rename_i h
    rw [BitVec.slt_eq_decide, decide_eq_true_eq, BitVec.toInt_eq_toNat_cond, BitVec.toInt_eq_toNat_cond, h1, h3, if_pos (by omega), if_pos (by omega)] at h
    omega

/-- The tables' contents as the pipeline takes them. -/
def pfN : pre0.Contents (Elt Ideal) := fun | ⟨0, _⟩ => T.te | ⟨1, _⟩ => T.nu | ⟨_ + 2, h⟩ => absurd h (by simp)

/-- The column block a weight window visits: the point's own at a used tile, the last at an unused one. -/
def colOf (i : grid0.Coords) : BitVec 32 :=
  Scalar.select (Scalar.cmpi .slt (BitVec.ofNat 32 (i 0).val) T.used) (BitVec.ofNat 32 (i 1).val) 6#32

theorem colOf_le (i : grid0.Coords) : (colOf T i).toNat < 7 := by
  have h1 : (i 1).val < 7 := (i 1).isLt
  have h2 : (BitVec.ofNat 32 (i 1).val).toNat = (i 1).val := by simp; omega
  unfold colOf Scalar.select
  split
  · omega
  · decide

/-- The tile whose expert a point reads. -/
def tileIx (i : grid0.Coords) : S40.Idx := (Rect.unit (s := S40) (k0_off1 i) S1.size (k0_off1_inb i)).emb (Shape.Idx.first (numel1_S1.symm ▸ Nat.one_pos))

theorem transform_0_eq (i : grid0.Coords) : cc0_transform_0 inb_S1_S1_0 numel1_S1 (pfN T) i
    = ![(Scalar.minsi (BitVec.ofNat 32 (i 0).val) (Scalar.subi T.used 1#32)).toNat, 0] := by
  have h : (pfN T).at 1 (Rect.unit (s := S1) ![0] S1.size inb_S1_S1_0) numel1_S1 = T.used := T.nu_eq _
  unfold cc0_transform_0; simp only [h]; rfl

theorem transform_1_eq (i : grid0.Coords) : cc0_transform_1 k0_off1_inb numel1_S1 inb_S1_S1_0 (pfN T) i
    = ![1, (T.te (tileIx i)).toNat, 0, (colOf T i).toNat] := by
  have h : (pfN T).at 1 (Rect.unit (s := S1) ![0] S1.size inb_S1_S1_0) numel1_S1 = T.used := T.nu_eq _
  have h' : (pfN T).at 0 (Rect.unit (s := S40) (k0_off1 i) S1.size (k0_off1_inb i)) numel1_S1 = T.te (tileIx i) := rfl
  unfold cc0_transform_1; simp only [h]; rfl

theorem transform_2_eq (i : grid0.Coords) : cc0_transform_2 k0_off1_inb numel1_S1 inb_S1_S1_0 (pfN T) i
    = ![1, (T.te (tileIx i)).toNat, 0, (colOf T i).toNat] := by
  have h : (pfN T).at 1 (Rect.unit (s := S1) ![0] S1.size inb_S1_S1_0) numel1_S1 = T.used := T.nu_eq _
  unfold cc0_transform_2; simp only [h]; rfl

theorem transform_3_eq (i : grid0.Coords) : cc0_transform_3 k0_off1_inb numel1_S1 inb_S1_S1_0 (pfN T) i
    = ![1, (T.te (tileIx i)).toNat, (colOf T i).toNat, 0] := by
  have h : (pfN T).at 1 (Rect.unit (s := S1) ![0] S1.size inb_S1_S1_0) numel1_S1 = T.used := T.nu_eq _
  unfold cc0_transform_3; simp only [h]; rfl

theorem inb_0 (i : grid0.Coords) (a) : (cc0_transform_0 inb_S1_S1_0 numel1_S1 (pfN T) i a + 1) * S1024x1024.size a ≤ S40960x1024.size a := by
  rw [transform_0_eq]
  have h0 : (i 0).val < 40 := (i 0).isLt
  have := x_row_le h0 T.used (T.nu_pos _)
  fin_cases a
  · show ((Scalar.minsi (BitVec.ofNat 32 (i 0).val) (Scalar.subi T.used 1#32)).toNat + 1) * 1024 ≤ 40960; omega
  · show (0 + 1) * 1024 ≤ 1024; omega

theorem inb_1 (i : grid0.Coords) (a) : (cc0_transform_1 k0_off1_inb numel1_S1 inb_S1_S1_0 (pfN T) i a + 1) * S1x1x1024x512.size a ≤ S2x8x1024x3584.size a := by
  rw [transform_1_eq]
  have h0 := T.te_lt (tileIx i)
  have h1 := colOf_le T i
  fin_cases a
  · show (1 + 1) * 1 ≤ 2; omega
  · show ((T.te (tileIx i)).toNat + 1) * 1 ≤ 8; omega
  · show (0 + 1) * 1024 ≤ 1024; omega
  · show ((colOf T i).toNat + 1) * 512 ≤ 3584; omega

theorem inb_2 (i : grid0.Coords) (a) : (cc0_transform_2 k0_off1_inb numel1_S1 inb_S1_S1_0 (pfN T) i a + 1) * S1x1x1024x512.size a ≤ S2x8x1024x3584.size a := by
  rw [transform_2_eq, ← transform_1_eq]; exact inb_1 T i a

theorem inb_3 (i : grid0.Coords) (a) : (cc0_transform_3 k0_off1_inb numel1_S1 inb_S1_S1_0 (pfN T) i a + 1) * S1x1x512x1024.size a ≤ S2x8x3584x1024.size a := by
  rw [transform_3_eq]
  have h0 := T.te_lt (tileIx i)
  have h1 := colOf_le T i
  fin_cases a
  · show (1 + 1) * 1 ≤ 2; omega
  · show ((T.te (tileIx i)).toNat + 1) * 1 ≤ 8; omega
  · show ((colOf T i).toNat + 1) * 512 ≤ 3584; omega
  · show (0 + 1) * 1024 ≤ 1024; omega

/-- The pipeline's side condition holds at the tables. -/
theorem ok_pfN : ok0 (F := Ideal) (pfN T) :=
  ⟨fun i => ⟨inb_0 T i, .inl rfl⟩, fun i => ⟨inb_1 T i, .inl rfl⟩, fun i => ⟨inb_2 T i, .inl rfl⟩, fun i => ⟨inb_3 T i, .inl rfl⟩⟩

/-- The admissible contents, and the pipeline at them. -/
def adm : (pcfg0 (F := Ideal)).Adm := ⟨pfN T, ok_pfN T⟩
abbrev cfgA : Pipeline.Cfg sig Λ₀ := cfg0 (F := Ideal) (adm T)
abbrev pcs : Fin 1 → Pipeline.Cfg sig Λ₀ := Pipeline.pin (pcfgs (F := Ideal)) fun _ => adm T

variable (m : (ℓ : Loc nD τ sig) → Buf (Elt Ideal) ℓ) (ρ : Dev nD → PrngReg)

/-! ## A point's coordinates, words and staging memrefs -/

/-- Point `t`'s coordinates. -/
abbrev crd (t : Fin (cfgA T).N) : (cfgA T).grid.Coords := (cfgA T).grid.coords t

/-- Each window's current staging memref at point `t`, spelled as the pipeline passes it, and its wholeness. -/
abbrev ms0_0 (t : Fin (cfgA T).N) : Memref sig .tc .vmem S1024x1024 .f32 := spec0_0.stage ((cfgA T).slots t (0 : Fin 5))
abbrev hs0_0 (t : Fin (cfgA T).N) : (ms0_0 T t).IsWhole := hstage0_0 (((cfgA T).slots t (0 : Fin 5)).cast nbuf0_0)
abbrev ms0_1 (t : Fin (cfgA T).N) : Memref sig .tc .vmem S1x1x1024x512 .f32 := spec0_1.stage ((cfgA T).slots t (1 : Fin 5))
abbrev hs0_1 (t : Fin (cfgA T).N) : (ms0_1 T t).IsWhole := hstage0_1 (((cfgA T).slots t (1 : Fin 5)).cast nbuf0_1)
abbrev ms0_2 (t : Fin (cfgA T).N) : Memref sig .tc .vmem S1x1x1024x512 .f32 := spec0_2.stage ((cfgA T).slots t (2 : Fin 5))
abbrev hs0_2 (t : Fin (cfgA T).N) : (ms0_2 T t).IsWhole := hstage0_2 (((cfgA T).slots t (2 : Fin 5)).cast nbuf0_2)
abbrev ms0_3 (t : Fin (cfgA T).N) : Memref sig .tc .vmem S1x1x512x1024 .f32 := spec0_3.stage ((cfgA T).slots t (3 : Fin 5))
abbrev hs0_3 (t : Fin (cfgA T).N) : (ms0_3 T t).IsWhole := hstage0_3 (((cfgA T).slots t (3 : Fin 5)).cast nbuf0_3)
abbrev ms0_4 (t : Fin (cfgA T).N) : Memref sig .tc .vmem S1024x1024 .f32 := spec0_4.stage ((cfgA T).slots t (4 : Fin 5))
abbrev hs0_4 (t : Fin (cfgA T).N) : (ms0_4 T t).IsWhole := hstage0_4 (((cfgA T).slots t (4 : Fin 5)).cast nbuf0_4)

/-! ## The windows' blocks -/

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-! ## The control's decisions at a point (what tells the paths apart) -/

abbrev P0_0 (t : Fin (cfgA T).N) : Prop := k0_cond1 (crd T t) = 1#1
abbrev P0_1 (t : Fin (cfgA T).N) : Prop := k0_cond2 (crd T t) (View.readAt (Elt Ideal) (tbM0_1).view (Rect.unit (s := S1) ![0] S1.size inb_S1_S1_0).toLoadRect T.nu (Shape.Idx.first (numel1_S1.symm ▸ Nat.one_pos))) = 1#1

/-! ## The schedule: which points start a tile, skip their work, write the tile back -/

theorem coords_0 : ∀ t : Fin grid0.N, (grid0.coords t 0).val = t.val / 7 := by decide +kernel
theorem coords_1 : ∀ t : Fin grid0.N, (grid0.coords t 1).val = t.val % 7 := by decide +kernel

theorem crd_0 (t : Fin (cfgA T).N) : (crd T t 0).val = t.val / 7 := coords_0 t
theorem crd_1 (t : Fin (cfgA T).N) : (crd T t 1).val = t.val % 7 := coords_1 t
theorem N_eq : (cfgA T).N = 280 := N_0

theorem cond1_coords : ∀ t : Fin grid0.N, k0_cond1 (grid0.coords t) = 1#1 ↔ t.val % 7 = 0 := by decide +kernel

/-- A point starts a tile (zeroes the output block and stages the x block) iff it is the tile's first. -/
theorem P0_0_iff (t : Fin (cfgA T).N) : P0_0 T t ↔ t.val % 7 = 0 := cond1_coords t

/-- A point works iff its tile is a used one. -/
theorem cond2_iff (i : grid0.Coords) (w : BitVec 32) : k0_cond2 i w = 1#1 ↔ ((i 0).val : ℤ) < w.toInt := by
  have h0 : (i 0).val < 40 := (i 0).isLt
  have h1 : (BitVec.ofNat 32 (i 0).val).toInt = (i 0).val := by
    rw [BitVec.toInt_eq_toNat_cond, BitVec.toNat_ofNat, Nat.mod_eq_of_lt (by omega), if_pos (by omega)]
  have e : k0_cond2 i w = if (BitVec.setWidth 32 (BitVec.ofBool ((BitVec.ofNat 32 (i 0).val).slt w))) ≠ 0#32 then 1#1 else 0#1 := by
    unfold k0_cond2
    cases h : (BitVec.ofNat 32 (i 0).val).slt w <;> simp [Scalar.cmpi, IntOp.cmpi, Scalar.extui, h]
  rw [e, BitVec.slt_eq_decide, h1]
  by_cases h : ((i 0).val : ℤ) < w.toInt <;> simp [h]

theorem P0_1_iff (t : Fin (cfgA T).N) : P0_1 T t ↔ ((t.val / 7 : ℕ) : ℤ) < T.used.toInt := by
  rw [← crd_0 T t]
  show k0_cond2 _ (T.nu _) = 1#1 ↔ _
  rw [T.nu_eq]; exact cond2_iff _ _

/-- The output window visits tile `t / 7`, -/
theorem index_4 (t : Fin (cfgA T).N) : ((cfgA T).win (4 : Fin 5)).index t = cc0_transform_4 (grid0.coords t) := rfl

theorem flush_tab : ∀ t : Fin grid0.N, (true && (decide (t.val + 1 = grid0.N) || decide (∃ h : t.val + 1 < grid0.N, cc0_transform_4 (grid0.coords ⟨t.val + 1, h⟩) ≠ cc0_transform_4 (grid0.coords t))))
    = decide (t.val % 7 = 6) := by decide +kernel

/-- and writes it back at the tile's last point. -/
theorem flush_4 (t : Fin (cfgA T).N) : ((cfgA T).win (4 : Fin 5)).flush t = decide (t.val % 7 = 6) := flush_tab t

/-- The body stores nothing into the output block iff the point neither starts its tile nor works. -/
theorem idle_4 (t : Fin (cfgA T).N) : (cfgA T).idle (4 : Fin 5) ((cfgA T).grid.coords t) = (!decide (P0_0 T t) && !decide (P0_1 T t)) := by
  have h : (cfgA T).idle (4 : Fin 5) ((cfgA T).grid.coords t) = (!(k0_cond1 (crd T t) == 1#1) && !(k0_cond2 (crd T t) ((pfN T).atD 1 ![0]) == 1#1)) := rfl
  have h2 : (pfN T).atD 1 ![0] = T.used := by
    exact T.nu_eq _
  have h3 : P0_1 T t ↔ k0_cond2 (crd T t) T.used = 1#1 := by
    show k0_cond2 _ (T.nu _) = 1#1 ↔ _
    rw [T.nu_eq]
  have e0 : (k0_cond1 (crd T t) == 1#1) = decide (P0_0 T t) := rfl
  have e1 : (k0_cond2 (crd T t) T.used == 1#1) = decide (P0_1 T t) := by rw [beq_eq_decide]; exact decide_eq_decide.mpr h3.symm
  rw [h, h2, e0, e1]

/-- The output block holds nothing of this tile exactly before the tile's first point. -/
theorem fresh_4 (t : Fin (cfgA T).N) : (cfgA T).fresh (4 : Fin 5) t.val = decide (t.val % 7 = 0) := by
  refine Pipeline.Cfg.fresh_tab (cfgA T) (4 : Fin 5) (fun n => decide (n % 7 = 0)) rfl (fun t => ?_) t.val (Nat.le_of_lt t.isLt)
  rw [flush_4, idle_4]
  have e : decide (P0_0 T t) = decide (t.val % 7 = 0) := decide_eq_decide.mpr (P0_0_iff T t)
  rw [e]
  by_cases h0 : t.val % 7 = 0
  · simp [h0]; omega
  · by_cases h6 : t.val % 7 = 6
    · simp [h0, h6]; omega
    · simp [h0, h6]; omega

/-- The staged x block is undetermined before the first point only. -/
def sfresh0_0 (_ : Tabs) : ℕ → Bool
  | 0 => true
  | _ + 1 => false

theorem sfresh_pos (t : Fin (cfgA T).N) (q0 : ¬P0_0 T t) : sfresh0_0 T t.val = false := by
  rw [P0_0_iff] at q0
  obtain ⟨_ | n, h⟩ := t
  · exact absurd rfl q0
  · rfl

theorem sched0_A (t : Fin (cfgA T).N) (q0 : P0_0 T t) (q1 : P0_1 T t) :
    (cfgA T).idle (4 : Fin 5) ((cfgA T).grid.coords t) = false ∧ ((cfgA T).win (4 : Fin 5)).flush t = false ∧ (cfgA T).fresh (4 : Fin 5) t.val = true ∧ sfresh0_0 T (t.val + 1) = false := by
  have h := (P0_0_iff T t).mp q0
  refine ⟨by rw [idle_4, decide_eq_true q0]; rfl, by rw [flush_4]; simp [h], by rw [fresh_4]; simp [h], rfl⟩

theorem sched0_C (t : Fin (cfgA T).N) (q0 : P0_0 T t) (q1 : ¬P0_1 T t) :
    (cfgA T).idle (4 : Fin 5) ((cfgA T).grid.coords t) = false ∧ ((cfgA T).win (4 : Fin 5)).flush t = false ∧ (cfgA T).fresh (4 : Fin 5) t.val = true ∧ sfresh0_0 T (t.val + 1) = false := by
  have h := (P0_0_iff T t).mp q0
  refine ⟨by rw [idle_4, decide_eq_true q0]; rfl, by rw [flush_4]; simp [h], by rw [fresh_4]; simp [h], rfl⟩

theorem sched0_B (t : Fin (cfgA T).N) (q0 : ¬P0_0 T t) (q1 : P0_1 T t) :
    (cfgA T).idle (4 : Fin 5) ((cfgA T).grid.coords t) = false ∧ (cfgA T).fresh (4 : Fin 5) t.val = false ∧ sfresh0_0 T t.val = false ∧ sfresh0_0 T (t.val + 1) = false := by
  have h := fun h => q0 ((P0_0_iff T t).mpr h)
  refine ⟨by rw [idle_4, decide_eq_true q1]; simp, by rw [fresh_4]; simpa using h, sfresh_pos T t q0, rfl⟩

theorem sched0_D (t : Fin (cfgA T).N) (q0 : ¬P0_0 T t) (q1 : ¬P0_1 T t) :
    (cfgA T).idle (4 : Fin 5) ((cfgA T).grid.coords t) = true ∧ (cfgA T).fresh (4 : Fin 5) t.val = false ∧ sfresh0_0 T t.val = false ∧ sfresh0_0 T (t.val + 1) = false := by
  have h := fun h => q0 ((P0_0_iff T t).mpr h)
  refine ⟨by rw [idle_4, decide_eq_false q0, decide_eq_false q1]; rfl, by rw [fresh_4]; simpa using h, sfresh_pos T t q0, rfl⟩

end Cert.Kernel12Ideal.Experts

end
-- ==== Proof.Kernel12Ideal.Frame.lean ====
/- The frame of the routed experts' pipeline at any admissible tables: what the output block and the staged x block hold
   after every grid point, the body's obligation along its four paths (a tile's first point or a later one, of a used
   tile or not), and the launch: every execution ends, the arguments unchanged and every semaphore at zero. -/
module

public import proofs.«01_k».proof.Proof.Kernel12Ideal.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel12Ideal.Experts

open Cert.Kernel12Ideal Cert.Kernel12Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (T : Tabs)
variable (m : (ℓ : Loc nD τ sig) → Buf (Elt Ideal) ℓ) (ρ : Dev nD → PrngReg)

/-- The launch memory's tables are the ones the pipeline is stated at. -/
def Pinned (T : Tabs) (m : (ℓ : Loc nD τ sig) → Buf (Elt Ideal) ℓ) : Prop :=
  (∀ c : Dev nD, m ((c : Thread nD τ).loc main_arg0) = T.te)
  ∧ (∀ c : Dev nD, m ((c : Thread nD τ).loc main_arg1) = T.nu)

/-! ## What the outputs and scratches hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA T).N) (prev : (S1024x1024.Idx → Elt Ideal .f32) × Buf (Elt Ideal) ((c : Thread nD τ).loc cc0_scratch0)) : (S1024x1024.Idx → Elt Ideal .f32) × Buf (Elt Ideal) ((c : Thread nD τ).loc cc0_scratch0) :=
  if q0 : P0_0 T t then
    if q1 : P0_1 T t then
      (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
    else
      (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1)
  else
    if q1 : P0_1 T t then
      (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1)
    else
      ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1)

/-- THE TRAJECTORY: after position `n`. -/
def traj0 (c : Dev nD) : (n : ℕ) → n < (cfgA T).N → (S1024x1024.Idx → Elt Ideal .f32) × Buf (Elt Ideal) ((c : Thread nD τ).loc cc0_scratch0)
  | 0, h => step0 T m ρ c ⟨0, h⟩ (default, default)
  | n + 1, h => step0 T m ρ c ⟨n + 1, h⟩ (traj0 c n (Nat.lt_of_succ_lt h))

/-- What they held BEFORE point `t` (junk before the first). -/
def prev0 (c : Dev nD) (t : Fin (cfgA T).N) : (S1024x1024.Idx → Elt Ideal .f32) × Buf (Elt Ideal) ((c : Thread nD τ).loc cc0_scratch0) :=
  if h : t.val = 0 then (default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S1024x1024.Idx → Elt Ideal .f32) × Buf (Elt Ideal) ((c : Thread nD τ).loc cc0_scratch0)) (q0 : P0_0 T t) (q1 : P0_1 T t) :
    step0 T m ρ c t prev = (out0_A_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_pos q1]

/-- `step0` at a point of path B. -/
theorem step0_B (c : Dev nD) (t : Fin (cfgA T).N) (prev : (S1024x1024.Idx → Elt Ideal .f32) × Buf (Elt Ideal) ((c : Thread nD τ).loc cc0_scratch0)) (q0 : ¬P0_0 T t) (q1 : P0_1 T t) :
    step0 T m ρ c t prev = (out0_B_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1, (kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1).2.1) := by
  unfold step0; simp only [dif_neg q0, dif_pos q1]

/-- `step0` at a point of path C. -/
theorem step0_C (c : Dev nD) (t : Fin (cfgA T).N) (prev : (S1024x1024.Idx → Elt Ideal .f32) × Buf (Elt Ideal) ((c : Thread nD τ).loc cc0_scratch0)) (q0 : P0_0 T t) (q1 : ¬P0_1 T t) :
    step0 T m ρ c t prev = (out0_C_4 c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1, (kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1).2.1) := by
  unfold step0; simp only [dif_pos q0, dif_neg q1]

/-- `step0` at a point of path D. -/
theorem step0_D (c : Dev nD) (t : Fin (cfgA T).N) (prev : (S1024x1024.Idx → Elt Ideal .f32) × Buf (Elt Ideal) ((c : Thread nD τ).loc cc0_scratch0)) (q0 : ¬P0_0 T t) (q1 : ¬P0_1 T t) :
    step0 T m ρ c t prev = ((if (cfgA T).fresh (4 : Fin 5) t.val then default else prev.1), (kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.2 q0 q1).1) := by
  unfold step0; simp only [dif_neg q0, dif_neg q1]

/-! ## The pipeline's proof data -/

/-- What the tracked buffers held before position `t` of `Fin (N+1)` (the invariant's index). -/
def prev0T (c : Dev nD) (t : Fin ((cfgA T).N + 1)) : (S1024x1024.Idx → Elt Ideal .f32) × Buf (Elt Ideal) ((c : Thread nD τ).loc cc0_scratch0) :=
  if h : t.val = 0 then (default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA T).N + 1)) : sProp 𝕄 :=
  iprop((∃ a, ⌜sfresh0_0 T t.val = false → a = (prev0T T m ρ c t).2⌝ ∗ (scM0_0.view.loc (c : Thread nD τ) ↦{fullShare} a)) ∗ (tbM0_0.view.loc (c : Thread nD τ) ↦{fullShare.right} T.te) ∗ (tbM0_1.view.loc (c : Thread nD τ) ↦{fullShare.right} T.nu))

/-- The proof data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt).1
  Φ t := Phi T m ρ c t
  q _ := fullShare
  owed _ := 0

theorem after0_0 (c : Dev nD) (t : Fin (cfgA T).N) : (dats T m ρ 0 c).after (0 : Fin 5) t = iblk T m ρ c (0 : Fin 5) t := rfl
theorem after0_1 (c : Dev nD) (t : Fin (cfgA T).N) : (dats T m ρ 0 c).after (1 : Fin 5) t = iblk T m ρ c (1 : Fin 5) t := rfl
theorem after0_2 (c : Dev nD) (t : Fin (cfgA T).N) : (dats T m ρ 0 c).after (2 : Fin 5) t = iblk T m ρ c (2 : Fin 5) t := rfl
theorem after0_3 (c : Dev nD) (t : Fin (cfgA T).N) : (dats T m ρ 0 c).after (3 : Fin 5) t = iblk T m ρ c (3 : Fin 5) t := rfl
theorem after0_4 (c : Dev nD) (t : Fin (cfgA T).N) : (dats T m ρ 0 c).after (4 : Fin 5) t = (traj0 T m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA T).N) (ht : t.val ≠ 0), (cfgA T).idle (4 : Fin 5) ((cfgA T).grid.coords t) = true → (cfgA T).fresh (4 : Fin 5) t.val = false →
    (dats T m ρ 0 c).after (4 : Fin 5) t = (dats T m ρ 0 c).after (4 : Fin 5) ⟨t.val - 1, by omega⟩ := by
  intro t ht hi hf
  rw [after0_4, after0_4, traj0_eq]
  by_cases q0 : P0_0 T t
  · by_cases q1 : P0_1 T t
    · obtain ⟨i4, -, -, -⟩ := sched0_A T t q0 q1
      rw [i4] at hi; exact absurd hi (by decide)
    · obtain ⟨i4, -, -, -⟩ := sched0_C T t q0 q1
      rw [i4] at hi; exact absurd hi (by decide)
  · by_cases q1 : P0_1 T t
    · obtain ⟨i4, -, -, -⟩ := sched0_B T t q0 q1
      rw [i4] at hi; exact absurd hi (by decide)
    · rw [step0_D T m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA T).N) (d) :
    (dats T m ρ 0 c).before (4 : Fin 5) t d = if (cfgA T).fresh (4 : Fin 5) t.val then d else (prev0 T m ρ c t).1 := by
  rw [(dats T m ρ 0 c).before_out_traj (4 : Fin 5) rfl (fun _ _ => rfl) (hcarry0_4 T m ρ c) t.val t rfl d]
  by_cases hf : (cfgA T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA T).N) : Prog (TpuEff nD τ sig (Elt Ideal) Λ₀ .tc) PUnit :=
  cc0_moe_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := Ideal)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i4, f4, fr4, sfn0⟩ := sched0_A T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4, sfn0⟩ := sched0_C T t q0 q1
      have k0_h1 := q0; have k0_h2 := q1
      rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_C T m ρ c t _ q0 q1]
      unfold Phi; simp only [prev0T_castSucc, prev0T_succ, traj0_eq, step0_C T m ρ c t _ q0 q1, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) k0_h1 k0_h2).2.2 a0 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 T t
    · obtain ⟨i4, fr4, sf0, sfn0⟩ := sched0_B T t q0 q1
      have k0_h1 := q0; have k0_h2 := q1
      rewrite [i4]
      simp only [before0_0, before0_1, before0_2, before0_3, before0_4, after0_0, after0_1, after0_2, after0_3, after0_4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ _ k0_h1 k0_h2).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _)
    · obtain ⟨i4, fr4, sf0, sfn0⟩ := sched0_D T t q0 q1
      have k0_h1 := q0; have k0_h2 := q1
      cases f4 : ((cfgA T).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats T m ρ 0 c).Φ t.succ = Phi T m ρ c t.succ from rfl, show (dats T m ρ 0 c).Φ t.castSucc = Phi T m ρ c t.castSucc from rfl,
          show (dats T m ρ 0 c).owesAt () t.succ = (dats T m ρ 0 c).owesAt () t.castSucc from rfl]
        try rewrite [traj0_eq, step0_D T m ρ c t _ q0 q1]
        unfold Phi; simp only [prev0T_castSucc, prev0T_succ, traj0_eq, step0_D T m ρ c t _ q0 q1, Fin.val_castSucc, Fin.val_succ, fr4, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) _ k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned T m) (c : Dev nD) : BodyObligation (dats T m ρ 0 c) (defs₀ (F := Ideal)) Variants.none () Set.univ := fun t => by
  rw [bigSep_W0]
  exact sound_body T m ρ hp c t

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 T 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- At the compiled mesh, from any memory with zero counters whose tables and steering words are the tables: every weakly
    fair execution of @main on the TensorCores terminates, and every final state has each array at the computed contents,
    and every semaphore counter of the machine at zero. -/
theorem run_main_quiescent (hp : Pinned T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre EP defs₀ Variants.none m ρ main
    (hbody := fun c => (body_obligation T m ρ hp c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := Ideal)) (onTc (τ := τ) (main (F := Ideal))) (s₀ m ρ) (QC T m ρ) :=
  (θ_run defs _ _).mono (fun _ h => h.1) (run_main_quiescent T m ρ hp)

/-- `frame` without the counters: the argument arrays end unchanged. -/
theorem unchanged (hp : Pinned T m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- THE FRAME under the pinning: from a launch memory whose tables and steering words are the tables, every weakly fair
    execution terminates, nothing faults, every argument array ends unchanged and every semaphore counter of the machine reads
    zero at every final state — `Cert.quiescent_KernelIdeal`'s post. -/
theorem frame (hp : Pinned T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T m ρ hp) ((θ_run defs _ _).mono (fun _ h => h.2) (run_main_quiescent T m ρ hp))

end Cert.Kernel12Ideal.Experts

end
-- ==== Proof.Kernel12Ideal.Pre.lean ====
/- The precondition gives the two tables: every memory it admits holds tables the run can be stated over. -/
module

public import proofs.«01_k».proof.Defs
public import proofs.«01_k».proof.Proof.Decode
public import proofs.«01_k».proof.Proof.Kernel12Ideal.Frame

@[expose] public section

namespace Cert.Kernel12Ideal.Experts

open Cert.Kernel12Ideal Cert.Kernel12Ideal.Gen Idealize.ShloMosaic Idealize.ShloMosaic.TcCoe Idealize.SL.Sem

/-- There is one device. -/
theorem dev_eq (c d : Dev nD) : c = d := Subsingleton.elim (α := Fin 1) c d

/-- A memory the precondition admits holds, on its one device, tables of the kind the run is stated over. -/
theorem pinned [Cert.Pre_tables.Facts] (m : (ℓ : Loc nD τ sig) → Buf (Elt Ideal) ℓ) (h : Cert.Pre_Kernel12Ideal m) : ∃ T : Tabs, Pinned T m := by
  let c0 : Dev nD := (0 : Fin 1)
  obtain ⟨h1, h2⟩ := Cert.Decode.tables_iff _ _ _ _ _ _ (h c0)
  refine ⟨⟨m ((c0 : Thread nD τ).loc main_arg0), m ((c0 : Thread nD τ).loc main_arg1), h1, h2⟩, fun c => ?_, fun c => ?_⟩
  · rw [dev_eq c c0]
  · rw [dev_eq c c0]

end Cert.Kernel12Ideal.Experts

end
-- ==== Proof.Kernel12Ideal.Step.lean ====
/- The values one grid point of the routed experts leaves: the paths' runs opened to the body's arithmetic, and that
   arithmetic read at one element. -/
module

public import proofs.«01_k».proof.Proof.Gen.Kernel12Ideal.Flash.Runs
public import Idealize.ShloMosaic.Lib.Pipeline.ValueKit
public import Idealize.ShloMosaic.Lib.Pipeline.ReadBack
public import Idealize.ShloMosaic.Lib.Pointwise
public import Idealize.ShloMosaic.PureOps.Ideal
public import Idealize.ShloMosaic.Init

@[expose] public section

set_option maxRecDepth 16384

noncomputable section

namespace Cert.Kernel12Ideal.Experts

open Cert.Kernel12Ideal Cert.Kernel12Ideal.Gen
open Idealize.ShloMosaic Idealize.ShloMosaic.TcCoe Idealize.ShloMosaic.Tactic

section
variable (c : Dev nD)
/-- The x block that the scratch holds, read as a block. -/
def staged (b : Buf (Elt Ideal) ((c : Thread nD τ).loc cc0_scratch0)) : S1024x1024.Idx → Elt Ideal .bf16 :=
  View.read (Elt Ideal) (View.whole cc0_scratch0) b

end

/-- The gated block of one point: both column chunks of the first two weight blocks against the staged rows. -/
def gate (X : S1024x1024.Idx → Elt Ideal .bf16) (W1 W3 : S1x1x1024x512.Idx → Elt Ideal .f32) : S1024x512.Idx → Elt Ideal .bf16 :=
  k0_pay5 (F := Ideal) X
    (View.ld W1 (Rect.unit ![0, 0, 0, 0] ![1, 1, 1024, 256] inb_S1x1x1024x512_S1x1x1024x256_0_0_0_0))
    (View.ld W3 (Rect.unit ![0, 0, 0, 0] ![1, 1, 1024, 256] inb_S1x1x1024x512_S1x1x1024x256_0_0_0_0))
    (View.ld W1 (Rect.unit ![0, 0, 0, 256] ![1, 1, 1024, 256] inb_S1x1x1024x512_S1x1x1024x256_0_0_0_256))
    (View.ld W3 (Rect.unit ![0, 0, 0, 256] ![1, 1, 1024, 256] inb_S1x1x1024x512_S1x1x1024x256_0_0_0_256))

/-- What a used tile's point leaves in the output block that held `Y`. -/
def work (Y : S1024x1024.Idx → Elt Ideal .f32) (X : S1024x1024.Idx → Elt Ideal .bf16) (W1 W3 : S1x1x1024x512.Idx → Elt Ideal .f32)
    (W2 : S1x1x512x1024.Idx → Elt Ideal .f32) : S1024x1024.Idx → Elt Ideal .f32 :=
  k0_pay3 (F := Ideal) (k0_pay4 Y) (gate X W1 W3) (k0_pay6 W2) (constant S1024x1024 .f32 0x00000000#32)

/-- One hidden unit of one row: `a · logistic a · b` of the row's products with a column of either weight. -/
def gated (x w1 w3 : Fin 1024 → EReal) : EReal :=
  (∑ q, x q * w1 q) * Ideal.logistic (∑ q, x q * w1 q) * (∑ q, x q * w3 q)

variable (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole) (T0 : S40.Idx → Elt Ideal .i32) (T1 : S1.Idx → Elt Ideal .i32)
  (x0 : S1024x1024.Idx → Elt Ideal .f32) (x1 x2 : S1x1x1024x512.Idx → Elt Ideal .f32) (x3 : S1x1x512x1024.Idx → Elt Ideal .f32)

theorem out_A (k0_h1 k0_h2) :
    out0_A_4 c i arg4 harg4 arg5 harg5 arg6 harg6 arg7 harg7 arg8 harg8 T0 T1 x0 x1 x2 x3 k0_h1 k0_h2 = work (k0_pay1 (F := Ideal)) (k0_pay2 x0) x1 x2 x3 := by
  unfold out0_A_4 work
  frame_out
  simp only [View.read_rep]
  rfl

theorem out_C (k0_h1 k0_h2) :
    out0_C_4 c i arg4 harg4 arg5 harg5 arg6 harg6 arg7 harg7 arg8 harg8 T0 T1 x0 x1 x2 x3 k0_h1 k0_h2 = k0_pay1 (F := Ideal) := by
  unfold out0_C_4
  frame_out

theorem out_B (xo4 xa0 k0_h1 k0_h2) :
    out0_B_4 c i arg4 harg4 arg5 harg5 arg6 harg6 arg7 harg7 arg8 harg8 T0 T1 x0 x1 x2 x3 xo4 xa0 k0_h1 k0_h2 = work xo4 (staged c xa0) x1 x2 x3 := by
  unfold out0_B_4 work staged
  frame_out
  simp only [View.read_rep]
  rfl

theorem staged_A (k0_h1 k0_h2)  :
    staged c (kernelRun0_A c i arg4 harg4 arg5 harg5 arg6 harg6 arg7 harg7 arg8 harg8 T0 T1 x0 x1 x2 x3 k0_h1 k0_h2).2.1 = k0_pay2 x0 := by
  unfold staged kernelRun0_A
  frame_out
  simp only [View.read_rep]

theorem staged_C (k0_h1 k0_h2)  :
    staged c (kernelRun0_C c i arg4 harg4 arg5 harg5 arg6 harg6 arg7 harg7 arg8 harg8 T0 T1 x0 x1 x2 x3 k0_h1 k0_h2).2.1 = k0_pay2 x0 := by
  unfold staged kernelRun0_C
  frame_out
  simp only [View.read_rep]

theorem staged_B (xo4 xa0 k0_h1 k0_h2)  :
    (kernelRun0_B c i arg4 harg4 arg5 harg5 arg6 harg6 arg7 harg7 arg8 harg8 T0 T1 x0 x1 x2 x3 xo4 xa0 k0_h1 k0_h2).2.1 = xa0 := rfl

theorem staged_D (xa0 k0_h1 k0_h2)  :
    (kernelRun0_D c i arg4 harg4 arg5 harg5 arg6 harg6 arg7 harg7 arg8 harg8 T0 T1 x0 x1 x2 x3 xa0 k0_h1 k0_h2).1 = xa0 := rfl

theorem gate_apply (X : S1024x1024.Idx → Elt Ideal .bf16) (W1 W3 : S1x1x1024x512.Idx → Elt Ideal .f32) (r : Fin 1024) (k : Fin 512) :
    gate X W1 W3 (ix2 r k) = gated (fun q => X (ix2 r q)) (fun q => W1 (ix4 0 0 q k)) (fun q => W3 (ix4 0 0 q k)) := by
  unfold gate gated
  pointwise [k0_pay5]
  split
  · rfl
  · have e : (⟨256 + (k.val - 256), by omega⟩ : Fin 512) = k := Fin.ext (by simp only; omega)
    simp only [e]

theorem work_apply (Y : S1024x1024.Idx → Elt Ideal .f32) (X : S1024x1024.Idx → Elt Ideal .bf16) (W1 W3 : S1x1x1024x512.Idx → Elt Ideal .f32) (W2 : S1x1x512x1024.Idx → Elt Ideal .f32) (r d : Fin 1024) :
    work Y X W1 W3 W2 (ix2 r d) = Y (ix2 r d) + ∑ k : Fin 512, gate X W1 W3 (ix2 r k) * W2 (ix4 0 0 k d) := by
  unfold work
  pointwise [k0_pay3, k0_pay4, k0_pay6]

end Cert.Kernel12Ideal.Experts

end
-- ==== Proof.Kernel12Ideal.Spec.lean ====
/- The routed experts as plain mathematics: one row under one expert of the second routed layer, its sum over the hidden units, and that sum cut
   into the column blocks of a tile's points. -/
module

public import proofs.«01_k».proof.Proof.Kernel12Ideal.Step
public import proofs.«01_k».proof.Proof.Kernel12Ideal.Tables

@[expose] public section

set_option maxRecDepth 16384

noncomputable section

namespace Cert.Kernel12Ideal.Experts

open Cert.Kernel12Ideal Cert.Kernel12Ideal.Gen
open Idealize.ShloMosaic Idealize.ShloMosaic.TcCoe

section
variable (X : S40960x1024.Idx → EReal) (W1 W3 : S2x8x1024x3584.Idx → EReal) (W2 : S2x8x3584x1024.Idx → EReal)

/-- Hidden unit `f` of row `R` under expert `e`. -/
def hidden (R : Fin 40960) (e : Fin 8) (f : Fin 3584) : EReal :=
  gated (fun q => X (ix2 R q)) (fun q => W1 (ix4 1 e q f)) (fun q => W3 (ix4 1 e q f))

/-- Row `R` under expert `e`, output column `d`: the sum over all hidden units. -/
def expert (R : Fin 40960) (e : Fin 8) (d : Fin 1024) : EReal :=
  ∑ f : Fin 3584, hidden X W1 W3 R e f * W2 (ix4 1 e f d)

/-- The summand of `expert` at hidden unit number `n` (0 past the last). -/
def summand (R : Fin 40960) (e : Fin 8) (d : Fin 1024) (n : ℕ) : EReal :=
  if h : n < 3584 then hidden X W1 W3 R e ⟨n, h⟩ * W2 (ix4 1 e ⟨n, h⟩ d) else 0

/-- The part of `expert` that column block `j` of 512 hidden units gives. -/
def part (R : Fin 40960) (e : Fin 8) (d : Fin 1024) (j : ℕ) : EReal :=
  ∑ k : Fin 512, summand X W1 W3 W2 R e d (j * 512 + k.val)

/-- The seven parts make the whole. -/
theorem parts_eq (R : Fin 40960) (e : Fin 8) (d : Fin 1024) :
    ∑ j ∈ Finset.range 7, part X W1 W3 W2 R e d j = expert X W1 W3 W2 R e d := by
  rw [Finset.sum_range]
  unfold part
  rw [Fin.sum_univ_univ_mul_add 7 512 (summand X W1 W3 W2 R e d)]
  unfold expert
  refine Finset.sum_congr rfl fun f _ => ?_
  unfold summand
  rw [dif_pos f.isLt]

end

variable (T : Tabs)

/-- The expert of tile `i`. -/
def Tabs.ex (i : Fin 40) : Fin 8 := ⟨(T.te (ix1 i)).toNat, T.te_lt _⟩

/-- The tile of row `R`. -/
def tileOf (R : Fin 40960) : Fin 40 := ⟨R.val / 1024, by omega⟩

/-- What the kernel's result holds at row `R`, column `d`: a used tile's rows under the tile's expert, 0 elsewhere. -/
def routed (X : S40960x1024.Idx → EReal) (W1 W3 : S2x8x1024x3584.Idx → EReal) (W2 : S2x8x3584x1024.Idx → EReal)
    (R : Fin 40960) (d : Fin 1024) : EReal :=
  if ((tileOf R).val : ℤ) < T.used.toInt then expert X W1 W3 W2 R (T.ex (tileOf R)) d else 0

end Cert.Kernel12Ideal.Experts

end
-- ==== Proof.Kernel12Ideal.Blocks.lean ====
/- The blocks a used tile's points read: its rows of x, and its expert's blocks of the three weights. -/
module

public import proofs.«01_k».proof.Proof.Kernel12Ideal.Spec

@[expose] public section

set_option maxRecDepth 16384

noncomputable section

namespace Cert.Kernel12Ideal.Experts

open Cert.Kernel12Ideal Cert.Kernel12Ideal.Gen
open Idealize.ShloMosaic Idealize.ShloMosaic.TcCoe Idealize.ShloMosaic.Tactic

variable (T : Tabs)
variable (m : (ℓ : Loc nD τ sig) → Buf (Elt Ideal) ℓ) (ρ : Dev nD → PrngReg) (c : Dev nD)

theorem lt_N (t : Fin (cfgA T).N) : t.val < 280 := t.isLt.trans_eq (N_eq T)

/-- The tile of a grid point, -/
def tl (t : Fin (cfgA T).N) : Fin 40 := ⟨t.val / 7, by have := lt_N T t; omega⟩

theorem tileIx_eq (t : Fin (cfgA T).N) : tileIx (crd T t) = ix1 (tl T t) := by
  funext a
  match a with
  | ⟨0, _⟩ =>
    apply Fin.ext
    have h := crd_0 T t
    have hlt := lt_N T t
    show k0_off1 (crd T t) 0 + 0 = t.val / 7
    have e : k0_off1 (crd T t) 0 = (BitVec.ofNat 32 (crd T t 0).val).toNat := rfl
    rw [e, h, BitVec.toNat_ofNat, Nat.mod_eq_of_lt (by omega), Nat.add_zero]

/-- the expert whose weights it reads, -/
theorem te_eq (t : Fin (cfgA T).N) : (T.te (tileIx (crd T t))).toNat = (T.ex (tl T t)).val := by
  rw [tileIx_eq]; rfl

theorem row_eq (t : Fin (cfgA T).N) (h : P0_1 T t) :
    (Scalar.minsi (BitVec.ofNat 32 (crd T t 0).val) (Scalar.subi T.used 1#32)).toNat = t.val / 7 := by
  rw [P0_1_iff] at h
  rw [crd_0]
  exact x_row_used (by have := lt_N T t; omega) T.used (T.nu_pos _) h

/-- and the column block. -/
theorem col_eq (t : Fin (cfgA T).N) (h : P0_1 T t) : (colOf T (crd T t)).toNat = t.val % 7 := by
  rw [P0_1_iff] at h
  have hlt := lt_N T t
  have h0 : (BitVec.ofNat 32 (t.val / 7)).toInt = ((t.val / 7 : ℕ) : ℤ) := by
    rw [BitVec.toInt_eq_toNat_cond, BitVec.toNat_ofNat, Nat.mod_eq_of_lt (by omega), if_pos (by omega)]
  have e : Scalar.cmpi .slt (BitVec.ofNat 32 (crd T t 0).val) T.used = 1#1 := by
    rw [crd_0]
    show BitVec.ofBool ((BitVec.ofNat 32 (t.val / 7)).slt T.used) = 1#1
    rw [BitVec.slt_eq_decide, h0, decide_eq_true h]; rfl
  unfold colOf
  rw [e, crd_1]
  show (BitVec.ofNat 32 (t.val % 7)).toNat = _
  rw [BitVec.toNat_ofNat, Nat.mod_eq_of_lt (by omega)]

theorem index_0 (t : Fin (cfgA T).N) (h : P0_1 T t) : ((cfgA T).win (0 : Fin 5)).index t = ![t.val / 7, 0] := by
  rw [← row_eq T t h]; exact transform_0_eq T _
theorem index_1 (t : Fin (cfgA T).N) (h : P0_1 T t) : ((cfgA T).win (1 : Fin 5)).index t = ![1, (T.ex (tl T t)).val, 0, t.val % 7] := by
  rw [← te_eq, ← col_eq T t h]; exact transform_1_eq T _
theorem index_2 (t : Fin (cfgA T).N) (h : P0_1 T t) : ((cfgA T).win (2 : Fin 5)).index t = ![1, (T.ex (tl T t)).val, 0, t.val % 7] := by
  rw [← te_eq, ← col_eq T t h]; exact transform_2_eq T _
theorem index_3 (t : Fin (cfgA T).N) (h : P0_1 T t) : ((cfgA T).win (3 : Fin 5)).index t = ![1, (T.ex (tl T t)).val, t.val % 7, 0] := by
  rw [← te_eq, ← col_eq T t h]; exact transform_3_eq T _

theorem blk_0 (t : Fin (cfgA T).N) (h : P0_1 T t) (r q : Fin 1024) (R : Fin 40960) (hR : R.val = t.val / 7 * 1024 + r.val) :
    iblk T m ρ c (0 : Fin 5) t (ix2 r q) = m ((c : Thread nD τ).loc main_arg2) (ix2 R q) := by
  have e := index_0 T t h
  blk_ext [iblk, e]
theorem blk_1 (t : Fin (cfgA T).N) (h : P0_1 T t) (q : Fin 1024) (k : Fin 512) (f : Fin 3584) (hf : f.val = t.val % 7 * 512 + k.val) :
    iblk T m ρ c (1 : Fin 5) t (ix4 0 0 q k) = m ((c : Thread nD τ).loc main_arg3) (ix4 1 (T.ex (tl T t)) q f) := by
  have e := index_1 T t h
  blk_ext [iblk, e]
theorem blk_2 (t : Fin (cfgA T).N) (h : P0_1 T t) (q : Fin 1024) (k : Fin 512) (f : Fin 3584) (hf : f.val = t.val % 7 * 512 + k.val) :
    iblk T m ρ c (2 : Fin 5) t (ix4 0 0 q k) = m ((c : Thread nD τ).loc main_arg4) (ix4 1 (T.ex (tl T t)) q f) := by
  have e := index_2 T t h
  blk_ext [iblk, e]
theorem blk_3 (t : Fin (cfgA T).N) (h : P0_1 T t) (k : Fin 512) (d : Fin 1024) (f : Fin 3584) (hf : f.val = t.val % 7 * 512 + k.val) :
    iblk T m ρ c (3 : Fin 5) t (ix4 0 0 k d) = m ((c : Thread nD τ).loc main_arg5) (ix4 1 (T.ex (tl T t)) f d) := by
  have e := index_3 T t h
  blk_ext [iblk, e]

/-! ## One working point's part of the sum -/

/-- The row of the array that row `r` of a point's tile is. -/
def row (t : Fin (cfgA T).N) (r : Fin 1024) : Fin 40960 := ⟨t.val / 7 * 1024 + r.val, by have := lt_N T t; omega⟩

/-- What a working point adds at row `r`, column `d`, its staged x block being the tile's. -/
theorem point_sum (t : Fin (cfgA T).N) (h : P0_1 T t) (S : S1024x1024.Idx → Elt Ideal .bf16)
    (hS : ∀ r q, S (ix2 r q) = m ((c : Thread nD τ).loc main_arg2) (ix2 (row T t r) q)) (r d : Fin 1024) :
    (∑ k : Fin 512, gate S (iblk T m ρ c (1 : Fin 5) t) (iblk T m ρ c (2 : Fin 5) t) (ix2 r k) * iblk T m ρ c (3 : Fin 5) t (ix4 0 0 k d) : EReal)
      = part (m ((c : Thread nD τ).loc main_arg2)) (m ((c : Thread nD τ).loc main_arg3)) (m ((c : Thread nD τ).loc main_arg4))
          (m ((c : Thread nD τ).loc main_arg5)) (row T t r) (T.ex (tl T t)) d (t.val % 7) := by
  unfold part
  refine Finset.sum_congr rfl fun k _ => ?_
  have hk : t.val % 7 * 512 + k.val < 3584 := by omega
  unfold summand
  rw [dif_pos hk]
  have e3 := blk_3 T m ρ c t h k d ⟨_, hk⟩ rfl
  have e1 : (fun q => iblk T m ρ c (1 : Fin 5) t (ix4 0 0 q k)) = fun q => m ((c : Thread nD τ).loc main_arg3) (ix4 1 (T.ex (tl T t)) q ⟨_, hk⟩) :=
    funext fun q => blk_1 T m ρ c t h q k ⟨_, hk⟩ rfl
  have e2 : (fun q => iblk T m ρ c (2 : Fin 5) t (ix4 0 0 q k)) = fun q => m ((c : Thread nD τ).loc main_arg4) (ix4 1 (T.ex (tl T t)) q ⟨_, hk⟩) :=
    funext fun q => blk_2 T m ρ c t h q k ⟨_, hk⟩ rfl
  have e0 : (fun q => S (ix2 r q)) = fun q => m ((c : Thread nD τ).loc main_arg2) (ix2 (row T t r) q) := funext fun q => hS r q
  have eg := gate_apply S (iblk T m ρ c (1 : Fin 5) t) (iblk T m ρ c (2 : Fin 5) t) r k
  rw [e0] at eg
  unfold hidden
  refine congrArg₂ (fun a b : EReal => a * b) (eg.trans ?_) e3
  exact congrArg₂ (gated _) e1 e2

end Cert.Kernel12Ideal.Experts

end
-- ==== Proof.Kernel12Ideal.Value.lean ====
/- The routed experts' result: what the output block and the staged x block hold after every grid point, the array after
   the run, and the run itself. -/
module

public import proofs.«01_k».proof.Proof.Kernel12Ideal.Blocks
public import proofs.«01_k».proof.Proof.Kernel12Ideal.Frame
public import Idealize.ShloMosaic.Lib.Pipeline.Covers

@[expose] public section

set_option maxRecDepth 16384

noncomputable section

namespace Cert.Kernel12Ideal.Experts

open Cert.Kernel12Ideal Cert.Kernel12Ideal.Gen
open Idealize.ShloMosaic Idealize.ShloMosaic.TcCoe Idealize.ShloMosaic.Tactic

variable (T : Tabs)
variable (m : (ℓ : Loc nD τ sig) → Buf (Elt Ideal) ℓ) (ρ : Dev nD → PrngReg) (c : Dev nD)

/-- The argument arrays' part of column block `j` at row `r` of a point's tile. -/
abbrev partAt (t : Fin (cfgA T).N) (r d : Fin 1024) (j : ℕ) : EReal :=
  part (m ((c : Thread nD τ).loc main_arg2)) (m ((c : Thread nD τ).loc main_arg3)) (m ((c : Thread nD τ).loc main_arg4))
    (m ((c : Thread nD τ).loc main_arg5)) (row T t r) (T.ex (tl T t)) d j

/-- What holds after a point: the scratch is the tile's rows of x if the tile is used, the output block the sum of the
    column blocks done so far, or 0. -/
def Holds (t : Fin (cfgA T).N) (v : (S1024x1024.Idx → Elt Ideal .f32) × Buf (Elt Ideal) ((c : Thread nD τ).loc cc0_scratch0)) : Prop :=
  (P0_1 T t → ∀ r q, staged c v.2 (ix2 r q) = m ((c : Thread nD τ).loc main_arg2) (ix2 (row T t r) q))
  ∧ ∀ r d, v.1 (ix2 r d) = if P0_1 T t then ∑ j ∈ Finset.range (t.val % 7 + 1), partAt T m c t r d j else (0 : EReal)

theorem pay1_apply (y : S1024x1024.Idx) : k0_pay1 (F := Ideal) y = (0 : EReal) := by
  pointwise [k0_pay1]

theorem pay2_apply (x : S1024x1024.Idx → Elt Ideal .f32) (r q : Fin 1024) : k0_pay2 (F := Ideal) x (ix2 r q) = x (ix2 r q) := by
  pointwise [k0_pay2]

/-! ## The step at a point, its blocks named -/

section
variable (t : Fin (cfgA T).N) (prev : (S1024x1024.Idx → Elt Ideal .f32) × Buf (Elt Ideal) ((c : Thread nD τ).loc cc0_scratch0))

theorem step_A (q0 : P0_0 T t) (q1 : P0_1 T t) :
    (step0 T m ρ c t prev).1 = work (k0_pay1 (F := Ideal)) (k0_pay2 (F := Ideal) (iblk T m ρ c (0 : Fin 5) t)) (iblk T m ρ c (1 : Fin 5) t) (iblk T m ρ c (2 : Fin 5) t) (iblk T m ρ c (3 : Fin 5) t)
    ∧ staged c (step0 T m ρ c t prev).2 = k0_pay2 (F := Ideal) (iblk T m ρ c (0 : Fin 5) t) := by
  rw [step0_A T m ρ c t prev q0 q1]
  have e1 := out_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1
  have e2 := staged_A c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1
  dsimp only
  constructor
  · rw [e1]
  · rw [e2]

theorem step_B (q0 : ¬P0_0 T t) (q1 : P0_1 T t) :
    (step0 T m ρ c t prev).1 = work prev.1 (staged c prev.2) (iblk T m ρ c (1 : Fin 5) t) (iblk T m ρ c (2 : Fin 5) t) (iblk T m ρ c (3 : Fin 5) t)
    ∧ staged c (step0 T m ρ c t prev).2 = staged c prev.2 := by
  rw [step0_B T m ρ c t prev q0 q1]
  have e1 := out_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1
  have e2 := congrArg (staged c) (staged_B c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) prev.1 prev.2 q0 q1)
  dsimp only
  constructor
  · rw [e1]
  · rw [e2]

theorem step_C (q0 : P0_0 T t) (q1 : ¬P0_1 T t) : (step0 T m ρ c t prev).1 = k0_pay1 (F := Ideal) := by
  rw [step0_C T m ρ c t prev q0 q1]
  exact out_C c (crd T t) (ms0_0 T t) (hs0_0 T t) (ms0_1 T t) (hs0_1 T t) (ms0_2 T t) (hs0_2 T t) (ms0_3 T t) (hs0_3 T t) (ms0_4 T t) (hs0_4 T t) T.te T.nu (iblk T m ρ c (0 : Fin 5) t) (iblk T m ρ c (1 : Fin 5) t) (iblk T m ρ c (2 : Fin 5) t) (iblk T m ρ c (3 : Fin 5) t) q0 q1

theorem step_D (q0 : ¬P0_0 T t) (q1 : ¬P0_1 T t) : (step0 T m ρ c t prev).1 = prev.1 := by
  have hf : (cfgA T).fresh (4 : Fin 5) t.val = false := by
    rw [fresh_4]; exact decide_eq_false fun h => q0 ((P0_0_iff T t).mpr h)
  rw [step0_D T m ρ c t prev q0 q1]
  simp only [hf, Bool.false_eq_true, ↓reduceIte]

end

/-- A tile's first point. -/
theorem holds_first (t : Fin (cfgA T).N) (q0 : P0_0 T t) (prev) : Holds T m c t (step0 T m ρ c t prev) := by
  have h0 := (P0_0_iff T t).mp q0
  by_cases q1 : P0_1 T t
  · obtain ⟨e1, e2⟩ := step_A T m ρ c t prev q0 q1
    have hx : ∀ r q, k0_pay2 (F := Ideal) (iblk T m ρ c (0 : Fin 5) t) (ix2 r q) = m ((c : Thread nD τ).loc main_arg2) (ix2 (row T t r) q) :=
      fun r q => (pay2_apply _ r q).trans (blk_0 T m ρ c t q1 r q _ rfl)
    refine ⟨fun _ r q => (congrFun e2 _).trans (hx r q), fun r d => ?_⟩
    rw [if_pos q1, h0, Nat.zero_add, Finset.sum_range_one]
    refine ((congrFun e1 _).trans (work_apply _ _ _ _ _ r d)).trans ?_
    have e := point_sum T m ρ c t q1 _ hx r d
    rw [h0] at e
    exact (congrArg₂ (fun a b : EReal => a + b) (pay1_apply _) e).trans (zero_add _)
  · have e1 := step_C T m ρ c t prev q0 q1
    refine ⟨fun h => absurd h q1, fun r d => ?_⟩
    rw [if_neg q1]
    exact (congrFun e1 _).trans (pay1_apply _)

/-- A later point of the tile, from what the point before left. -/
theorem holds_next (t u : Fin (cfgA T).N) (hu : u.val + 1 = t.val) (q0 : ¬P0_0 T t) (prev) (hp : Holds T m c u prev) :
    Holds T m c t (step0 T m ρ c t prev) := by
  have h0 : ¬t.val % 7 = 0 := fun h => q0 ((P0_0_iff T t).mpr h)
  have hdiv : u.val / 7 = t.val / 7 := by omega
  have hmod : u.val % 7 + 1 = t.val % 7 := by omega
  have htl : tl T u = tl T t := Fin.ext hdiv
  have hrow : ∀ r, row T u r = row T t r := fun r => Fin.ext (by show _ / 7 * 1024 + _ = _ / 7 * 1024 + _; rw [hdiv])
  have hq : P0_1 T u ↔ P0_1 T t := by rw [P0_1_iff, P0_1_iff, hdiv]
  obtain ⟨hs, ho⟩ := hp
  by_cases q1 : P0_1 T t
  · obtain ⟨e1, e2⟩ := step_B T m ρ c t prev q0 q1
    have hx : ∀ r q, staged c prev.2 (ix2 r q) = m ((c : Thread nD τ).loc main_arg2) (ix2 (row T t r) q) :=
      fun r q => by rw [← hrow]; exact hs (hq.mpr q1) r q
    refine ⟨fun _ r q => (congrFun e2 _).trans (hx r q), fun r d => ?_⟩
    rw [if_pos q1, Finset.sum_range_succ]
    refine ((congrFun e1 _).trans (work_apply _ _ _ _ _ r d)).trans ?_
    have e := point_sum T m ρ c t q1 _ hx r d
    have eo := ho r d
    rw [if_pos (hq.mpr q1), hmod] at eo
    refine congrArg₂ (fun a b : EReal => a + b) (eo.trans ?_) e
    simp only [partAt, hrow, htl]
  · have e1 := step_D T m ρ c t prev q0 q1
    refine ⟨fun h => absurd h q1, fun r d => ?_⟩
    have eo := ho r d
    rw [if_neg fun h => q1 (hq.mp h)] at eo
    rw [if_neg q1]
    exact (congrFun e1 _).trans eo

theorem holds (n : ℕ) (h : n < (cfgA T).N) : Holds T m c ⟨n, h⟩ (traj0 T m ρ c n h) := by
  induction n with
  | zero => exact holds_first T m ρ c ⟨0, h⟩ ((P0_0_iff T _).mpr rfl) _
  | succ n ih =>
    by_cases q0 : P0_0 T ⟨n + 1, h⟩
    · exact holds_first T m ρ c ⟨n + 1, h⟩ q0 _
    · exact holds_next T m ρ c ⟨n + 1, h⟩ ⟨n, Nat.lt_of_succ_lt h⟩ rfl q0 _ (ih _)

/-- The result array, as one function of the arguments. -/
def result : S40960x1024.Idx → EReal := fun i =>
  routed T (m ((c : Thread nD τ).loc main_arg2)) (m ((c : Thread nD τ).loc main_arg3)) (m ((c : Thread nD τ).loc main_arg4))
    (m ((c : Thread nD τ).loc main_arg5)) (i 0) (i 1)

theorem out4 (i : grid0.Coords) : cc0_transform_4 i = ![(i 0).val, 0] := by
  have h0 : (i 0).val < 40 := (i 0).isLt
  have e : (BitVec.ofNat 32 (i 0).val).toNat = (i 0).val := by rw [BitVec.toNat_ofNat, Nat.mod_eq_of_lt (by omega)]
  unfold cc0_transform_4
  simp only [e]
  rfl

theorem map_4 (i : grid0.Coords) : ((cfgA T).win (4 : Fin 5)).indexMap i = ![(i 0).val, 0] := out4 i

/-- Forty blocks of rows, one of columns. -/
theorem nblk_4 : ((cfgA T).win (4 : Fin 5)).nblk (0 : Fin 2) = 40 ∧ ((cfgA T).win (4 : Fin 5)).nblk (1 : Fin 2) = 1 := by
  constructor
  · show (40960 + 1024 - 1) / 1024 = 40
    norm_num
  · show (1024 + 1024 - 1) / 1024 = 1
    norm_num

/-- The tiles' blocks fill the array. -/
theorem covers_4 : ((cfgA T).win (4 : Fin 5)).Covers :=
  ((cfgA T).win (4 : Fin 5)).covers_of_indexMap_surj rfl (fun a => match a with | ⟨0, _⟩ => Nat.succ_pos 1023 | ⟨1, _⟩ => Nat.succ_pos 1023) fun β =>
    ⟨(fun a => match a with | ⟨0, _⟩ => ⟨(β (0 : Fin 2)).val, (β (0 : Fin 2)).isLt.trans_eq (nblk_4 T).1⟩ | ⟨1, _⟩ => ⟨0, Nat.succ_pos 6⟩ : grid0.Coords), fun a => by
      rw [map_4]
      match a with
      | ⟨0, _⟩ => rfl
      | ⟨1, _⟩ =>
        have h : (β (1 : Fin 2)).val < 1 := (β (1 : Fin 2)).isLt.trans_eq (nblk_4 T).2
        exact (Nat.lt_one_iff.mp h).symm⟩

/-- Row `r` of the block a tile's last point writes back. -/
theorem row_last (t : Fin (cfgA T).N) (r : Fin 1024) : tileOf (row T t r) = tl T t := by
  apply Fin.ext
  show (t.val / 7 * 1024 + r.val) / 1024 = t.val / 7
  omega

/-- The array after the run. -/
theorem final : (dats T m ρ 0 c).arrAt (4 : Fin 5) (cfgA T).N = result T m c := by
  refine (dats T m ρ 0 c).arrAt_eq_of_covers (4 : Fin 5) _ (covers_4 T) fun t hf y => ?_
  have hidx : ((cfgA T).win (4 : Fin 5)).index t = ![t.val / 7, 0] := by
    rw [index_4, out4, coords_0]
  have h6 : t.val % 7 = 6 := by rw [flush_4] at hf; exact of_decide_eq_true hf
  blk_simp
  rw [after0_4]
  obtain ⟨r, d, rfl⟩ : ∃ (r d : Fin 1024), y = (ix2 r d : S1024x1024.Idx) := ⟨y 0, y 1, eq_ix2 y⟩
  have he : (((cfgA T).win (4 : Fin 5)).blk t).view.emb (ix2 r d : S1024x1024.Idx) = (ix2 (row T t r) d : S40960x1024.Idx) := by
    blk_ext [hidx, row]
  rw [he]
  have e := (holds T m ρ c t.val t.isLt).2 r d
  refine e.trans ?_
  show _ = routed T _ _ _ _ (row T t r) d
  unfold routed
  rw [row_last]
  have hq := P0_1_iff T t
  by_cases q1 : P0_1 T t
  · rw [if_pos q1, if_pos (show ((tl T t).val : ℤ) < T.used.toInt from hq.mp q1)]
    show ∑ j ∈ Finset.range (t.val % 7 + 1), _ = _
    rw [h6]
    exact parts_eq _ _ _ _ _ _ _
  · rw [if_neg q1, if_neg (show ¬((tl T t).val : ℤ) < T.used.toInt from fun h => q1 (hq.mpr h))]

end Cert.Kernel12Ideal.Experts

end
-- ==== Proof.Reference12Ideal.Value.lean ====
/- The reference's result at one element: the eight experts' values of a row, each times its column of the one-hot table,
   of which at most one is 1. -/
module

public import proofs.«01_k».proof.Proof.Gen.Reference12Ideal.Run
public import proofs.«01_k».proof.Proof.Kernel12Ideal.Spec
public import Idealize.ShloMosaic.Lib.Pointwise
public import Idealize.ShloMosaic.Lib.IdealHost
public import Idealize.ShloMosaic.PureOps.Ideal

@[expose] public section

set_option maxRecDepth 16384

noncomputable section

namespace Cert.Reference12Ideal.Experts

open Cert.Reference12Ideal Cert.Reference12Ideal.Gen Cert.Reference12Ideal.Value
open Cert.Kernel12Ideal.Experts (Tabs expert hidden gated tileOf routed)
open Idealize.ShloMosaic Idealize.ShloMosaic.TcCoe Idealize.SL.Sem Idealize.ShloMosaic.StableHlo Idealize.ShloMosaic.Tactic

section
variable (T : Tabs) (V0 : Valuation τ sig (Elt Ideal))

/-- The reference's one-hot table. -/
def oneHot : S40960x8.Idx → EReal := res_main_v13 (F := Ideal) V0

/-- A true bit read as a number. -/
theorem one_of_true : (FloatOps.uitofp .f32 (1#1 : BitVec 1) : Ideal .f32) = (1 : EReal) := by
  show (((1 : ℕ) : ℝ) : EReal) = 1
  norm_num

/-- A false bit read as a number. -/
theorem zero_of_false : (FloatOps.uitofp .f32 (0#1 : BitVec 1) : Ideal .f32) = (0 : EReal) := by
  show (((0 : ℕ) : ℝ) : EReal) = 0
  norm_num

/-- The one-hot table: 1 where the row's tile is used and the expert is the tile's. -/
theorem mask (h0 : V0 (Proc.devRef .tc main_arg0) = T.te) (h1 : V0 (Proc.devRef .tc main_arg1) = T.nu) (R : Fin 40960) (e : Fin 8) :
    oneHot V0 (ix2 R e)
      = if ((tileOf R).val : ℤ) < T.used.toInt then (if e = T.ex (tileOf R) then (1 : EReal) else 0) else 0 := by
  have hR : R.val / 1024 < 40 := by omega
  unfold oneHot res_main_v13
  pointwise
  rw [h0, h1, T.nu_eq]
  have hi : (BitVec.ofNat 32 (R.val / 1024)).toInt = ((R.val / 1024 : ℕ) : ℤ) := by
    rw [BitVec.toInt_eq_toNat_cond, BitVec.toNat_ofNat, Nat.mod_eq_of_lt (by omega), if_pos (by omega)]
  have hc : IntOp.cmpi .slt (BitVec.ofNat 32 (R.val / 1024)) T.used = BitVec.ofBool (decide (((R.val / 1024 : ℕ) : ℤ) < T.used.toInt)) := by
    show BitVec.ofBool ((BitVec.ofNat 32 (R.val / 1024)).slt T.used) = _
    rw [BitVec.slt_eq_decide, hi]
  rw [hc]
  have ht : T.te (ix1 ⟨R.val / 1024, hR⟩) = BitVec.ofNat 32 (T.ex (tileOf R)).val := by
    show T.te (ix1 ⟨R.val / 1024, hR⟩) = BitVec.ofNat 32 (T.te (ix1 ⟨R.val / 1024, hR⟩)).toNat
    rw [BitVec.ofNat_toNat, BitVec.setWidth_eq]
  rw [ht]
  by_cases hu : ((tileOf R).val : ℤ) < T.used.toInt
  · rw [if_pos hu, decide_eq_true (show ((R.val / 1024 : ℕ) : ℤ) < T.used.toInt from hu)]
    generalize T.ex (tileOf R) = x
    have hs : ∀ a b : BitVec 32, Scalar.select (BitVec.ofBool true) a b = a := fun _ _ => rfl
    rw [hs]
    by_cases he : e = x
    · subst he
      rw [if_pos rfl]
      refine Eq.trans ?_ one_of_true
      congr 1
      show BitVec.ofBool (_ == _) = _
      rw [beq_self_eq_true]; rfl
    · rw [if_neg he]
      refine Eq.trans ?_ zero_of_false
      congr 1
      revert he
      revert e x
      decide
  · rw [if_neg hu, decide_eq_false (show ¬((R.val / 1024 : ℕ) : ℤ) < T.used.toInt from hu)]
    have hs : ∀ a b : BitVec 32, Scalar.select (BitVec.ofBool false) a b = b := fun _ _ => rfl
    rw [hs]
    refine Eq.trans ?_ zero_of_false
    congr 1
    revert e
    show ∀ e : Fin 8, IntOp.cmpi .eq 4294967295#32 (BitVec.ofNat 32 e.val) = 0#1
    decide

/-- The one-hot sum picks the tile's expert. -/
theorem pick (E : Fin 8 → EReal) (x : Fin 8) (p : Prop) [Decidable p] (c : Fin 8 → EReal)
    (hc : ∀ e, c e = if p then (if e = x then (1 : EReal) else 0) else 0) :
    c 0 * E 0 + c 1 * E 1 + c 2 * E 2 + c 3 * E 3 + c 4 * E 4 + c 5 * E 5 + c 6 * E 6 + c 7 * E 7 = if p then E x else 0 := by
  simp only [hc]
  by_cases hp : p
  · simp only [if_pos hp]
    fin_cases x <;> simp
  · simp [hp]

/-- What the reference's run leaves in its result, as a term of the arguments. -/
def out : S40960x1024.Idx → EReal := val3 (F := Ideal) V0 (Proc.devRef .tc main_v134)

/-- The result at an element, expert by expert. -/
theorem parts_eq (R : Fin 40960) (d : Fin 1024) : out V0 (ix2 R d) =
    oneHot V0 (ix2 R 0) * expert (V0 (Proc.devRef .tc main_arg2)) (V0 (Proc.devRef .tc main_arg3)) (V0 (Proc.devRef .tc main_arg4)) (V0 (Proc.devRef .tc main_arg5)) R 0 d
    + oneHot V0 (ix2 R 1) * expert (V0 (Proc.devRef .tc main_arg2)) (V0 (Proc.devRef .tc main_arg3)) (V0 (Proc.devRef .tc main_arg4)) (V0 (Proc.devRef .tc main_arg5)) R 1 d
    + oneHot V0 (ix2 R 2) * expert (V0 (Proc.devRef .tc main_arg2)) (V0 (Proc.devRef .tc main_arg3)) (V0 (Proc.devRef .tc main_arg4)) (V0 (Proc.devRef .tc main_arg5)) R 2 d
    + oneHot V0 (ix2 R 3) * expert (V0 (Proc.devRef .tc main_arg2)) (V0 (Proc.devRef .tc main_arg3)) (V0 (Proc.devRef .tc main_arg4)) (V0 (Proc.devRef .tc main_arg5)) R 3 d
    + oneHot V0 (ix2 R 4) * expert (V0 (Proc.devRef .tc main_arg2)) (V0 (Proc.devRef .tc main_arg3)) (V0 (Proc.devRef .tc main_arg4)) (V0 (Proc.devRef .tc main_arg5)) R 4 d
    + oneHot V0 (ix2 R 5) * expert (V0 (Proc.devRef .tc main_arg2)) (V0 (Proc.devRef .tc main_arg3)) (V0 (Proc.devRef .tc main_arg4)) (V0 (Proc.devRef .tc main_arg5)) R 5 d
    + oneHot V0 (ix2 R 6) * expert (V0 (Proc.devRef .tc main_arg2)) (V0 (Proc.devRef .tc main_arg3)) (V0 (Proc.devRef .tc main_arg4)) (V0 (Proc.devRef .tc main_arg5)) R 6 d
    + oneHot V0 (ix2 R 7) * expert (V0 (Proc.devRef .tc main_arg2)) (V0 (Proc.devRef .tc main_arg3)) (V0 (Proc.devRef .tc main_arg4)) (V0 (Proc.devRef .tc main_arg5)) R 7 d := by
  unfold out
  rw [val3_main_v134]
  unfold oneHot
  unfold res_main_v89
  pointwise
  unfold res_main_v22 res_main_v37 res_main_v52 res_main_v67 res_main_v82 res_main_v97 res_main_v112 res_main_v127
  pointwise
  rfl

/-- The reference's result: the routed experts. -/
theorem value (h0 : V0 (Proc.devRef .tc main_arg0) = T.te) (h1 : V0 (Proc.devRef .tc main_arg1) = T.nu) :
    out V0 = fun i => routed T (V0 (Proc.devRef .tc main_arg2)) (V0 (Proc.devRef .tc main_arg3)) (V0 (Proc.devRef .tc main_arg4))
      (V0 (Proc.devRef .tc main_arg5)) (i 0) (i 1) := by
  funext i
  obtain ⟨R, d, rfl⟩ : ∃ (R : Fin 40960) (d : Fin 1024), i = (ix2 R d : S40960x1024.Idx) := ⟨i 0, i 1, eq_ix2 i⟩
  refine (parts_eq V0 R d).trans ?_
  show _ = routed T _ _ _ _ R d
  exact pick (fun e => expert (V0 (Proc.devRef .tc main_arg2)) (V0 (Proc.devRef .tc main_arg3)) (V0 (Proc.devRef .tc main_arg4))
    (V0 (Proc.devRef .tc main_arg5)) R e d) (T.ex (tileOf R)) (((tileOf R).val : ℤ) < T.used.toInt)
    (fun e => oneHot V0 (ix2 R e)) (fun e => mask T V0 h0 h1 R e)

end

end Cert.Reference12Ideal.Experts

end
-- ==== Proof.Reference12Ideal.Frame.lean ====
/- The reference's runs: straight-line host operations, so every execution ends, with the arguments unchanged and, no
   semaphore being declared, every counter at zero. -/
module

public import proofs.«01_k».proof.Proof.Reference12Ideal.Value
public import Idealize.ShloMosaic.Lib.Quiescent

@[expose] public section

namespace Cert.Reference12Ideal.Experts

open Cert.Reference12Ideal Cert.Reference12Ideal.Gen Cert.Reference12Ideal.Value
open Idealize.ShloMosaic Idealize.ShloMosaic.TcCoe Idealize.SL.Sem Idealize.ShloMosaic.StableHlo

variable (m : (ℓ : Loc nD τ sig) → Buf (Elt Ideal) ℓ) (ρ : Dev nD → PrngReg)

/-- Every execution of the reference ends with its arguments unchanged and every counter at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Value.run (F := Ideal) m ρ)

/-- Every execution of the reference ends with its result at `out` and its arguments unchanged. -/
theorem run :
    θ_run (defs (F := Ideal)) (onTc (τ := τ) (main (F := Ideal))) ⟨m, fun _ => 0, ρ⟩ (fun r => ∀ c : Dev nD,
      r.2.mem ((c.tc : Thread nD τ).loc main_v134) = out (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (val3_main_v134 (F := Ideal) (launchContents m c)).symm, (h c).2⟩)
    (Value.run (F := Ideal) m ρ)

end Cert.Reference12Ideal.Experts

end
-- ==== Proof.Reference12Ideal.Claim.lean ====
/- The equation for the second routed layer: kernel and reference, from the same arguments, end with the same array. -/
module

public import proofs.«01_k».proof.Proof.Kernel12Ideal.Pre
public import proofs.«01_k».proof.Proof.Kernel12Ideal.Value
public import proofs.«01_k».proof.Proof.Reference12Ideal.Frame

@[expose] public section

namespace Cert.Experts12

open Idealize.ShloMosaic Idealize.SL.Sem
open Cert.Kernel12Ideal.Experts (Tabs Pinned result)

/-- Equal arguments, equal routed sums. -/
theorem routed_congr (T : Tabs) {X X' : Kernel12Ideal.S40960x1024.Idx → EReal} {W1 W1' W3 W3' : Kernel12Ideal.S2x8x1024x3584.Idx → EReal}
    {W2 W2' : Kernel12Ideal.S2x8x3584x1024.Idx → EReal} (h : X' = X) (h1 : W1' = W1) (h3 : W3' = W3) (h2 : W2' = W2) (R : Fin 40960) (d : Fin 1024) :
    Kernel12Ideal.Experts.routed T X' W1' W3' W2' R d = Kernel12Ideal.Experts.routed T X W1 W3 W2 R d := by
  subst h h1 h3 h2; rfl

/-- From memories agreeing on the arguments, the reference's value is the kernel's. -/
theorem value_eq (T : Tabs) (m : (ℓ : Loc Kernel12Ideal.nD Kernel12Ideal.τ Kernel12Ideal.sig) → Buf (Elt Ideal) ℓ)
    (m' : (ℓ : Loc Reference12Ideal.nD Reference12Ideal.τ Reference12Ideal.sig) → Buf (Elt Ideal) ℓ) (hp : Pinned T m) (c : Dev Kernel12Ideal.nD)
    (h : m' ((c.tc : Thread Reference12Ideal.nD Reference12Ideal.τ).loc Reference12Ideal.main_arg0) = m ((c.tc : Thread Kernel12Ideal.nD Kernel12Ideal.τ).loc Kernel12Ideal.main_arg0)
      ∧ m' ((c.tc : Thread Reference12Ideal.nD Reference12Ideal.τ).loc Reference12Ideal.main_arg1) = m ((c.tc : Thread Kernel12Ideal.nD Kernel12Ideal.τ).loc Kernel12Ideal.main_arg1)
      ∧ m' ((c.tc : Thread Reference12Ideal.nD Reference12Ideal.τ).loc Reference12Ideal.main_arg2) = m ((c.tc : Thread Kernel12Ideal.nD Kernel12Ideal.τ).loc Kernel12Ideal.main_arg2)
      ∧ m' ((c.tc : Thread Reference12Ideal.nD Reference12Ideal.τ).loc Reference12Ideal.main_arg3) = m ((c.tc : Thread Kernel12Ideal.nD Kernel12Ideal.τ).loc Kernel12Ideal.main_arg3)
      ∧ m' ((c.tc : Thread Reference12Ideal.nD Reference12Ideal.τ).loc Reference12Ideal.main_arg4) = m ((c.tc : Thread Kernel12Ideal.nD Kernel12Ideal.τ).loc Kernel12Ideal.main_arg4)
      ∧ m' ((c.tc : Thread Reference12Ideal.nD Reference12Ideal.τ).loc Reference12Ideal.main_arg5) = m ((c.tc : Thread Kernel12Ideal.nD Kernel12Ideal.τ).loc Kernel12Ideal.main_arg5)) :
    Reference12Ideal.Experts.out (StableHlo.launchContents m' c) = result T m c := by
  obtain ⟨h0, h1, h2, h3, h4, h5⟩ := h
  rw [Reference12Ideal.Experts.value T (StableHlo.launchContents m' c) (h0.trans (hp.1 c)) (h1.trans (hp.2 c))]
  funext i
  exact routed_congr T h2 h3 h4 h5 (i 0) (i 1)

/-- The value claim. -/
theorem algebraic [hPre : Cert.Pre_tables.Facts] :
    algebraic_Kernel12Ideal_Reference12Ideal (hKernel12Ideal := Kernel12Ideal.Gen.facts) (hReference12Ideal := Reference12Ideal.Gen.facts) := by
  intro m g m' g' hpre hag
  obtain ⟨T, hp⟩ := Kernel12Ideal.Experts.pinned m hpre
  refine ⟨fun c => result T m c, ?_, ?_⟩
  · refine (θ_run _ _ _).mono (fun r h c => ⟨?_, h.1 c⟩)
      (θ_run_and (Kernel12Ideal.Experts.unchanged T m g hp) (Kernel12Ideal.Experts.run_main T m g hp))
    exact ((h.2 c).1 (4 : Fin 5)).trans (Kernel12Ideal.Experts.final T m g c)
  · refine (θ_run _ _ _).mono (fun r h c => ⟨?_, (h c).2⟩) (Reference12Ideal.Experts.run m' g')
    exact (h c).1.trans (value_eq T m m' hp c (hag c))

end Cert.Experts12

end
-- ==== Proof.lean ====
/- Everything `Cert.Claim` states, put together: the frames of the programs, and the value claim of each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash.Runs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash.Runs
public import proofs.«01_k».proof.Proof.Gen.ReferenceIdeal.Run
public import proofs.«01_k».proof.Proof.Gen.ReferenceIdeal
public import proofs.«01_k».proof.Proof.Gen.Pre_tables
public import proofs.«01_k».proof.Proof.Kernel.Pre
public import proofs.«01_k».proof.Proof.Equation
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Reference2Ideal.Claim
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Reference3Ideal.Claim
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Reference4Ideal.Claim
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Reference5Ideal.Claim
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Reference6Ideal.Claim
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Reference7Ideal.Claim
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Reference8Ideal.Claim
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Reference9Ideal.Claim
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Pre_finite10
public import proofs.«01_k».proof.Proof.Reference10Ideal.Claim
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Pre_finite11
public import proofs.«01_k».proof.Proof.Reference11Ideal.Claim
public import proofs.«01_k».proof.Proof.Gen.Kernel12
public import proofs.«01_k».proof.Proof.Gen.Kernel12.Skeleton
public import proofs.«01_k».proof.Proof.Gen.Kernel12.Launch
public import proofs.«01_k».proof.Proof.Gen.Kernel12.Flash.Runs
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Flash.Runs
public import proofs.«01_k».proof.Proof.Gen.Reference12Ideal.Run
public import proofs.«01_k».proof.Proof.Gen.Reference12Ideal
public import proofs.«01_k».proof.Proof.Kernel12.Pre
public import proofs.«01_k».proof.Proof.Reference12Ideal.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_tables.Gen.facts, Cert.Pre_finite10.Gen.facts, Cert.Pre_finite11.Gen.facts,
  fun m g h => (Cert.Kernel.Experts.pinned m h).elim fun T hp => Cert.Kernel.Experts.frame T m g hp,
  fun m g h => (Cert.KernelIdeal.Experts.pinned m h).elim fun T hp => Cert.KernelIdeal.Experts.frame T m g hp,
  fun m g _ => Cert.ReferenceIdeal.Experts.frame m g,
  fun m g _ => Cert.ReferenceIdeal.Experts.frame m g,
  fun m g _ => Cert.Kernel2.Gen.frame m g, fun m g _ => Cert.Kernel2Ideal.Gen.frame m g, Cert.Reference2Ideal.Calls.frame,
  fun m g _ => Cert.Kernel3.Gen.frame m g, fun m g _ => Cert.Kernel3Ideal.Gen.frame m g, Cert.Reference3Ideal.Calls.frame,
  fun m g _ => Cert.Kernel4.Gen.frame m g, fun m g _ => Cert.Kernel4Ideal.Gen.frame m g, Cert.Reference4Ideal.Calls.frame,
  fun m g _ => Cert.Kernel5.Gen.frame m g, fun m g _ => Cert.Kernel5Ideal.Gen.frame m g, Cert.Reference5Ideal.Calls.frame,
  fun m g _ => Cert.Kernel6.Gen.frame m g, fun m g _ => Cert.Kernel6Ideal.Gen.frame m g, Cert.Reference6Ideal.Calls.frame,
  fun m g _ => Cert.Kernel7.Gen.frame m g, fun m g _ => Cert.Kernel7Ideal.Gen.frame m g, Cert.Reference7Ideal.Calls.frame,
  fun m g _ => Cert.Kernel8.Gen.frame m g, fun m g _ => Cert.Kernel8Ideal.Gen.frame m g, Cert.Reference8Ideal.Calls.frame,
  fun m g _ => Cert.Kernel9.Gen.frame m g, fun m g _ => Cert.Kernel9Ideal.Gen.frame m g, Cert.Reference9Ideal.Calls.frame,
  fun m g _ => Cert.Kernel10.Gen.frame m g, fun m g _ => Cert.Kernel10Ideal.Gen.frame m g, fun m g _ => Cert.Kernel10Ideal.Gen.frame m g,
  Cert.Reference10Ideal.Calls.frame, fun m g _ => Cert.Reference10Ideal.Calls.frame m g trivial,
  fun m g _ => Cert.Kernel11.Gen.frame m g, fun m g _ => Cert.Kernel11Ideal.Gen.frame m g, fun m g _ => Cert.Kernel11Ideal.Gen.frame m g,
  Cert.Reference11Ideal.Calls.frame, fun m g _ => Cert.Reference11Ideal.Calls.frame m g trivial,
  fun m g h => (Cert.Kernel12.Experts.pinned m h).elim fun T hp => Cert.Kernel12.Experts.frame T m g hp,
  fun m g h => (Cert.Kernel12Ideal.Experts.pinned m h).elim fun T hp => Cert.Kernel12Ideal.Experts.frame T m g hp,
  fun m g _ => Cert.Reference12Ideal.Experts.frame m g,
  fun m g _ => Cert.Reference12Ideal.Experts.frame m g,
  trivial, Cert.Experts.algebraic,
  trivial, Cert.Reference2Ideal.Calls.algebraic,
  trivial, Cert.Reference3Ideal.Calls.algebraic,
  trivial, Cert.Reference4Ideal.Calls.algebraic,
  trivial, Cert.Reference5Ideal.Calls.algebraic,
  trivial, Cert.Reference6Ideal.Calls.algebraic,
  trivial, Cert.Reference7Ideal.Calls.algebraic,
  trivial, Cert.Reference8Ideal.Calls.algebraic,
  trivial, Cert.Reference9Ideal.Calls.algebraic,
  trivial, Cert.Reference10Ideal.Calls.algebraic,
  trivial, Cert.Reference11Ideal.Calls.algebraic,
  trivial, Cert.Experts12.algebraic⟩

end Cert.Proof

end
